-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def preserves_Kernel_KernelIdeal : Prop :=
  IdealRules.named_const.Statement Cert.KernelIdeal.κ "mask" .f32 0xF149F2CA#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v14) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v32) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v22) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)) →
    ∃ (v0 : (c : Dev Cert.Kernel5Ideal.nD) → Buf (Elt Ideal) ((c.tc : Thread Cert.Kernel5Ideal.nD Cert.Kernel5Ideal.τ).loc Cert.Kernel5Ideal.main_v54_0)) (v1 : (c : Dev Cert.Kernel5Ideal.nD) → Buf (Elt Ideal) ((c.tc : Thread Cert.Kernel5Ideal.nD Cert.Kernel5Ideal.τ).loc Cert.Kernel5Ideal.main_v54_1)) (v2 : (c : Dev Cert.Kernel5Ideal.nD) → Buf (Elt Ideal) ((c.tc : Thread Cert.Kernel5Ideal.nD Cert.Kernel5Ideal.τ).loc Cert.Kernel5Ideal.main_v54_2)) (v3 : (c : Dev Cert.Kernel5Ideal.nD) → Buf (Elt Ideal) ((c.tc : Thread Cert.Kernel5Ideal.nD Cert.Kernel5Ideal.τ).loc Cert.Kernel5Ideal.main_v54_3)) (v4 : (c : Dev Cert.Kernel5Ideal.nD) → Buf (Elt Ideal) ((c.tc : Thread Cert.Kernel5Ideal.nD Cert.Kernel5Ideal.τ).loc Cert.Kernel5Ideal.main_v54_4)) (v5 : (c : Dev Cert.Kernel5Ideal.nD) → Buf (Elt Ideal) ((c.tc : Thread Cert.Kernel5Ideal.nD Cert.Kernel5Ideal.τ).loc Cert.Kernel5Ideal.main_v54_5)) (v6 : (c : Dev Cert.Kernel5Ideal.nD) → Buf (Elt Ideal) ((c.tc : Thread Cert.Kernel5Ideal.nD Cert.Kernel5Ideal.τ).loc Cert.Kernel5Ideal.main_v54_6)) (v7 : (c : Dev Cert.Kernel5Ideal.nD) → Buf (Elt Ideal) ((c.tc : Thread Cert.Kernel5Ideal.nD Cert.Kernel5Ideal.τ).loc Cert.Kernel5Ideal.main_v54_7)) (v8 : (c : Dev Cert.Kernel5Ideal.nD) → Buf (Elt Ideal) ((c.tc : Thread Cert.Kernel5Ideal.nD Cert.Kernel5Ideal.τ).loc Cert.Kernel5Ideal.main_v54_8)) (v9 : (c : Dev Cert.Kernel5Ideal.nD) → Buf (Elt Ideal) ((c.tc : Thread Cert.Kernel5Ideal.nD Cert.Kernel5Ideal.τ).loc Cert.Kernel5Ideal.main_v54_9)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v54_0) = v0 c
          ∧ r.2.mem ((c.tc : Thread Cert.Kernel5Ideal.nD Cert.Kernel5Ideal.τ).loc Cert.Kernel5Ideal.main_v54_1) = v1 c
          ∧ r.2.mem ((c.tc : Thread Cert.Kernel5Ideal.nD Cert.Kernel5Ideal.τ).loc Cert.Kernel5Ideal.main_v54_2) = v2 c
          ∧ r.2.mem ((c.tc : Thread Cert.Kernel5Ideal.nD Cert.Kernel5Ideal.τ).loc Cert.Kernel5Ideal.main_v54_3) = v3 c
          ∧ r.2.mem ((c.tc : Thread Cert.Kernel5Ideal.nD Cert.Kernel5Ideal.τ).loc Cert.Kernel5Ideal.main_v54_4) = v4 c
          ∧ r.2.mem ((c.tc : Thread Cert.Kernel5Ideal.nD Cert.Kernel5Ideal.τ).loc Cert.Kernel5Ideal.main_v54_5) = v5 c
          ∧ r.2.mem ((c.tc : Thread Cert.Kernel5Ideal.nD Cert.Kernel5Ideal.τ).loc Cert.Kernel5Ideal.main_v54_6) = v6 c
          ∧ r.2.mem ((c.tc : Thread Cert.Kernel5Ideal.nD Cert.Kernel5Ideal.τ).loc Cert.Kernel5Ideal.main_v54_7) = v7 c
          ∧ r.2.mem ((c.tc : Thread Cert.Kernel5Ideal.nD Cert.Kernel5Ideal.τ).loc Cert.Kernel5Ideal.main_v54_8) = v8 c
          ∧ r.2.mem ((c.tc : Thread Cert.Kernel5Ideal.nD Cert.Kernel5Ideal.τ).loc Cert.Kernel5Ideal.main_v54_9) = v9 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v71) = v0 c
          ∧ r.2.mem ((c.tc : Thread Cert.Reference5Ideal.nD Cert.Reference5Ideal.τ).loc Cert.Reference5Ideal.main_v62) = v1 c
          ∧ r.2.mem ((c.tc : Thread Cert.Reference5Ideal.nD Cert.Reference5Ideal.τ).loc Cert.Reference5Ideal.main_v64) = v2 c
          ∧ r.2.mem ((c.tc : Thread Cert.Reference5Ideal.nD Cert.Reference5Ideal.τ).loc Cert.Reference5Ideal.main_v66) = v3 c
          ∧ r.2.mem ((c.tc : Thread Cert.Reference5Ideal.nD Cert.Reference5Ideal.τ).loc Cert.Reference5Ideal.main_v73) = v4 c
          ∧ r.2.mem ((c.tc : Thread Cert.Reference5Ideal.nD Cert.Reference5Ideal.τ).loc Cert.Reference5Ideal.main_v75) = v5 c
          ∧ r.2.mem ((c.tc : Thread Cert.Reference5Ideal.nD Cert.Reference5Ideal.τ).loc Cert.Reference5Ideal.main_v82) = v6 c
          ∧ r.2.mem ((c.tc : Thread Cert.Reference5Ideal.nD Cert.Reference5Ideal.τ).loc Cert.Reference5Ideal.main_v117) = v7 c
          ∧ r.2.mem ((c.tc : Thread Cert.Reference5Ideal.nD Cert.Reference5Ideal.τ).loc Cert.Reference5Ideal.main_v60) = v8 c
          ∧ r.2.mem ((c.tc : Thread Cert.Reference5Ideal.nD Cert.Reference5Ideal.τ).loc Cert.Reference5Ideal.main_v118) = v9 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v12) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Kernel.lean ====
abbrev S8704x6144 : Shape := ⟨2, ![8704, 6144]⟩
abbrev S8704x384 : Shape := ⟨2, ![8704, 384]⟩
abbrev S8192x6144 : Shape := ⟨2, ![8192, 6144]⟩
abbrev S128x6144 : Shape := ⟨2, ![128, 6144]⟩
abbrev S2048x384 : Shape := ⟨2, ![2048, 384]⟩
abbrev S128x384 : Shape := ⟨2, ![128, 384]⟩
abbrev S128x1 : Shape := ⟨2, ![128, 1]⟩
abbrev S16x128x1 : Shape := ⟨3, ![16, 128, 1]⟩
abbrev S512x384 : Shape := ⟨2, ![512, 384]⟩
abbrev S2048x512 : Shape := ⟨2, ![2048, 512]⟩
abbrev S16x128x512 : Shape := ⟨3, ![16, 128, 512]⟩
abbrev S16x128 : Shape := ⟨2, ![16, 128]⟩
abbrev S2048x1 : Shape := ⟨2, ![2048, 1]⟩
abbrev S1x512 : Shape := ⟨2, ![1, 512]⟩
abbrev S128x512 : Shape := ⟨2, ![128, 512]⟩
abbrev S1x128x512 : Shape := ⟨3, ![1, 128, 512]⟩

abbrev nBuf : Space → Nat
  | .hbm => 3
  | .vmem => 6
  | .smem => 0
  | _ => 0

abbrev bufTy : (tb : Table) → Fin (tcTables nBuf tb) → BufTy
  | .hbm, ⟨0, _⟩ => ⟨S8704x6144, .bf16⟩
  | .hbm, ⟨1, _⟩ => ⟨S8704x384, .bf16⟩
  | .hbm, ⟨2, _⟩ => ⟨S8192x6144, .bf16⟩
  | .local _ .vmem, ⟨0, _⟩ => ⟨S128x6144, .bf16⟩
  | .local _ .vmem, ⟨1, _⟩ => ⟨S128x6144, .bf16⟩
  | .local _ .vmem, ⟨2, _⟩ => ⟨S2048x384, .bf16⟩
  | .local _ .vmem, ⟨3, _⟩ => ⟨S2048x384, .bf16⟩
  | .local _ .vmem, ⟨4, _⟩ => ⟨S128x6144, .bf16⟩
  | .local _ .vmem, ⟨5, _⟩ => ⟨S128x6144, .bf16⟩
  | _, _ => ⟨S8704x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 16], ![false, false]⟩

@[reducible] def k0_t1_loop (i : grid0.Coords) : Scf.Loop 32 :=
  let c0_i32_33 : BitVec 32 := 0#32
  let arg1 : BitVec 32 := BitVec.ofNat 32 (i 1).val
  let c128_i32 : BitVec 32 := 128#32
  let v0 : BitVec 32 := Scalar.muli arg1 c128_i32
  let c1_i32 : BitVec 32 := 1#32
  let v21 : BitVec 32 := Scalar.addi v0 c1_i32
  let c0_i32 : BitVec 32 := 0#32
  let v23 : BitVec 1 := Scalar.cmpi .sgt v21 c0_i32
  let v24 : BitVec 32 := Scalar.extui v23
  let c0_i32_16 : BitVec 32 := 0#32
  let v25 : BitVec 1 := Scalar.cmpi .slt v21 c0_i32_16
  let v26 : BitVec 32 := Scalar.extui v25
  let v27 : BitVec 32 := Scalar.subi v24 v26
  let c512_i32 : BitVec 32 := 512#32
  let c0_i32_17 : BitVec 32 := 0#32
  let v28 : BitVec 1 := Scalar.cmpi .sgt c512_i32 c0_i32_17
  let v29 : BitVec 32 := Scalar.extui v28
  let c0_i32_18 : BitVec 32 := 0#32
  let v30 : BitVec 1 := Scalar.cmpi .slt c512_i32 c0_i32_18
  let v31 : BitVec 32 := Scalar.extui v30
  let v32 : BitVec 32 := Scalar.subi v29 v31
  let v33 : BitVec 1 := Scalar.cmpi .ne v27 v32
  let v34 : BitVec 32 := Scalar.remsi v21 c512_i32
  let c0_i32_19 : BitVec 32 := 0#32
  let v35 : BitVec 1 := Scalar.cmpi .ne v34 c0_i32_19
  let v36 : BitVec 1 := Scalar.andi v33 v35
  let v22 : BitVec 32 := Scalar.divsi v21 c512_i32
  let c1_i32_20 : BitVec 32 := 1#32
  let v37 : BitVec 32 := Scalar.subi v22 c1_i32_20
  let v38 : BitVec 32 := Scalar.select v36 v37 v22
  let v62 : BitVec 32 := Scalar.subi v38 c0_i32_33
  let c1_i32_34 : BitVec 32 := 1#32
  let v64 : BitVec 32 := Scalar.divsi v62 c1_i32_34
  let v65 : BitVec 32 := Scalar.muli v64 c1_i32_34
  let v66 : BitVec 32 := Scalar.addi c0_i32_33 v65
  let c1_i32_35 : BitVec 32 := 1#32
  ⟨c0_i32_33, v66, c1_i32_35⟩
def k0_mult1 (i : grid0.Coords) (k0_t1 : Fin (k0_t1_loop i).trips) : BitVec 32 :=
  let c0_i32_33 : BitVec 32 := 0#32
  let c1_i32_35 : BitVec 32 := 1#32
  let arg5 : BitVec 32 := Scf.iv c0_i32_33 c1_i32_35 k0_t1
  let c512_i32_73 : BitVec 32 := 512#32
  let v114 : BitVec 32 := Scalar.muli arg5 c512_i32_73
  v114
def k0_off1 (i : grid0.Coords) (k0_t1 : Fin (k0_t1_loop i).trips) : Fin 2 → Nat :=
  let c0_i32_33 : BitVec 32 := 0#32
  let c1_i32_35 : BitVec 32 := 1#32
  let arg5 : BitVec 32 := Scf.iv c0_i32_33 c1_i32_35 k0_t1
  let c512_i32_73 : BitVec 32 := 512#32
  let v114 : BitVec 32 := Scalar.muli arg5 c512_i32_73
  let v115 : BitVec 32 := v114
  let v116 : Index := Scalar.indexCast v115
  let c0_74 : Index := 0#32
  ![v116.toNat, 0]
@[reducible] def k0_t2_loop (i : grid0.Coords) : Scf.Loop 32 :=
  let c0_i32_33 : BitVec 32 := 0#32
  let arg1 : BitVec 32 := BitVec.ofNat 32 (i 1).val
  let c128_i32 : BitVec 32 := 128#32
  let v0 : BitVec 32 := Scalar.muli arg1 c128_i32
  let c1_i32 : BitVec 32 := 1#32
  let v21 : BitVec 32 := Scalar.addi v0 c1_i32
  let c0_i32 : BitVec 32 := 0#32
  let v23 : BitVec 1 := Scalar.cmpi .sgt v21 c0_i32
  let v24 : BitVec 32 := Scalar.extui v23
  let c0_i32_16 : BitVec 32 := 0#32
  let v25 : BitVec 1 := Scalar.cmpi .slt v21 c0_i32_16
  let v26 : BitVec 32 := Scalar.extui v25
  let v27 : BitVec 32 := Scalar.subi v24 v26
  let c512_i32 : BitVec 32 := 512#32
  let c0_i32_17 : BitVec 32 := 0#32
  let v28 : BitVec 1 := Scalar.cmpi .sgt c512_i32 c0_i32_17
  let v29 : BitVec 32 := Scalar.extui v28
  let c0_i32_18 : BitVec 32 := 0#32
  let v30 : BitVec 1 := Scalar.cmpi .slt c512_i32 c0_i32_18
  let v31 : BitVec 32 := Scalar.extui v30
  let v32 : BitVec 32 := Scalar.subi v29 v31
  let v33 : BitVec 1 := Scalar.cmpi .ne v27 v32
  let v34 : BitVec 32 := Scalar.remsi v21 c512_i32
  let c0_i32_19 : BitVec 32 := 0#32
  let v35 : BitVec 1 := Scalar.cmpi .ne v34 c0_i32_19
  let v36 : BitVec 1 := Scalar.andi v33 v35
  let v22 : BitVec 32 := Scalar.divsi v21 c512_i32
  let c1_i32_20 : BitVec 32 := 1#32
  let v37 : BitVec 32 := Scalar.subi v22 c1_i32_20
  let v38 : BitVec 32 := Scalar.select v36 v37 v22
  let v62 : BitVec 32 := Scalar.subi v38 c0_i32_33
  let c1_i32_34 : BitVec 32 := 1#32
  let v64 : BitVec 32 := Scalar.divsi v62 c1_i32_34
  let v65 : BitVec 32 := Scalar.muli v64 c1_i32_34
  let v66 : BitVec 32 := Scalar.addi c0_i32_33 v65
  let v63 : BitVec 32 := Scalar.addi c0_i32_33 v62
  let c1_i32_36 : BitVec 32 := 1#32
  ⟨v66, v63, c1_i32_36⟩
def k0_mult2 (i : grid0.Coords) (k0_t2 : Fin (k0_t2_loop i).trips) : BitVec 32 :=
  let c0_i32_33 : BitVec 32 := 0#32
  let arg1 : BitVec 32 := BitVec.ofNat 32 (i 1).val
  let c128_i32 : BitVec 32 := 128#32
  let v0 : BitVec 32 := Scalar.muli arg1 c128_i32
  let c1_i32 : BitVec 32 := 1#32
  let v21 : BitVec 32 := Scalar.addi v0 c1_i32
  let c0_i32 : BitVec 32 := 0#32
  let v23 : BitVec 1 := Scalar.cmpi .sgt v21 c0_i32
  let v24 : BitVec 32 := Scalar.extui v23
  let c0_i32_16 : BitVec 32 := 0#32
  let v25 : BitVec 1 := Scalar.cmpi .slt v21 c0_i32_16
  let v26 : BitVec 32 := Scalar.extui v25
  let v27 : BitVec 32 := Scalar.subi v24 v26
  let c512_i32 : BitVec 32 := 512#32
  let c0_i32_17 : BitVec 32 := 0#32
  let v28 : BitVec 1 := Scalar.cmpi .sgt c512_i32 c0_i32_17
  let v29 : BitVec 32 := Scalar.extui v28
  let c0_i32_18 : BitVec 32 := 0#32
  let v30 : BitVec 1 := Scalar.cmpi .slt c512_i32 c0_i32_18
  let v31 : BitVec 32 := Scalar.extui v30
  let v32 : BitVec 32 := Scalar.subi v29 v31
  let v33 : BitVec 1 := Scalar.cmpi .ne v27 v32
  let v34 : BitVec 32 := Scalar.remsi v21 c512_i32
  let c0_i32_19 : BitVec 32 := 0#32
  let v35 : BitVec 1 := Scalar.cmpi .ne v34 c0_i32_19
  let v36 : BitVec 1 := Scalar.andi v33 v35
  let v22 : BitVec 32 := Scalar.divsi v21 c512_i32
  let c1_i32_20 : BitVec 32 := 1#32
  let v37 : BitVec 32 := Scalar.subi v22 c1_i32_20
  let v38 : BitVec 32 := Scalar.select v36 v37 v22
  let v62 : BitVec 32 := Scalar.subi v38 c0_i32_33
  let c1_i32_34 : BitVec 32 := 1#32
  let v64 : BitVec 32 := Scalar.divsi v62 c1_i32_34
  let v65 : BitVec 32 := Scalar.muli v64 c1_i32_34
  let v66 : BitVec 32 := Scalar.addi c0_i32_33 v65
  let c1_i32_36 : BitVec 32 := 1#32
  let arg5 : BitVec 32 := Scf.iv v66 c1_i32_36 k0_t2
  let c512_i32_73 : BitVec 32 := 512#32
  let v114 : BitVec 32 := Scalar.muli arg5 c512_i32_73
  v114
def k0_off2 (i : grid0.Coords) (k0_t2 : Fin (k0_t2_loop i).trips) : Fin 2 → Nat :=
  let c0_i32_33 : BitVec 32 := 0#32
  let arg1 : BitVec 32 := BitVec.ofNat 32 (i 1).val
  let c128_i32 : BitVec 32 := 128#32
  let v0 : BitVec 32 := Scalar.muli arg1 c128_i32
  let c1_i32 : BitVec 32 := 1#32
  let v21 : BitVec 32 := Scalar.addi v0 c1_i32
  let c0_i32 : BitVec 32 := 0#32
  let v23 : BitVec 1 := Scalar.cmpi .sgt v21 c0_i32
  let v24 : BitVec 32 := Scalar.extui v23
  let c0_i32_16 : BitVec 32 := 0#32
  let v25 : BitVec 1 := Scalar.cmpi .slt v21 c0_i32_16
  let v26 : BitVec 32 := Scalar.extui v25
  let v27 : BitVec 32 := Scalar.subi v24 v26
  let c512_i32 : BitVec 32 := 512#32
  let c0_i32_17 : BitVec 32 := 0#32
  let v28 : BitVec 1 := Scalar.cmpi .sgt c512_i32 c0_i32_17
  let v29 : BitVec 32 := Scalar.extui v28
  let c0_i32_18 : BitVec 32 := 0#32
  let v30 : BitVec 1 := Scalar.cmpi .slt c512_i32 c0_i32_18
  let v31 : BitVec 32 := Scalar.extui v30
  let v32 : BitVec 32 := Scalar.subi v29 v31
  let v33 : BitVec 1 := Scalar.cmpi .ne v27 v32
  let v34 : BitVec 32 := Scalar.remsi v21 c512_i32
  let c0_i32_19 : BitVec 32 := 0#32
  let v35 : BitVec 1 := Scalar.cmpi .ne v34 c0_i32_19
  let v36 : BitVec 1 := Scalar.andi v33 v35
  let v22 : BitVec 32 := Scalar.divsi v21 c512_i32
  let c1_i32_20 : BitVec 32 := 1#32
  let v37 : BitVec 32 := Scalar.subi v22 c1_i32_20
  let v38 : BitVec 32 := Scalar.select v36 v37 v22
  let v62 : BitVec 32 := Scalar.subi v38 c0_i32_33
  let c1_i32_34 : BitVec 32 := 1#32
  let v64 : BitVec 32 := Scalar.divsi v62 c1_i32_34
  let v65 : BitVec 32 := Scalar.muli v64 c1_i32_34
  let v66 : BitVec 32 := Scalar.addi c0_i32_33 v65
  let c1_i32_36 : BitVec 32 := 1#32
  let arg5 : BitVec 32 := Scf.iv v66 c1_i32_36 k0_t2
  let c512_i32_73 : BitVec 32 := 512#32
  let v114 : BitVec 32 := Scalar.muli arg5 c512_i32_73
  let v115 : BitVec 32 := v114
  let v116 : Index := Scalar.indexCast v115
  let c0_74 : Index := 0#32
  ![v116.toNat, 0]
@[reducible] def k0_t3_loop (i : grid0.Coords) : Scf.Loop 32 :=
  let arg1 : BitVec 32 := BitVec.ofNat 32 (i 1).val
  let c128_i32 : BitVec 32 := 128#32
  let v0 : BitVec 32 := Scalar.muli arg1 c128_i32
  let c1_i32 : BitVec 32 := 1#32
  let v21 : BitVec 32 := Scalar.addi v0 c1_i32
  let c0_i32 : BitVec 32 := 0#32
  let v23 : BitVec 1 := Scalar.cmpi .sgt v21 c0_i32
  let v24 : BitVec 32 := Scalar.extui v23
  let c0_i32_16 : BitVec 32 := 0#32
  let v25 : BitVec 1 := Scalar.cmpi .slt v21 c0_i32_16
  let v26 : BitVec 32 := Scalar.extui v25
  let v27 : BitVec 32 := Scalar.subi v24 v26
  let c512_i32 : BitVec 32 := 512#32
  let c0_i32_17 : BitVec 32 := 0#32
  let v28 : BitVec 1 := Scalar.cmpi .sgt c512_i32 c0_i32_17
  let v29 : BitVec 32 := Scalar.extui v28
  let c0_i32_18 : BitVec 32 := 0#32
  let v30 : BitVec 1 := Scalar.cmpi .slt c512_i32 c0_i32_18
  let v31 : BitVec 32 := Scalar.extui v30
  let v32 : BitVec 32 := Scalar.subi v29 v31
  let v33 : BitVec 1 := Scalar.cmpi .ne v27 v32
  let v34 : BitVec 32 := Scalar.remsi v21 c512_i32
  let c0_i32_19 : BitVec 32 := 0#32
  let v35 : BitVec 1 := Scalar.cmpi .ne v34 c0_i32_19
  let v36 : BitVec 1 := Scalar.andi v33 v35
  let v22 : BitVec 32 := Scalar.divsi v21 c512_i32
  let c1_i32_20 : BitVec 32 := 1#32
  let v37 : BitVec 32 := Scalar.subi v22 c1_i32_20
  let v38 : BitVec 32 := Scalar.select v36 v37 v22
  let c128_i32_21 : BitVec 32 := 128#32
  let v39 : BitVec 32 := Scalar.addi v0 c128_i32_21
  let c512_i32_22 : BitVec 32 := 512#32
  let v40 : BitVec 32 := Scalar.addi v39 c512_i32_22
  let c1_i32_23 : BitVec 32 := 1#32
  let v41 : BitVec 32 := Scalar.subi v40 c1_i32_23
  let c0_i32_25 : BitVec 32 := 0#32
  let v43 : BitVec 1 := Scalar.cmpi .sgt v41 c0_i32_25
  let v44 : BitVec 32 := Scalar.extui v43
  let c0_i32_26 : BitVec 32 := 0#32
  let v45 : BitVec 1 := Scalar.cmpi .slt v41 c0_i32_26
  let v46 : BitVec 32 := Scalar.extui v45
  let v47 : BitVec 32 := Scalar.subi v44 v46
  let c512_i32_24 : BitVec 32 := 512#32
  let c0_i32_27 : BitVec 32 := 0#32
  let v48 : BitVec 1 := Scalar.cmpi .sgt c512_i32_24 c0_i32_27
  let v49 : BitVec 32 := Scalar.extui v48
  let c0_i32_28 : BitVec 32 := 0#32
  let v50 : BitVec 1 := Scalar.cmpi .slt c512_i32_24 c0_i32_28
  let v51 : BitVec 32 := Scalar.extui v50
  let v52 : BitVec 32 := Scalar.subi v49 v51
  let v53 : BitVec 1 := Scalar.cmpi .ne v47 v52
  let v54 : BitVec 32 := Scalar.remsi v41 c512_i32_24
  let c0_i32_29 : BitVec 32 := 0#32
  let v55 : BitVec 1 := Scalar.cmpi .ne v54 c0_i32_29
  let v56 : BitVec 1 := Scalar.andi v53 v55
  let v42 : BitVec 32 := Scalar.divsi v41 c512_i32_24
  let c1_i32_30 : BitVec 32 := 1#32
  let v57 : BitVec 32 := Scalar.subi v42 c1_i32_30
  let v58 : BitVec 32 := Scalar.select v56 v57 v42
  let v69 : BitVec 32 := Scalar.subi v58 v38
  let c1_i32_37 : BitVec 32 := 1#32
  let v71 : BitVec 32 := Scalar.divsi v69 c1_i32_37
  let v72 : BitVec 32 := Scalar.muli v71 c1_i32_37
  let v73 : BitVec 32 := Scalar.addi v38 v72
  let c1_i32_38 : BitVec 32 := 1#32
  ⟨v38, v73, c1_i32_38⟩
def k0_mult3 (i : grid0.Coords) (k0_t3 : Fin (k0_t3_loop i).trips) : BitVec 32 :=
  let arg1 : BitVec 32 := BitVec.ofNat 32 (i 1).val
  let c128_i32 : BitVec 32 := 128#32
  let v0 : BitVec 32 := Scalar.muli arg1 c128_i32
  let c1_i32 : BitVec 32 := 1#32
  let v21 : BitVec 32 := Scalar.addi v0 c1_i32
  let c0_i32 : BitVec 32 := 0#32
  let v23 : BitVec 1 := Scalar.cmpi .sgt v21 c0_i32
  let v24 : BitVec 32 := Scalar.extui v23
  let c0_i32_16 : BitVec 32 := 0#32
  let v25 : BitVec 1 := Scalar.cmpi .slt v21 c0_i32_16
  let v26 : BitVec 32 := Scalar.extui v25
  let v27 : BitVec 32 := Scalar.subi v24 v26
  let c512_i32 : BitVec 32 := 512#32
  let c0_i32_17 : BitVec 32 := 0#32
  let v28 : BitVec 1 := Scalar.cmpi .sgt c512_i32 c0_i32_17
  let v29 : BitVec 32 := Scalar.extui v28
  let c0_i32_18 : BitVec 32 := 0#32
  let v30 : BitVec 1 := Scalar.cmpi .slt c512_i32 c0_i32_18
  let v31 : BitVec 32 := Scalar.extui v30
  let v32 : BitVec 32 := Scalar.subi v29 v31
  let v33 : BitVec 1 := Scalar.cmpi .ne v27 v32
  let v34 : BitVec 32 := Scalar.remsi v21 c512_i32
  let c0_i32_19 : BitVec 32 := 0#32
  let v35 : BitVec 1 := Scalar.cmpi .ne v34 c0_i32_19
  let v36 : BitVec 1 := Scalar.andi v33 v35
  let v22 : BitVec 32 := Scalar.divsi v21 c512_i32
  let c1_i32_20 : BitVec 32 := 1#32
  let v37 : BitVec 32 := Scalar.subi v22 c1_i32_20
  let v38 : BitVec 32 := Scalar.select v36 v37 v22
  let c1_i32_38 : BitVec 32 := 1#32
  let arg5 : BitVec 32 := Scf.iv v38 c1_i32_38 k0_t3
  let c512_i32_73 : BitVec 32 := 512#32
  let v114 : BitVec 32 := Scalar.muli arg5 c512_i32_73
  v114
def k0_off3 (i : grid0.Coords) (k0_t3 : Fin (k0_t3_loop i).trips) : Fin 2 → Nat :=
  let arg1 : BitVec 32 := BitVec.ofNat 32 (i 1).val
  let c128_i32 : BitVec 32 := 128#32
  let v0 : BitVec 32 := Scalar.muli arg1 c128_i32
  let c1_i32 : BitVec 32 := 1#32
  let v21 : BitVec 32 := Scalar.addi v0 c1_i32
  let c0_i32 : BitVec 32 := 0#32
  let v23 : BitVec 1 := Scalar.cmpi .sgt v21 c0_i32
  let v24 : BitVec 32 := Scalar.extui v23
  let c0_i32_16 : BitVec 32 := 0#32
  let v25 : BitVec 1 := Scalar.cmpi .slt v21 c0_i32_16
  let v26 : BitVec 32 := Scalar.extui v25
  let v27 : BitVec 32 := Scalar.subi v24 v26
  let c512_i32 : BitVec 32 := 512#32
  let c0_i32_17 : BitVec 32 := 0#32
  let v28 : BitVec 1 := Scalar.cmpi .sgt c512_i32 c0_i32_17
  let v29 : BitVec 32 := Scalar.extui v28
  let c0_i32_18 : BitVec 32 := 0#32
  let v30 : BitVec 1 := Scalar.cmpi .slt c512_i32 c0_i32_18
  let v31 : BitVec 32 := Scalar.extui v30
  let v32 : BitVec 32 := Scalar.subi v29 v31
  let v33 : BitVec 1 := Scalar.cmpi .ne v27 v32
  let v34 : BitVec 32 := Scalar.remsi v21 c512_i32
  let c0_i32_19 : BitVec 32 := 0#32
  let v35 : BitVec 1 := Scalar.cmpi .ne v34 c0_i32_19
  let v36 : BitVec 1 := Scalar.andi v33 v35
  let v22 : BitVec 32 := Scalar.divsi v21 c512_i32
  let c1_i32_20 : BitVec 32 := 1#32
  let v37 : BitVec 32 := Scalar.subi v22 c1_i32_20
  let v38 : BitVec 32 := Scalar.select v36 v37 v22
  let c1_i32_38 : BitVec 32 := 1#32
  let arg5 : BitVec 32 := Scf.iv v38 c1_i32_38 k0_t3
  let c512_i32_73 : BitVec 32 := 512#32
  let v114 : BitVec 32 := Scalar.muli arg5 c512_i32_73
  let v115 : BitVec 32 := v114
  let v116 : Index := Scalar.indexCast v115
  let c0_74 : Index := 0#32
  ![v116.toNat, 0]
@[reducible] def k0_t4_loop (i : grid0.Coords) : Scf.Loop 32 :=
  let arg1 : BitVec 32 := BitVec.ofNat 32 (i 1).val
  let c128_i32 : BitVec 32 := 128#32
  let v0 : BitVec 32 := Scalar.muli arg1 c128_i32
  let c1_i32 : BitVec 32 := 1#32
  let v21 : BitVec 32 := Scalar.addi v0 c1_i32
  let c0_i32 : BitVec 32 := 0#32
  let v23 : BitVec 1 := Scalar.cmpi .sgt v21 c0_i32
  let v24 : BitVec 32 := Scalar.extui v23
  let c0_i32_16 : BitVec 32 := 0#32
  let v25 : BitVec 1 := Scalar.cmpi .slt v21 c0_i32_16
  let v26 : BitVec 32 := Scalar.extui v25
  let v27 : BitVec 32 := Scalar.subi v24 v26
  let c512_i32 : BitVec 32 := 512#32
  let c0_i32_17 : BitVec 32 := 0#32
  let v28 : BitVec 1 := Scalar.cmpi .sgt c512_i32 c0_i32_17
  let v29 : BitVec 32 := Scalar.extui v28
  let c0_i32_18 : BitVec 32 := 0#32
  let v30 : BitVec 1 := Scalar.cmpi .slt c512_i32 c0_i32_18
  let v31 : BitVec 32 := Scalar.extui v30
  let v32 : BitVec 32 := Scalar.subi v29 v31
  let v33 : BitVec 1 := Scalar.cmpi .ne v27 v32
  let v34 : BitVec 32 := Scalar.remsi v21 c512_i32
  let c0_i32_19 : BitVec 32 := 0#32
  let v35 : BitVec 1 := Scalar.cmpi .ne v34 c0_i32_19
  let v36 : BitVec 1 := Scalar.andi v33 v35
  let v22 : BitVec 32 := Scalar.divsi v21 c512_i32
  let c1_i32_20 : BitVec 32 := 1#32
  let v37 : BitVec 32 := Scalar.subi v22 c1_i32_20
  let v38 : BitVec 32 := Scalar.select v36 v37 v22
  let c128_i32_21 : BitVec 32 := 128#32
  let v39 : BitVec 32 := Scalar.addi v0 c128_i32_21
  let c512_i32_22 : BitVec 32 := 512#32
  let v40 : BitVec 32 := Scalar.addi v39 c512_i32_22
  let c1_i32_23 : BitVec 32 := 1#32
  let v41 : BitVec 32 := Scalar.subi v40 c1_i32_23
  let c0_i32_25 : BitVec 32 := 0#32
  let v43 : BitVec 1 := Scalar.cmpi .sgt v41 c0_i32_25
  let v44 : BitVec 32 := Scalar.extui v43
  let c0_i32_26 : BitVec 32 := 0#32
  let v45 : BitVec 1 := Scalar.cmpi .slt v41 c0_i32_26
  let v46 : BitVec 32 := Scalar.extui v45
  let v47 : BitVec 32 := Scalar.subi v44 v46
  let c512_i32_24 : BitVec 32 := 512#32
  let c0_i32_27 : BitVec 32 := 0#32
  let v48 : BitVec 1 := Scalar.cmpi .sgt c512_i32_24 c0_i32_27
  let v49 : BitVec 32 := Scalar.extui v48
  let c0_i32_28 : BitVec 32 := 0#32
  let v50 : BitVec 1 := Scalar.cmpi .slt c512_i32_24 c0_i32_28
  let v51 : BitVec 32 := Scalar.extui v50
  let v52 : BitVec 32 := Scalar.subi v49 v51
  let v53 : BitVec 1 := Scalar.cmpi .ne v47 v52
  let v54 : BitVec 32 := Scalar.remsi v41 c512_i32_24
  let c0_i32_29 : BitVec 32 := 0#32
  let v55 : BitVec 1 := Scalar.cmpi .ne v54 c0_i32_29
  let v56 : BitVec 1 := Scalar.andi v53 v55
  let v42 : BitVec 32 := Scalar.divsi v41 c512_i32_24
  let c1_i32_30 : BitVec 32 := 1#32
  let v57 : BitVec 32 := Scalar.subi v42 c1_i32_30
  let v58 : BitVec 32 := Scalar.select v56 v57 v42
  let v69 : BitVec 32 := Scalar.subi v58 v38
  let c1_i32_37 : BitVec 32 := 1#32
  let v71 : BitVec 32 := Scalar.divsi v69 c1_i32_37
  let v72 : BitVec 32 := Scalar.muli v71 c1_i32_37
  let v73 : BitVec 32 := Scalar.addi v38 v72
  let v70 : BitVec 32 := Scalar.addi v38 v69
  let c1_i32_39 : BitVec 32 := 1#32
  ⟨v73, v70, c1_i32_39⟩
def k0_mult4 (i : grid0.Coords) (k0_t4 : Fin (k0_t4_loop i).trips) : BitVec 32 :=
  let arg1 : BitVec 32 := BitVec.ofNat 32 (i 1).val
  let c128_i32 : BitVec 32 := 128#32
  let v0 : BitVec 32 := Scalar.muli arg1 c128_i32
  let c1_i32 : BitVec 32 := 1#32
  let v21 : BitVec 32 := Scalar.addi v0 c1_i32
  let c0_i32 : BitVec 32 := 0#32
  let v23 : BitVec 1 := Scalar.cmpi .sgt v21 c0_i32
  let v24 : BitVec 32 := Scalar.extui v23
  let c0_i32_16 : BitVec 32 := 0#32
  let v25 : BitVec 1 := Scalar.cmpi .slt v21 c0_i32_16
  let v26 : BitVec 32 := Scalar.extui v25
  let v27 : BitVec 32 := Scalar.subi v24 v26
  let c512_i32 : BitVec 32 := 512#32
  let c0_i32_17 : BitVec 32 := 0#32
  let v28 : BitVec 1 := Scalar.cmpi .sgt c512_i32 c0_i32_17
  let v29 : BitVec 32 := Scalar.extui v28
  let c0_i32_18 : BitVec 32 := 0#32
  let v30 : BitVec 1 := Scalar.cmpi .slt c512_i32 c0_i32_18
  let v31 : BitVec 32 := Scalar.extui v30
  let v32 : BitVec 32 := Scalar.subi v29 v31
  let v33 : BitVec 1 := Scalar.cmpi .ne v27 v32
  let v34 : BitVec 32 := Scalar.remsi v21 c512_i32
  let c0_i32_19 : BitVec 32 := 0#32
  let v35 : BitVec 1 := Scalar.cmpi .ne v34 c0_i32_19
  let v36 : BitVec 1 := Scalar.andi v33 v35
  let v22 : BitVec 32 := Scalar.divsi v21 c512_i32
  let c1_i32_20 : BitVec 32 := 1#32
  let v37 : BitVec 32 := Scalar.subi v22 c1_i32_20
  let v38 : BitVec 32 := Scalar.select v36 v37 v22
  let c128_i32_21 : BitVec 32 := 128#32
  let v39 : BitVec 32 := Scalar.addi v0 c128_i32_21
  let c512_i32_22 : BitVec 32 := 512#32
  let v40 : BitVec 32 := Scalar.addi v39 c512_i32_22
  let c1_i32_23 : BitVec 32 := 1#32
  let v41 : BitVec 32 := Scalar.subi v40 c1_i32_23
  let c0_i32_25 : BitVec 32 := 0#32
  let v43 : BitVec 1 := Scalar.cmpi .sgt v41 c0_i32_25
  let v44 : BitVec 32 := Scalar.extui v43
  let c0_i32_26 : BitVec 32 := 0#32
  let v45 : BitVec 1 := Scalar.cmpi .slt v41 c0_i32_26
  let v46 : BitVec 32 := Scalar.extui v45
  let v47 : BitVec 32 := Scalar.subi v44 v46
  let c512_i32_24 : BitVec 32 := 512#32
  let c0_i32_27 : BitVec 32 := 0#32
  let v48 : BitVec 1 := Scalar.cmpi .sgt c512_i32_24 c0_i32_27
  let v49 : BitVec 32 := Scalar.extui v48
  let c0_i32_28 : BitVec 32 := 0#32
  let v50 : BitVec 1 := Scalar.cmpi .slt c512_i32_24 c0_i32_28
  let v51 : BitVec 32 := Scalar.extui v50
  let v52 : BitVec 32 := Scalar.subi v49 v51
  let v53 : BitVec 1 := Scalar.cmpi .ne v47 v52
  let v54 : BitVec 32 := Scalar.remsi v41 c512_i32_24
  let c0_i32_29 : BitVec 32 := 0#32
  let v55 : BitVec 1 := Scalar.cmpi .ne v54 c0_i32_29
  let v56 : BitVec 1 := Scalar.andi v53 v55
  let v42 : BitVec 32 := Scalar.divsi v41 c512_i32_24
  let c1_i32_30 : BitVec 32 := 1#32
  let v57 : BitVec 32 := Scalar.subi v42 c1_i32_30
  let v58 : BitVec 32 := Scalar.select v56 v57 v42
  let v69 : BitVec 32 := Scalar.subi v58 v38
  let c1_i32_37 : BitVec 32 := 1#32
  let v71 : BitVec 32 := Scalar.divsi v69 c1_i32_37
  let v72 : BitVec 32 := Scalar.muli v71 c1_i32_37
  let v73 : BitVec 32 := Scalar.addi v38 v72
  let c1_i32_39 : BitVec 32 := 1#32
  let arg5 : BitVec 32 := Scf.iv v73 c1_i32_39 k0_t4
  let c512_i32_73 : BitVec 32 := 512#32
  let v114 : BitVec 32 := Scalar.muli arg5 c512_i32_73
  v114
def k0_off4 (i : grid0.Coords) (k0_t4 : Fin (k0_t4_loop i).trips) : Fin 2 → Nat :=
  let arg1 : BitVec 32 := BitVec.ofNat 32 (i 1).val
  let c128_i32 : BitVec 32 := 128#32
  let v0 : BitVec 32 := Scalar.muli arg1 c128_i32
  let c1_i32 : BitVec 32 := 1#32
  let v21 : BitVec 32 := Scalar.addi v0 c1_i32
  let c0_i32 : BitVec 32 := 0#32
  let v23 : BitVec 1 := Scalar.cmpi .sgt v21 c0_i32
  let v24 : BitVec 32 := Scalar.extui v23
  let c0_i32_16 : BitVec 32 := 0#32
  let v25 : BitVec 1 := Scalar.cmpi .slt v21 c0_i32_16
  let v26 : BitVec 32 := Scalar.extui v25
  let v27 : BitVec 32 := Scalar.subi v24 v26
  let c512_i32 : BitVec 32 := 512#32
  let c0_i32_17 : BitVec 32 := 0#32
  let v28 : BitVec 1 := Scalar.cmpi .sgt c512_i32 c0_i32_17
  let v29 : BitVec 32 := Scalar.extui v28
  let c0_i32_18 : BitVec 32 := 0#32
  let v30 : BitVec 1 := Scalar.cmpi .slt c512_i32 c0_i32_18
  let v31 : BitVec 32 := Scalar.extui v30
  let v32 : BitVec 32 := Scalar.subi v29 v31
  let v33 : BitVec 1 := Scalar.cmpi .ne v27 v32
  let v34 : BitVec 32 := Scalar.remsi v21 c512_i32
  let c0_i32_19 : BitVec 32 := 0#32
  let v35 : BitVec 1 := Scalar.cmpi .ne v34 c0_i32_19
  let v36 : BitVec 1 := Scalar.andi v33 v35
  let v22 : BitVec 32 := Scalar.divsi v21 c512_i32
  let c1_i32_20 : BitVec 32 := 1#32
  let v37 : BitVec 32 := Scalar.subi v22 c1_i32_20
  let v38 : BitVec 32 := Scalar.select v36 v37 v22
  let c128_i32_21 : BitVec 32 := 128#32
  let v39 : BitVec 32 := Scalar.addi v0 c128_i32_21
  let c512_i32_22 : BitVec 32 := 512#32
  let v40 : BitVec 32 := Scalar.addi v39 c512_i32_22
  let c1_i32_23 : BitVec 32 := 1#32
  let v41 : BitVec 32 := Scalar.subi v40 c1_i32_23
  let c0_i32_25 : BitVec 32 := 0#32
  let v43 : BitVec 1 := Scalar.cmpi .sgt v41 c0_i32_25
  let v44 : BitVec 32 := Scalar.extui v43
  let c0_i32_26 : BitVec 32 := 0#32
  let v45 : BitVec 1 := Scalar.cmpi .slt v41 c0_i32_26
  let v46 : BitVec 32 := Scalar.extui v45
  let v47 : BitVec 32 := Scalar.subi v44 v46
  let c512_i32_24 : BitVec 32 := 512#32
  let c0_i32_27 : BitVec 32 := 0#32
  let v48 : BitVec 1 := Scalar.cmpi .sgt c512_i32_24 c0_i32_27
  let v49 : BitVec 32 := Scalar.extui v48
  let c0_i32_28 : BitVec 32 := 0#32
  let v50 : BitVec 1 := Scalar.cmpi .slt c512_i32_24 c0_i32_28
  let v51 : BitVec 32 := Scalar.extui v50
  let v52 : BitVec 32 := Scalar.subi v49 v51
  let v53 : BitVec 1 := Scalar.cmpi .ne v47 v52
  let v54 : BitVec 32 := Scalar.remsi v41 c512_i32_24
  let c0_i32_29 : BitVec 32 := 0#32
  let v55 : BitVec 1 := Scalar.cmpi .ne v54 c0_i32_29
  let v56 : BitVec 1 := Scalar.andi v53 v55
  let v42 : BitVec 32 := Scalar.divsi v41 c512_i32_24
  let c1_i32_30 : BitVec 32 := 1#32
  let v57 : BitVec 32 := Scalar.subi v42 c1_i32_30
  let v58 : BitVec 32 := Scalar.select v56 v57 v42
  let v69 : BitVec 32 := Scalar.subi v58 v38
  let c1_i32_37 : BitVec 32 := 1#32
  let v71 : BitVec 32 := Scalar.divsi v69 c1_i32_37
  let v72 : BitVec 32 := Scalar.muli v71 c1_i32_37
  let v73 : BitVec 32 := Scalar.addi v38 v72
  let c1_i32_39 : BitVec 32 := 1#32
  let arg5 : BitVec 32 := Scf.iv v73 c1_i32_39 k0_t4
  let c512_i32_73 : BitVec 32 := 512#32
  let v114 : BitVec 32 := Scalar.muli arg5 c512_i32_73
  let v115 : BitVec 32 := v114
  let v116 : Index := Scalar.indexCast v115
  let c0_74 : Index := 0#32
  ![v116.toNat, 0]
def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S128x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S128x6144 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S8704x6144 : Shape := ⟨2, ![8704, 6144]⟩
abbrev S8704x384 : Shape := ⟨2, ![8704, 384]⟩
abbrev S8192x6144 : Shape := ⟨2, ![8192, 6144]⟩
abbrev S4x2048x16x384 : Shape := ⟨4, ![4, 2048, 16, 384]⟩
abbrev S8192x384 : Shape := ⟨2, ![8192, 384]⟩
abbrev S4x2048x384 : Shape := ⟨3, ![4, 2048, 384]⟩
abbrev S4x2048x16x320 : Shape := ⟨4, ![4, 2048, 16, 320]⟩
abbrev S4x2048x16x64 : Shape := ⟨4, ![4, 2048, 16, 64]⟩
abbrev S4x2048x320 : Shape := ⟨3, ![4, 2048, 320]⟩
abbrev S4x2048x64 : Shape := ⟨3, ![4, 2048, 64]⟩
abbrev S2048 : Shape := ⟨1, ![2048]⟩
abbrev S4x2048x2048x16 : Shape := ⟨4, ![4, 2048, 2048, 16]⟩
abbrev S4x16x2048x2048 : Shape := ⟨4, ![4, 16, 2048, 2048]⟩
abbrev S1x2048 : Shape := ⟨2, ![1, 2048]⟩
abbrev S2048x1 : Shape := ⟨2, ![2048, 1]⟩
abbrev S2048x2048 : Shape := ⟨2, ![2048, 2048]⟩
abbrev S1x1x2048x2048 : Shape := ⟨4, ![1, 1, 2048, 2048]⟩
abbrev S_ : Shape := ⟨0, ![]⟩
abbrev S4x16x2048 : Shape := ⟨3, ![4, 16, 2048]⟩
abbrev S4x16x2048x1 : Shape := ⟨4, ![4, 16, 2048, 1]⟩
abbrev S4x384x16x2048 : Shape := ⟨4, ![4, 384, 16, 2048]⟩

abbrev nBuf : Space → Nat
  | .hbm => 53
  | .vmem => 0
  | .smem => 0
  | _ => 0

abbrev bufTy : (tb : Table) → Fin (tcTables nBuf tb) → BufTy
  | .hbm, ⟨0, _⟩ => ⟨S8704x6144, .bf16⟩
  | .hbm, ⟨1, _⟩ => ⟨S8704x384, .bf16⟩
  | .hbm, ⟨2, _⟩ => ⟨S8192x6144, .bf16⟩
  | .hbm, ⟨3, _⟩ => ⟨S8192x6144, .f32⟩
  | .hbm, ⟨4, _⟩ => ⟨S4x2048x16x384, .f32⟩
  | .hbm, ⟨5, _⟩ => ⟨S8192x384, .bf16⟩
  | .hbm, ⟨6, _⟩ => ⟨S8192x384, .f32⟩
  | .hbm, ⟨7, _⟩ => ⟨S4x2048x384, .f32⟩
  | .hbm, ⟨8, _⟩ => ⟨S4x2048x16x320, .f32⟩
  | .hbm, ⟨9, _⟩ => ⟨S4x2048x16x64, .f32⟩
  | .hbm, ⟨10, _⟩ => ⟨S4x2048x320, .f32⟩
  | .hbm, ⟨11, _⟩ => ⟨S4x2048x64, .f32⟩
  | .hbm, ⟨12, _⟩ => ⟨S2048, .i32⟩
  | .hbm, ⟨13, _⟩ => ⟨S2048, .i32⟩
  | .hbm, ⟨14, _⟩ => ⟨S4x2048x2048x16, .f32⟩
  | .hbm, ⟨15, _⟩ => ⟨S4x16x2048x2048, .f32⟩
  | .hbm, ⟨16, _⟩ => ⟨S4x2048x2048x16, .f32⟩
  | .hbm, ⟨17, _⟩ => ⟨S4x16x2048x2048, .f32⟩
  | .hbm, ⟨18, _⟩ => ⟨S4x16x2048x2048, .f32⟩
  | .hbm, ⟨19, _⟩ => ⟨S1x2048, .i32⟩
  | .hbm, ⟨20, _⟩ => ⟨S2048x1, .i32⟩
  | .hbm, ⟨21, _⟩ => ⟨S2048x2048, .i32⟩
  | .hbm, ⟨22, _⟩ => ⟨S2048x2048, .i32⟩
  | .hbm, ⟨23, _⟩ => ⟨S2048x2048, .i1⟩
  | .hbm, ⟨24, _⟩ => ⟨S1x1x2048x2048, .i1⟩
  | .hbm, ⟨25, _⟩ => ⟨S_, .f32⟩
  | .hbm, ⟨26, _⟩ => ⟨S_, .f32⟩
  | .hbm, ⟨27, _⟩ => ⟨S4x16x2048x2048, .i1⟩
  | .hbm, ⟨28, _⟩ => ⟨S4x16x2048x2048, .f32⟩
  | .hbm, ⟨29, _⟩ => ⟨S4x16x2048x2048, .f32⟩
  | .hbm, ⟨30, _⟩ => ⟨S_, .f32⟩
  | .hbm, ⟨31, _⟩ => ⟨S4x16x2048, .f32⟩
  | .hbm, ⟨32, _⟩ => ⟨S4x16x2048x1, .f32⟩
  | .hbm, ⟨33, _⟩ => ⟨S4x16x2048x2048, .f32⟩
  | .hbm, ⟨34, _⟩ => ⟨S4x16x2048x2048, .f32⟩
  | .hbm, ⟨35, _⟩ => ⟨S4x16x2048x2048, .f32⟩
  | .hbm, ⟨36, _⟩ => ⟨S_, .f32⟩
  | .hbm, ⟨37, _⟩ => ⟨S_, .f32⟩
  | .hbm, ⟨38, _⟩ => ⟨S4x16x2048x2048, .i1⟩
  | .hbm, ⟨39, _⟩ => ⟨S4x16x2048x2048, .f32⟩
  | .hbm, ⟨40, _⟩ => ⟨S4x16x2048x2048, .f32⟩
  | .hbm, ⟨41, _⟩ => ⟨S_, .f32⟩
  | .hbm, ⟨42, _⟩ => ⟨S4x16x2048, .f32⟩
  | .hbm, ⟨43, _⟩ => ⟨S4x16x2048x1, .f32⟩
  | .hbm, ⟨44, _⟩ => ⟨S_, .f32⟩
  | .hbm, ⟨45, _⟩ => ⟨S4x16x2048x1, .f32⟩
  | .hbm, ⟨46, _⟩ => ⟨S4x16x2048x1, .f32⟩
  | .hbm, ⟨47, _⟩ => ⟨S4x16x2048x2048, .f32⟩
  | .hbm, ⟨48, _⟩ => ⟨S4x16x2048x2048, .f32⟩
  | .hbm, ⟨49, _⟩ => ⟨S4x384x16x2048, .f32⟩
  | .hbm, ⟨50, _⟩ => ⟨S4x2048x16x384, .f32⟩
  | .hbm, ⟨51, _⟩ => ⟨S8192x6144, .f32⟩
  | .hbm, ⟨52, _⟩ => ⟨S8192x6144, .bf16⟩
  | _, _ => ⟨S8704x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_cst : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v23 : Ref sig .tc := ⟨.hbm, 29, rfl⟩
abbrev main_cst_0 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst_1 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_v29 : Ref sig .tc := ⟨.hbm, 40, rfl⟩
abbrev main_cst_2 : Ref sig .tc := ⟨.hbm, 41, rfl⟩
abbrev main_v30 : Ref sig .tc := ⟨.hbm, 42, rfl⟩
abbrev main_v31 : Ref sig .tc := ⟨.hbm, 43, rfl⟩
abbrev main_cst_3 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== Kernel2.lean ====
abbrev S8704x4096 : Shape := ⟨2, ![8704, 4096]⟩
abbrev S4096 : Shape := ⟨1, ![4096]⟩
abbrev S4096x4224 : Shape := ⟨2, ![4096, 4224]⟩
abbrev S1x4096 : Shape := ⟨2, ![1, 4096]⟩
abbrev S8704x4224 : Shape := ⟨2, ![8704, 4224]⟩
abbrev S512x4096 : Shape := ⟨2, ![512, 4096]⟩
abbrev S4096x384 : Shape := ⟨2, ![4096, 384]⟩
abbrev S512x384 : Shape := ⟨2, ![512, 384]⟩
abbrev S512 : Shape := ⟨1, ![512]⟩
abbrev S512x1 : Shape := ⟨2, ![512, 1]⟩

abbrev nBuf : Space → Nat
  | .hbm => 5
  | .vmem => 8
  | .smem => 0
  | _ => 0

abbrev bufTy : (tb : Table) → Fin (tcTables nBuf tb) → BufTy
  | .hbm, ⟨0, _⟩ => ⟨S8704x4096, .f32⟩
  | .hbm, ⟨1, _⟩ => ⟨S4096, .f32⟩
  | .hbm, ⟨2, _⟩ => ⟨S4096x4224, .bf16⟩
  | .hbm, ⟨3, _⟩ => ⟨S1x4096, .f32⟩
  | .hbm, ⟨4, _⟩ => ⟨S8704x4224, .f32⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S4096x384, .bf16⟩
  | .local _ .vmem, ⟨4, _⟩ => ⟨S4096x384, .bf16⟩
  | .local _ .vmem, ⟨5, _⟩ => ⟨S512x384, .f32⟩
  | .local _ .vmem, ⟨6, _⟩ => ⟨S512x384, .f32⟩
  | .local _ .vmem, ⟨7, _⟩ => ⟨S512x4096, .bf16⟩
  | _, _ => ⟨S8704x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![17, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S4096x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S8704x4096 : Shape := ⟨2, ![8704, 4096]⟩
abbrev S4096 : Shape := ⟨1, ![4096]⟩
abbrev S4096x4224 : Shape := ⟨2, ![4096, 4224]⟩
abbrev S_ : Shape := ⟨0, ![]⟩
abbrev S8704 : Shape := ⟨1, ![8704]⟩
abbrev S8704x1 : Shape := ⟨2, ![8704, 1]⟩
abbrev S1x4096 : Shape := ⟨2, ![1, 4096]⟩
abbrev S8704x4224 : Shape := ⟨2, ![8704, 4224]⟩

abbrev nBuf : Space → Nat
  | .hbm => 21
  | .vmem => 0
  | .smem => 0
  | _ => 0

abbrev bufTy : (tb : Table) → Fin (tcTables nBuf tb) → BufTy
  | .hbm, ⟨0, _⟩ => ⟨S8704x4096, .f32⟩
  | .hbm, ⟨1, _⟩ => ⟨S4096, .f32⟩
  | .hbm, ⟨2, _⟩ => ⟨S4096x4224, .bf16⟩
  | .hbm, ⟨3, _⟩ => ⟨S8704x4096, .f32⟩
  | .hbm, ⟨4, _⟩ => ⟨S_, .f32⟩
  | .hbm, ⟨5, _⟩ => ⟨S8704, .f32⟩
  | .hbm, ⟨6, _⟩ => ⟨S8704x1, .f32⟩
  | .hbm, ⟨7, _⟩ => ⟨S_, .f32⟩
  | .hbm, ⟨8, _⟩ => ⟨S8704x1, .f32⟩
  | .hbm, ⟨9, _⟩ => ⟨S8704x1, .f32⟩
  | .hbm, ⟨10, _⟩ => ⟨S_, .f32⟩
  | .hbm, ⟨11, _⟩ => ⟨S8704x1, .f32⟩
  | .hbm, ⟨12, _⟩ => ⟨S8704x1, .f32⟩
  | .hbm, ⟨13, _⟩ => ⟨S8704x1, .f32⟩
  | .hbm, ⟨14, _⟩ => ⟨S8704x4096, .f32⟩
  | .hbm, ⟨15, _⟩ => ⟨S8704x4096, .f32⟩
  | .hbm, ⟨16, _⟩ => ⟨S1x4096, .f32⟩
  | .hbm, ⟨17, _⟩ => ⟨S8704x4096, .f32⟩
  | .hbm, ⟨18, _⟩ => ⟨S8704x4096, .f32⟩
  | .hbm, ⟨19, _⟩ => ⟨S4096x4224, .f32⟩
  | .hbm, ⟨20, _⟩ => ⟨S8704x4224, .f32⟩
  | _, _ => ⟨S8704x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel3.lean ====
abbrev S8704x2048 : Shape := ⟨2, ![8704, 2048]⟩
abbrev S2x2048 : Shape := ⟨2, ![2, 2048]⟩
abbrev S4096x4096 : Shape := ⟨2, ![4096, 4096]⟩
abbrev S8704x4096 : Shape := ⟨2, ![8704, 4096]⟩
abbrev S1x2048 : Shape := ⟨2, ![1, 2048]⟩
abbrev S512x2048 : Shape := ⟨2, ![512, 2048]⟩
abbrev S4096x512 : Shape := ⟨2, ![4096, 512]⟩
abbrev S512x512 : Shape := ⟨2, ![512, 512]⟩
abbrev S512x4096 : Shape := ⟨2, ![512, 4096]⟩
abbrev S512 : Shape := ⟨1, ![512]⟩
abbrev S512x1 : Shape := ⟨2, ![512, 1]⟩

abbrev nBuf : Space → Nat
  | .hbm => 9
  | .vmem => 13
  | .smem => 0
  | _ => 0

abbrev bufTy : (tb : Table) → Fin (tcTables nBuf tb) → BufTy
  | .hbm, ⟨0, _⟩ => ⟨S8704x2048, .f32⟩
  | .hbm, ⟨1, _⟩ => ⟨S8704x2048, .f32⟩
  | .hbm, ⟨2, _⟩ => ⟨S2x2048, .f32⟩
  | .hbm, ⟨3, _⟩ => ⟨S4096x4096, .f32⟩
  | .hbm, ⟨4, _⟩ => ⟨S8704x4096, .f32⟩
  | .hbm, ⟨5, _⟩ => ⟨S1x2048, .f32⟩
  | .hbm, ⟨6, _⟩ => ⟨S1x2048, .f32⟩
  | .hbm, ⟨7, _⟩ => ⟨S4096x4096, .bf16⟩
  | .hbm, ⟨8, _⟩ => ⟨S8704x4096, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S1x2048, .f32⟩
  | .local _ .vmem, ⟨6, _⟩ => ⟨S4096x512, .bf16⟩
  | .local _ .vmem, ⟨7, _⟩ => ⟨S4096x512, .bf16⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x4096, .bf16⟩
  | _, _ => ⟨S8704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![17, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S4096x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference3Ideal.lean ====
abbrev S8704x2048 : Shape := ⟨2, ![8704, 2048]⟩
abbrev S2x2048 : Shape := ⟨2, ![2, 2048]⟩
abbrev S4096x4096 : Shape := ⟨2, ![4096, 4096]⟩
abbrev S8704x4096 : Shape := ⟨2, ![8704, 4096]⟩
abbrev S1x2048 : Shape := ⟨2, ![1, 2048]⟩
abbrev S2048 : Shape := ⟨1, ![2048]⟩
abbrev S_ : Shape := ⟨0, ![]⟩
abbrev S8704 : Shape := ⟨1, ![8704]⟩
abbrev S8704x1 : Shape := ⟨2, ![8704, 1]⟩

abbrev nBuf : Space → Nat
  | .hbm => 44
  | .vmem => 0
  | .smem => 0
  | _ => 0

abbrev bufTy : (tb : Table) → Fin (tcTables nBuf tb) → BufTy
  | .hbm, ⟨0, _⟩ => ⟨S8704x2048, .f32⟩
  | .hbm, ⟨1, _⟩ => ⟨S8704x2048, .f32⟩
  | .hbm, ⟨2, _⟩ => ⟨S2x2048, .f32⟩
  | .hbm, ⟨3, _⟩ => ⟨S4096x4096, .f32⟩
  | .hbm, ⟨4, _⟩ => ⟨S8704x4096, .f32⟩
  | .hbm, ⟨5, _⟩ => ⟨S1x2048, .f32⟩
  | .hbm, ⟨6, _⟩ => ⟨S2048, .f32⟩
  | .hbm, ⟨7, _⟩ => ⟨S8704x2048, .f32⟩
  | .hbm, ⟨8, _⟩ => ⟨S_, .f32⟩
  | .hbm, ⟨9, _⟩ => ⟨S8704, .f32⟩
  | .hbm, ⟨10, _⟩ => ⟨S8704x1, .f32⟩
  | .hbm, ⟨11, _⟩ => ⟨S_, .f32⟩
  | .hbm, ⟨12, _⟩ => ⟨S8704x1, .f32⟩
  | .hbm, ⟨13, _⟩ => ⟨S8704x1, .f32⟩
  | .hbm, ⟨14, _⟩ => ⟨S_, .f32⟩
  | .hbm, ⟨15, _⟩ => ⟨S8704x1, .f32⟩
  | .hbm, ⟨16, _⟩ => ⟨S8704x1, .f32⟩
  | .hbm, ⟨17, _⟩ => ⟨S8704x1, .f32⟩
  | .hbm, ⟨18, _⟩ => ⟨S8704x2048, .f32⟩
  | .hbm, ⟨19, _⟩ => ⟨S8704x2048, .f32⟩
  | .hbm, ⟨20, _⟩ => ⟨S1x2048, .f32⟩
  | .hbm, ⟨21, _⟩ => ⟨S8704x2048, .f32⟩
  | .hbm, ⟨22, _⟩ => ⟨S8704x2048, .f32⟩
  | .hbm, ⟨23, _⟩ => ⟨S1x2048, .f32⟩
  | .hbm, ⟨24, _⟩ => ⟨S2048, .f32⟩
  | .hbm, ⟨25, _⟩ => ⟨S8704x2048, .f32⟩
  | .hbm, ⟨26, _⟩ => ⟨S_, .f32⟩
  | .hbm, ⟨27, _⟩ => ⟨S8704, .f32⟩
  | .hbm, ⟨28, _⟩ => ⟨S8704x1, .f32⟩
  | .hbm, ⟨29, _⟩ => ⟨S_, .f32⟩
  | .hbm, ⟨30, _⟩ => ⟨S8704x1, .f32⟩
  | .hbm, ⟨31, _⟩ => ⟨S8704x1, .f32⟩
  | .hbm, ⟨32, _⟩ => ⟨S_, .f32⟩
  | .hbm, ⟨33, _⟩ => ⟨S8704x1, .f32⟩
  | .hbm, ⟨34, _⟩ => ⟨S8704x1, .f32⟩
  | .hbm, ⟨35, _⟩ => ⟨S8704x1, .f32⟩
  | .hbm, ⟨36, _⟩ => ⟨S8704x2048, .f32⟩
  | .hbm, ⟨37, _⟩ => ⟨S8704x2048, .f32⟩
  | .hbm, ⟨38, _⟩ => ⟨S1x2048, .f32⟩
  | .hbm, ⟨39, _⟩ => ⟨S8704x2048, .f32⟩
  | .hbm, ⟨40, _⟩ => ⟨S8704x2048, .f32⟩
  | .hbm, ⟨41, _⟩ => ⟨S8704x4096, .f32⟩
  | .hbm, ⟨42, _⟩ => ⟨S8704x4096, .f32⟩
  | .hbm, ⟨43, _⟩ => ⟨S8704x4096, .f32⟩
  | _, _ => ⟨S8704x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩

abbrev nD : Nat := 1
abbrev τ : Topo := Topo.v7x

variable {F : FTy → Type} [FloatOps F]
-- ==== Kernel4.lean ====
abbrev S8704x4096 : Shape := ⟨2, ![8704, 4096]⟩
abbrev S8704x256 : Shape := ⟨2, ![8704, 256]⟩
abbrev S256x4096 : Shape := ⟨2, ![256, 4096]⟩
abbrev S4096 : Shape := ⟨1, ![4096]⟩
abbrev S4096x4096 : Shape := ⟨2, ![4096, 4096]⟩
abbrev S1x4096 : Shape := ⟨2, ![1, 4096]⟩
abbrev S512x4096 : Shape := ⟨2, ![512, 4096]⟩
abbrev S512x512 : Shape := ⟨2, ![512, 512]⟩
abbrev S4096x512 : Shape := ⟨2, ![4096, 512]⟩
abbrev S512x256 : Shape := ⟨2, ![512, 256]⟩
abbrev S256x512 : Shape := ⟨2, ![256, 512]⟩
abbrev S512 : Shape := ⟨1, ![512]⟩
abbrev S512x1 : Shape := ⟨2, ![512, 1]⟩

abbrev nBuf : Space → Nat
  | .hbm => 10
  | .vmem => 14
  | .smem => 0
  | _ => 0

abbrev bufTy : (tb : Table) → Fin (tcTables nBuf tb) → BufTy
  | .hbm, ⟨0, _⟩ => ⟨S8704x4096, .f32⟩
  | .hbm, ⟨1, _⟩ => ⟨S8704x256, .f32⟩
  | .hbm, ⟨2, _⟩ => ⟨S256x4096, .f32⟩
  | .hbm, ⟨3, _⟩ => ⟨S4096, .f32⟩
  | .hbm, ⟨4, _⟩ => ⟨S4096x4096, .f32⟩
  | .hbm, ⟨5, _⟩ => ⟨S4096x4096, .bf16⟩
  | .hbm, ⟨6, _⟩ => ⟨S8704x256, .bf16⟩
  | .hbm, ⟨7, _⟩ => ⟨S256x4096, .bf16⟩
  | .hbm, ⟨8, _⟩ => ⟨S1x4096, .f32⟩
  | .hbm, ⟨9, _⟩ => ⟨S8704x4096, .f32⟩
  | .local _ .vmem, ⟨0, _⟩ => ⟨S512x4096, .f32⟩
  | .local _ .vmem, ⟨1, _⟩ => ⟨S512x4096, .f32⟩
  | .local _ .vmem, ⟨2, _⟩ => ⟨S512x512, .f32⟩
  | .local _ .vmem, ⟨3, _⟩ => ⟨S512x512, .f32⟩
  | .local _ .vmem, ⟨4, _⟩ => ⟨S1x4096, .f32⟩
  | .local _ .vmem, ⟨5, _⟩ => ⟨S4096x512, .bf16⟩
  | .local _ .vmem, ⟨6, _⟩ => ⟨S4096x512, .bf16⟩
  | .local _ .vmem, ⟨7, _⟩ => ⟨S512x256, .bf16⟩
  | .local _ .vmem, ⟨8, _⟩ => ⟨S512x256, .bf16⟩
  | .local _ .vmem, ⟨9, _⟩ => ⟨S256x512, .bf16⟩
  | .local _ .vmem, ⟨10, _⟩ => ⟨S256x512, .bf16⟩
  | .local _ .vmem, ⟨11, _⟩ => ⟨S512x512, .f32⟩
  | .local _ .vmem, ⟨12, _⟩ => ⟨S512x512, .f32⟩
  | .local _ .vmem, ⟨13, _⟩ => ⟨S512x4096, .bf16⟩
  | _, _ => ⟨S8704x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![17, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S4096x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference4Ideal.lean ====
abbrev S8704x4096 : Shape := ⟨2, ![8704, 4096]⟩
abbrev S8704x256 : Shape := ⟨2, ![8704, 256]⟩
abbrev S256x4096 : Shape := ⟨2, ![256, 4096]⟩
abbrev S4096 : Shape := ⟨1, ![4096]⟩
abbrev S4096x4096 : Shape := ⟨2, ![4096, 4096]⟩
abbrev S_ : Shape := ⟨0, ![]⟩
abbrev S8704 : Shape := ⟨1, ![8704]⟩
abbrev S8704x1 : Shape := ⟨2, ![8704, 1]⟩
abbrev S1x4096 : Shape := ⟨2, ![1, 4096]⟩

abbrev nBuf : Space → Nat
  | .hbm => 33
  | .vmem => 0
  | .smem => 0
  | _ => 0

abbrev bufTy : (tb : Table) → Fin (tcTables nBuf tb) → BufTy
  | .hbm, ⟨0, _⟩ => ⟨S8704x4096, .f32⟩
  | .hbm, ⟨1, _⟩ => ⟨S8704x256, .f32⟩
  | .hbm, ⟨2, _⟩ => ⟨S256x4096, .f32⟩
  | .hbm, ⟨3, _⟩ => ⟨S4096, .f32⟩
  | .hbm, ⟨4, _⟩ => ⟨S4096x4096, .f32⟩
  | .hbm, ⟨5, _⟩ => ⟨S8704x4096, .f32⟩
  | .hbm, ⟨6, _⟩ => ⟨S_, .f32⟩
  | .hbm, ⟨7, _⟩ => ⟨S8704, .f32⟩
  | .hbm, ⟨8, _⟩ => ⟨S8704x1, .f32⟩
  | .hbm, ⟨9, _⟩ => ⟨S_, .f32⟩
  | .hbm, ⟨10, _⟩ => ⟨S8704x1, .f32⟩
  | .hbm, ⟨11, _⟩ => ⟨S8704x1, .f32⟩
  | .hbm, ⟨12, _⟩ => ⟨S_, .f32⟩
  | .hbm, ⟨13, _⟩ => ⟨S8704x1, .f32⟩
  | .hbm, ⟨14, _⟩ => ⟨S8704x1, .f32⟩
  | .hbm, ⟨15, _⟩ => ⟨S8704x1, .f32⟩
  | .hbm, ⟨16, _⟩ => ⟨S8704x4096, .f32⟩
  | .hbm, ⟨17, _⟩ => ⟨S8704x4096, .f32⟩
  | .hbm, ⟨18, _⟩ => ⟨S1x4096, .f32⟩
  | .hbm, ⟨19, _⟩ => ⟨S8704x4096, .f32⟩
  | .hbm, ⟨20, _⟩ => ⟨S8704x4096, .f32⟩
  | .hbm, ⟨21, _⟩ => ⟨S8704x4096, .f32⟩
  | .hbm, ⟨22, _⟩ => ⟨S8704x4096, .f32⟩
  | .hbm, ⟨23, _⟩ => ⟨S8704x4096, .f32⟩
  | .hbm, ⟨24, _⟩ => ⟨S_, .f32⟩
  | .hbm, ⟨25, _⟩ => ⟨S8704x4096, .f32⟩
  | .hbm, ⟨26, _⟩ => ⟨S8704x4096, .f32⟩
  | .hbm, ⟨27, _⟩ => ⟨S_, .f32⟩
  | .hbm, ⟨28, _⟩ => ⟨S8704x4096, .f32⟩
  | .hbm, ⟨29, _⟩ => ⟨S8704x4096, .f32⟩
  | .hbm, ⟨30, _⟩ => ⟨S8704x4096, .f32⟩
  | .hbm, ⟨31, _⟩ => ⟨S8704x4096, .f32⟩
  | .hbm, ⟨32, _⟩ => ⟨S8704x4096, .f32⟩
  | _, _ => ⟨S8704x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩

abbrev nD : Nat := 1
abbrev τ : Topo := Topo.v7x

variable {F : FTy → Type} [FloatOps F]
-- ==== Kernel5.lean ====
abbrev S8704x4224 : Shape := ⟨2, ![8704, 4224]⟩
abbrev S2052x64 : Shape := ⟨2, ![2052, 64]⟩
abbrev S2052x32 : Shape := ⟨2, ![2052, 32]⟩
abbrev S896 : Shape := ⟨1, ![896]⟩
abbrev S320 : Shape := ⟨1, ![320]⟩
abbrev S896x16x192 : Shape := ⟨3, ![896, 16, 192]⟩
abbrev S320x16x128 : Shape := ⟨3, ![320, 16, 128]⟩
abbrev S2048x64 : Shape := ⟨2, ![2048, 64]⟩
abbrev S4x64 : Shape := ⟨2, ![4, 64]⟩
abbrev S1x4x1x64 : Shape := ⟨4, ![1, 4, 1, 64]⟩
abbrev S64x4x1x64 : Shape := ⟨4, ![64, 4, 1, 64]⟩
abbrev S256x64 : Shape := ⟨2, ![256, 64]⟩
abbrev S2304x64 : Shape := ⟨2, ![2304, 64]⟩
abbrev S2304x128 : Shape := ⟨2, ![2304, 128]⟩
abbrev S1x2304x1x128 : Shape := ⟨4, ![1, 2304, 1, 128]⟩
abbrev S2048x32 : Shape := ⟨2, ![2048, 32]⟩
abbrev S4x32 : Shape := ⟨2, ![4, 32]⟩
abbrev S1x4x1x32 : Shape := ⟨4, ![1, 4, 1, 32]⟩
abbrev S64x4x1x32 : Shape := ⟨4, ![64, 4, 1, 32]⟩
abbrev S256x32 : Shape := ⟨2, ![256, 32]⟩
abbrev S2304x32 : Shape := ⟨2, ![2304, 32]⟩
abbrev S1x2304x1x64 : Shape := ⟨4, ![1, 2304, 1, 64]⟩
abbrev S1x2304x2x64 : Shape := ⟨4, ![1, 2304, 2, 64]⟩
abbrev S896x16x128 : Shape := ⟨3, ![896, 16, 128]⟩
abbrev S896x2048 : Shape := ⟨2, ![896, 2048]⟩
abbrev S896x16x64 : Shape := ⟨3, ![896, 16, 64]⟩
abbrev S896x1024 : Shape := ⟨2, ![896, 1024]⟩
abbrev S896x3072 : Shape := ⟨2, ![896, 3072]⟩
abbrev S16x128x320 : Shape := ⟨3, ![16, 128, 320]⟩
abbrev S_ : Shape := ⟨0, ![]⟩
abbrev S16x128x384 : Shape := ⟨3, ![16, 128, 384]⟩
abbrev S384 : Shape := ⟨1, ![384]⟩
abbrev S1x384 : Shape := ⟨2, ![1, 384]⟩
abbrev S1x896 : Shape := ⟨2, ![1, 896]⟩
abbrev S8704x2048 : Shape := ⟨2, ![8704, 2048]⟩
abbrev S17408x128 : Shape := ⟨2, ![17408, 128]⟩
abbrev S8704x256 : Shape := ⟨2, ![8704, 256]⟩
abbrev S8704x128 : Shape := ⟨2, ![8704, 128]⟩
abbrev S8704x6144 : Shape := ⟨2, ![8704, 6144]⟩
abbrev S8704x384 : Shape := ⟨2, ![8704, 384]⟩
abbrev S256x4224 : Shape := ⟨2, ![256, 4224]⟩
abbrev S256x128 : Shape := ⟨2, ![256, 128]⟩
abbrev S256x2048 : Shape := ⟨2, ![256, 2048]⟩
abbrev S512x128 : Shape := ⟨2, ![512, 128]⟩
abbrev S256x256 : Shape := ⟨2, ![256, 256]⟩
abbrev S256x6144 : Shape := ⟨2, ![256, 6144]⟩
abbrev S256x384 : Shape := ⟨2, ![256, 384]⟩
abbrev S256 : Shape := ⟨1, ![256]⟩
abbrev S256x1 : Shape := ⟨2, ![256, 1]⟩
abbrev S256x896 : Shape := ⟨2, ![256, 896]⟩
abbrev S256x3072 : Shape := ⟨2, ![256, 3072]⟩
abbrev S1x128x384 : Shape := ⟨3, ![1, 128, 384]⟩
abbrev S128x384 : Shape := ⟨2, ![128, 384]⟩

abbrev nBuf : Space → Nat
  | .hbm => 77
  | .vmem => 34
  | .smem => 0
  | _ => 0

abbrev bufTy : (tb : Table) → Fin (tcTables nBuf tb) → BufTy
  | .hbm, ⟨0, _⟩ => ⟨S8704x4224, .f32⟩
  | .hbm, ⟨1, _⟩ => ⟨S2052x64, .f32⟩
  | .hbm, ⟨2, _⟩ => ⟨S2052x64, .f32⟩
  | .hbm, ⟨3, _⟩ => ⟨S2052x32, .f32⟩
  | .hbm, ⟨4, _⟩ => ⟨S2052x32, .f32⟩
  | .hbm, ⟨5, _⟩ => ⟨S896, .f32⟩
  | .hbm, ⟨6, _⟩ => ⟨S320, .f32⟩
  | .hbm, ⟨7, _⟩ => ⟨S896x16x192, .f32⟩
  | .hbm, ⟨8, _⟩ => ⟨S320x16x128, .f32⟩
  | .hbm, ⟨9, _⟩ => ⟨S2048x64, .f32⟩
  | .hbm, ⟨10, _⟩ => ⟨S4x64, .f32⟩
  | .hbm, ⟨11, _⟩ => ⟨S1x4x1x64, .f32⟩
  | .hbm, ⟨12, _⟩ => ⟨S64x4x1x64, .f32⟩
  | .hbm, ⟨13, _⟩ => ⟨S256x64, .f32⟩
  | .hbm, ⟨14, _⟩ => ⟨S2304x64, .f32⟩
  | .hbm, ⟨15, _⟩ => ⟨S2048x64, .f32⟩
  | .hbm, ⟨16, _⟩ => ⟨S4x64, .f32⟩
  | .hbm, ⟨17, _⟩ => ⟨S1x4x1x64, .f32⟩
  | .hbm, ⟨18, _⟩ => ⟨S64x4x1x64, .f32⟩
  | .hbm, ⟨19, _⟩ => ⟨S256x64, .f32⟩
  | .hbm, ⟨20, _⟩ => ⟨S2304x64, .f32⟩
  | .hbm, ⟨21, _⟩ => ⟨S2304x128, .f32⟩
  | .hbm, ⟨22, _⟩ => ⟨S1x2304x1x128, .f32⟩
  | .hbm, ⟨23, _⟩ => ⟨S1x2304x1x128, .f32⟩
  | .hbm, ⟨24, _⟩ => ⟨S2304x128, .f32⟩
  | .hbm, ⟨25, _⟩ => ⟨S2304x64, .f32⟩
  | .hbm, ⟨26, _⟩ => ⟨S2304x128, .f32⟩
  | .hbm, ⟨27, _⟩ => ⟨S1x2304x1x128, .f32⟩
  | .hbm, ⟨28, _⟩ => ⟨S1x2304x1x128, .f32⟩
  | .hbm, ⟨29, _⟩ => ⟨S2304x128, .f32⟩
  | .hbm, ⟨30, _⟩ => ⟨S2048x32, .f32⟩
  | .hbm, ⟨31, _⟩ => ⟨S4x32, .f32⟩
  | .hbm, ⟨32, _⟩ => ⟨S1x4x1x32, .f32⟩
  | .hbm, ⟨33, _⟩ => ⟨S64x4x1x32, .f32⟩
  | .hbm, ⟨34, _⟩ => ⟨S256x32, .f32⟩
  | .hbm, ⟨35, _⟩ => ⟨S2304x32, .f32⟩
  | .hbm, ⟨36, _⟩ => ⟨S2048x32, .f32⟩
  | .hbm, ⟨37, _⟩ => ⟨S4x32, .f32⟩
  | .hbm, ⟨38, _⟩ => ⟨S1x4x1x32, .f32⟩
  | .hbm, ⟨39, _⟩ => ⟨S64x4x1x32, .f32⟩
  | .hbm, ⟨40, _⟩ => ⟨S256x32, .f32⟩
  | .hbm, ⟨41, _⟩ => ⟨S2304x32, .f32⟩
  | .hbm, ⟨42, _⟩ => ⟨S2304x64, .f32⟩
  | .hbm, ⟨43, _⟩ => ⟨S1x2304x1x64, .f32⟩
  | .hbm, ⟨44, _⟩ => ⟨S1x2304x2x64, .f32⟩
  | .hbm, ⟨45, _⟩ => ⟨S2304x128, .f32⟩
  | .hbm, ⟨46, _⟩ => ⟨S2304x32, .f32⟩
  | .hbm, ⟨47, _⟩ => ⟨S2304x64, .f32⟩
  | .hbm, ⟨48, _⟩ => ⟨S1x2304x1x64, .f32⟩
  | .hbm, ⟨49, _⟩ => ⟨S1x2304x2x64, .f32⟩
  | .hbm, ⟨50, _⟩ => ⟨S2304x128, .f32⟩
  | .hbm, ⟨51, _⟩ => ⟨S896x16x128, .f32⟩
  | .hbm, ⟨52, _⟩ => ⟨S896x2048, .f32⟩
  | .hbm, ⟨53, _⟩ => ⟨S896x16x64, .f32⟩
  | .hbm, ⟨54, _⟩ => ⟨S896x1024, .f32⟩
  | .hbm, ⟨55, _⟩ => ⟨S896x3072, .f32⟩
  | .hbm, ⟨56, _⟩ => ⟨S896x3072, .bf16⟩
  | .hbm, ⟨57, _⟩ => ⟨S16x128x320, .f32⟩
  | .hbm, ⟨58, _⟩ => ⟨S_, .i32⟩
  | .hbm, ⟨59, _⟩ => ⟨S_, .f32⟩
  | .hbm, ⟨60, _⟩ => ⟨S16x128x384, .f32⟩
  | .hbm, ⟨61, _⟩ => ⟨S16x128x384, .bf16⟩
  | .hbm, ⟨62, _⟩ => ⟨S_, .i32⟩
  | .hbm, ⟨63, _⟩ => ⟨S_, .f32⟩
  | .hbm, ⟨64, _⟩ => ⟨S384, .f32⟩
  | .hbm, ⟨65, _⟩ => ⟨S1x384, .f32⟩
  | .hbm, ⟨66, _⟩ => ⟨S1x896, .f32⟩
  | .hbm, ⟨67, _⟩ => ⟨S8704x2048, .bf16⟩
  | .hbm, ⟨68, _⟩ => ⟨S17408x128, .f32⟩
  | .hbm, ⟨69, _⟩ => ⟨S17408x128, .f32⟩
  | .hbm, ⟨70, _⟩ => ⟨S17408x128, .f32⟩
  | .hbm, ⟨71, _⟩ => ⟨S8704x256, .bf16⟩
  | .hbm, ⟨72, _⟩ => ⟨S8704x256, .bf16⟩
  | .hbm, ⟨73, _⟩ => ⟨S8704x128, .f32⟩
  | .hbm, ⟨74, _⟩ => ⟨S8704x6144, .bf16⟩
  | .hbm, ⟨75, _⟩ => ⟨S8704x384, .f32⟩
  | .hbm, ⟨76, _⟩ => ⟨S8704x384, .bf16⟩
  | .local _ .vmem, ⟨0, _⟩ => ⟨S256x4224, .f32⟩
  | .local _ .vmem, ⟨1, _⟩ => ⟨S256x4224, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S1x896, .f32⟩
  | .local _ .vmem, ⟨11, _⟩ => ⟨S1x384, .f32⟩
  | .local _ .vmem, ⟨12, _⟩ => ⟨S896x3072, .bf16⟩
  | .local _ .vmem, ⟨13, _⟩ => ⟨S16x128x384, .bf16⟩
  | .local _ .vmem, ⟨14, _⟩ => ⟨S256x2048, .bf16⟩
  | .local _ .vmem, ⟨15, _⟩ => ⟨S256x2048, .bf16⟩
  | .local _ .vmem, ⟨16, _⟩ => ⟨S512x128, .f32⟩
  | .local _ .vmem, ⟨17, _⟩ => ⟨S512x128, .f32⟩
  | .local _ .vmem, ⟨18, _⟩ => ⟨S512x128, .f32⟩
  | .local _ .vmem, ⟨19, _⟩ => ⟨S512x128, .f32⟩
  | .local _ .vmem, ⟨20, _⟩ => ⟨S512x128, .f32⟩
  | .local _ .vmem, ⟨21, _⟩ => ⟨S512x128, .f32⟩
  | .local _ .vmem, ⟨22, _⟩ => ⟨S256x256, .bf16⟩
  | .local _ .vmem, ⟨23, _⟩ => ⟨S256x256, .bf16⟩
  | .local _ .vmem, ⟨24, _⟩ => ⟨S256x256, .bf16⟩
  | .local _ .vmem, ⟨25, _⟩ => ⟨S256x256, .bf16⟩
  | .local _ .vmem, ⟨26, _⟩ => ⟨S256x128, .f32⟩
  | .local _ .vmem, ⟨27, _⟩ => ⟨S256x128, .f32⟩
  | .local _ .vmem, ⟨28, _⟩ => ⟨S256x6144, .bf16⟩
  | .local _ .vmem, ⟨29, _⟩ => ⟨S256x6144, .bf16⟩
  | .local _ .vmem, ⟨30, _⟩ => ⟨S256x384, .f32⟩
  | .local _ .vmem, ⟨31, _⟩ => ⟨S256x384, .f32⟩
  | .local _ .vmem, ⟨32, _⟩ => ⟨S256x384, .bf16⟩
  | .local _ .vmem, ⟨33, _⟩ => ⟨S256x384, .bf16⟩
  | _, _ => ⟨S8704x4224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_c : Ref sig .tc := ⟨.hbm, 58, rfl⟩
abbrev main_call0_v0 : Ref sig .tc := ⟨.hbm, 59, rfl⟩
abbrev main_v49 : Ref sig .tc := ⟨.hbm, 60, rfl⟩
abbrev main_v50 : Ref sig .tc := ⟨.hbm, 61, rfl⟩
abbrev main_c_0 : Ref sig .tc := ⟨.hbm, 62, rfl⟩
abbrev main_call1_v0 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54_0 : Ref sig .tc := ⟨.hbm, 67, rfl⟩
abbrev main_v54_1 : Ref sig .tc := ⟨.hbm, 68, rfl⟩
abbrev main_v54_2 : Ref sig .tc := ⟨.hbm, 69, rfl⟩
abbrev main_v54_3 : Ref sig .tc := ⟨.hbm, 70, rfl⟩
abbrev main_v54_4 : Ref sig .tc := ⟨.hbm, 71, rfl⟩
abbrev main_v54_5 : Ref sig .tc := ⟨.hbm, 72, rfl⟩
abbrev main_v54_6 : Ref sig .tc := ⟨.hbm, 73, rfl⟩
abbrev main_v54_7 : Ref sig .tc := ⟨.hbm, 74, rfl⟩
abbrev main_v54_8 : Ref sig .tc := ⟨.hbm, 75, rfl⟩
abbrev main_v54_9 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg17_1 : Ref sig .tc := ⟨.vmem, 31, rfl⟩
abbrev cc0_stg18_0 : Ref sig .tc := ⟨.vmem, 32, rfl⟩
abbrev cc0_stg18_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30
abbrev cc0_sem17_1 : DmaSem sig := 31
abbrev cc0_sem18_0 : DmaSem sig := 32
abbrev cc0_sem18_1 : DmaSem sig := 33

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 1 := Scalar.cmpi .slt arg0 c32_i32
  let c8_i32 : BitVec 32 := 8#32
  let c0_i32 : BitVec 32 := 0#32
  let v1 : BitVec 1 := Scalar.cmpi .eq c8_i32 c0_i32
  let c1_i32 : BitVec 32 := 1#32
  let v2 : BitVec 32 := Scalar.select v1 c1_i32 c8_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c8_i32_3 : BitVec 32 := 8#32
  let v11 : BitVec 32 := Scalar.select v0 v10 c8_i32_3
  let c0_i32_4 : BitVec 32 := 0#32
  let c0_i32_5 : BitVec 32 := 0#32
  ![v11.toNat, c0_i32_4.toNat]

def cc0_transform_2 (i : grid0.Coords) : Fin 2 → Nat :=
  let arg0 : BitVec 32 := BitVec.ofNat 32 (i 0).val
  let c32_i32 : BitVec 32 := 32#32
  let v0 : BitVec 1 := Scalar.cmpi .slt arg0 c32_i32
  let c8_i32 : BitVec 32 := 8#32
  let c0_i32 : BitVec 32 := 0#32
  let v1 : BitVec 1 := Scalar.cmpi .eq c8_i32 c0_i32
  let c1_i32 : BitVec 32 := 1#32
  let v2 : BitVec 32 := Scalar.select v1 c1_i32 c8_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c8_i32_3 : BitVec 32 := 8#32
  let v11 : BitVec 32 := Scalar.select v0 v10 c8_i32_3
  let c0_i32_4 : BitVec 32 := 0#32
  let c0_i32_5 : BitVec 32 := 0#32
  ![v11.toNat, c0_i32_4.toNat]

def cc0_transform_3 (i : grid0.Coords) : Fin 2 → Nat :=
  let arg0 : BitVec 32 := BitVec.ofNat 32 (i 0).val
  let c32_i32 : BitVec 32 := 32#32
  let v0 : BitVec 1 := Scalar.cmpi .slt arg0 c32_i32
  let c8_i32 : BitVec 32 := 8#32
  let c0_i32 : BitVec 32 := 0#32
  let v1 : BitVec 1 := Scalar.cmpi .eq c8_i32 c0_i32
  let c1_i32 : BitVec 32 := 1#32
  let v2 : BitVec 32 := Scalar.select v1 c1_i32 c8_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c8_i32_3 : BitVec 32 := 8#32
  let v11 : BitVec 32 := Scalar.select v0 v10 c8_i32_3
  let c0_i32_4 : BitVec 32 := 0#32
  let c0_i32_5 : BitVec 32 := 0#32
  ![v11.toNat, c0_i32_4.toNat]

def cc0_transform_4 (i : grid0.Coords) : Fin 2 → Nat :=
  let arg0 : BitVec 32 := BitVec.ofNat 32 (i 0).val
  let c32_i32 : BitVec 32 := 32#32
  let v0 : BitVec 1 := Scalar.cmpi .slt arg0 c32_i32
  let c8_i32 : BitVec 32 := 8#32
  let c0_i32 : BitVec 32 := 0#32
  let v1 : BitVec 1 := Scalar.cmpi .eq c8_i32 c0_i32
  let c1_i32 : BitVec 32 := 1#32
  let v2 : BitVec 32 := Scalar.select v1 c1_i32 c8_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c8_i32_3 : BitVec 32 := 8#32
  let v11 : BitVec 32 := Scalar.select v0 v10 c8_i32_3
  let c0_i32_4 : BitVec 32 := 0#32
  let c0_i32_5 : BitVec 32 := 0#32
  ![v11.toNat, c0_i32_4.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4224 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x896 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S896x3072 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S16x128x384 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x6144 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x384 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x384 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== Reference5Ideal.lean ====
abbrev S8704x4224 : Shape := ⟨2, ![8704, 4224]⟩
abbrev S2052x64 : Shape := ⟨2, ![2052, 64]⟩
abbrev S2052x32 : Shape := ⟨2, ![2052, 32]⟩
abbrev S896 : Shape := ⟨1, ![896]⟩
abbrev S320 : Shape := ⟨1, ![320]⟩
abbrev S896x16x192 : Shape := ⟨3, ![896, 16, 192]⟩
abbrev S320x16x128 : Shape := ⟨3, ![320, 16, 128]⟩
abbrev S2052x192 : Shape := ⟨2, ![2052, 192]⟩
abbrev S2048x192 : Shape := ⟨2, ![2048, 192]⟩
abbrev S1x2048x1x192 : Shape := ⟨4, ![1, 2048, 1, 192]⟩
abbrev S4x2048x1x192 : Shape := ⟨4, ![4, 2048, 1, 192]⟩
abbrev S8192x192 : Shape := ⟨2, ![8192, 192]⟩
abbrev S4x192 : Shape := ⟨2, ![4, 192]⟩
abbrev S1x4x1x192 : Shape := ⟨4, ![1, 4, 1, 192]⟩
abbrev S128x4x1x192 : Shape := ⟨4, ![128, 4, 1, 192]⟩
abbrev S512x192 : Shape := ⟨2, ![512, 192]⟩
abbrev S8704x192 : Shape := ⟨2, ![8704, 192]⟩
abbrev S8704x64 : Shape := ⟨2, ![8704, 64]⟩
abbrev S8704x32 : Shape := ⟨2, ![8704, 32]⟩
abbrev S8704x768 : Shape := ⟨2, ![8704, 768]⟩
abbrev S8704x3x2x128 : Shape := ⟨4, ![8704, 3, 2, 128]⟩
abbrev S8704x2048 : Shape := ⟨2, ![8704, 2048]⟩
abbrev S8704x16x128 : Shape := ⟨3, ![8704, 16, 128]⟩
abbrev S8704x3x1x128 : Shape := ⟨4, ![8704, 3, 1, 128]⟩
abbrev S8704x3x128 : Shape := ⟨3, ![8704, 3, 128]⟩
abbrev S8704x19x128 : Shape := ⟨3, ![8704, 19, 128]⟩
abbrev S8704x19x64 : Shape := ⟨3, ![8704, 19, 64]⟩
abbrev S8704x320 : Shape := ⟨2, ![8704, 320]⟩
abbrev S_ : Shape := ⟨0, ![]⟩
abbrev S8704 : Shape := ⟨1, ![8704]⟩
abbrev S8704x1 : Shape := ⟨2, ![8704, 1]⟩
abbrev S1x320 : Shape := ⟨2, ![1, 320]⟩
abbrev S8704x384 : Shape := ⟨2, ![8704, 384]⟩
abbrev S8704x1x2x128 : Shape := ⟨4, ![8704, 1, 2, 128]⟩
abbrev S17408x128 : Shape := ⟨2, ![17408, 128]⟩
abbrev S8704x256 : Shape := ⟨2, ![8704, 256]⟩
abbrev S8704x128 : Shape := ⟨2, ![8704, 128]⟩
abbrev S8704x896 : Shape := ⟨2, ![8704, 896]⟩
abbrev S1x896 : Shape := ⟨2, ![1, 896]⟩
abbrev S8704x16x192 : Shape := ⟨3, ![8704, 16, 192]⟩
abbrev S16x320x8704 : Shape := ⟨3, ![16, 320, 8704]⟩
abbrev S8704x16x320 : Shape := ⟨3, ![8704, 16, 320]⟩
abbrev S8704x16x64 : Shape := ⟨3, ![8704, 16, 64]⟩
abbrev S8704x16x32 : Shape := ⟨3, ![8704, 16, 32]⟩
abbrev S8704x16x384 : Shape := ⟨3, ![8704, 16, 384]⟩
abbrev S8704x6144 : Shape := ⟨2, ![8704, 6144]⟩

abbrev nBuf : Space → Nat
  | .hbm => 138
  | .vmem => 0
  | .smem => 0
  | _ => 0

abbrev hbmTy0_0 (i : Nat) : BufTy := match i % 128 with
  | 0 => ⟨S8704x4224, .f32⟩
  | 1 => ⟨S2052x64, .f32⟩
  | 2 => ⟨S2052x64, .f32⟩
  | 3 => ⟨S2052x32, .f32⟩
  | 4 => ⟨S2052x32, .f32⟩
  | 5 => ⟨S896, .f32⟩
  | 6 => ⟨S320, .f32⟩
  | 7 => ⟨S896x16x192, .f32⟩
  | 8 => ⟨S320x16x128, .f32⟩
  | 9 => ⟨S2052x192, .f32⟩
  | 10 => ⟨S2048x192, .f32⟩
  | 11 => ⟨S1x2048x1x192, .f32⟩
  | 12 => ⟨S4x2048x1x192, .f32⟩
  | 13 => ⟨S8192x192, .f32⟩
  | 14 => ⟨S4x192, .f32⟩
  | 15 => ⟨S1x4x1x192, .f32⟩
  | 16 => ⟨S128x4x1x192, .f32⟩
  | 17 => ⟨S512x192, .f32⟩
  | 18 => ⟨S8704x192, .f32⟩
  | 19 => ⟨S8704x64, .f32⟩
  | 20 => ⟨S8704x64, .f32⟩
  | 21 => ⟨S8704x32, .f32⟩
  | 22 => ⟨S8704x32, .f32⟩
  | 23 => ⟨S8704x768, .f32⟩
  | 24 => ⟨S8704x3x2x128, .f32⟩
  | 25 => ⟨S8704x2048, .f32⟩
  | 26 => ⟨S8704x16x128, .f32⟩
  | 27 => ⟨S8704x3x1x128, .f32⟩
  | 28 => ⟨S8704x3x128, .f32⟩
  | 29 => ⟨S8704x19x128, .f32⟩
  | 30 => ⟨S8704x19x64, .f32⟩
  | 31 => ⟨S8704x19x64, .f32⟩
  | 32 => ⟨S8704x19x64, .f32⟩
  | 33 => ⟨S8704x19x64, .f32⟩
  | 34 => ⟨S8704x19x64, .f32⟩
  | 35 => ⟨S8704x19x64, .f32⟩
  | 36 => ⟨S8704x19x64, .f32⟩
  | 37 => ⟨S8704x19x64, .f32⟩
  | 38 => ⟨S8704x19x64, .f32⟩
  | 39 => ⟨S8704x19x64, .f32⟩
  | 40 => ⟨S8704x19x128, .f32⟩
  | 41 => ⟨S8704x3x128, .f32⟩
  | 42 => ⟨S8704x3x1x128, .f32⟩
  | 43 => ⟨S8704x3x1x128, .f32⟩
  | 44 => ⟨S8704x3x2x128, .f32⟩
  | 45 => ⟨S8704x320, .f32⟩
  | 46 => ⟨S8704x320, .f32⟩
  | 47 => ⟨S_, .f32⟩
  | 48 => ⟨S8704, .f32⟩
  | 49 => ⟨S8704x1, .f32⟩
  | 50 => ⟨S_, .f32⟩
  | 51 => ⟨S8704x1, .f32⟩
  | 52 => ⟨S8704x1, .f32⟩
  | 53 => ⟨S_, .f32⟩
  | 54 => ⟨S8704x1, .f32⟩
  | 55 => ⟨S8704x1, .f32⟩
  | 56 => ⟨S8704x1, .f32⟩
  | 57 => ⟨S8704x320, .f32⟩
  | 58 => ⟨S8704x320, .f32⟩
  | 59 => ⟨S1x320, .f32⟩
  | 60 => ⟨S8704x320, .f32⟩
  | 61 => ⟨S8704x320, .f32⟩
  | 62 => ⟨S8704x64, .f32⟩
  | 63 => ⟨S8704x32, .f32⟩
  | 64 => ⟨S8704x32, .f32⟩
  | 65 => ⟨S8704x32, .f32⟩
  | 66 => ⟨S8704x32, .f32⟩
  | 67 => ⟨S8704x32, .f32⟩
  | 68 => ⟨S8704x32, .f32⟩
  | 69 => ⟨S8704x32, .f32⟩
  | 70 => ⟨S8704x32, .f32⟩
  | 71 => ⟨S8704x64, .f32⟩
  | 72 => ⟨S8704x384, .f32⟩
  | 73 => ⟨S8704x1x2x128, .f32⟩
  | 74 => ⟨S17408x128, .f32⟩
  | 75 => ⟨S8704x1x2x128, .f32⟩
  | 76 => ⟨S17408x128, .f32⟩
  | 77 => ⟨S8704x1x2x128, .f32⟩
  | 78 => ⟨S17408x128, .f32⟩
  | 79 => ⟨S8704x16x128, .f32⟩
  | 80 => ⟨S_, .f32⟩
  | 81 => ⟨S8704x16x128, .f32⟩
  | 82 => ⟨S8704x16x128, .f32⟩
  | 83 => ⟨S8704x2048, .f32⟩
  | 84 => ⟨S8704x2048, .bf16⟩
  | 85 => ⟨S8704x256, .f32⟩
  | 86 => ⟨S8704x256, .bf16⟩
  | 87 => ⟨S8704x256, .f32⟩
  | 88 => ⟨S8704x256, .bf16⟩
  | 89 => ⟨S8704x128, .f32⟩
  | 90 => ⟨S8704x128, .f32⟩
  | 91 => ⟨S8704x128, .f32⟩
  | 92 => ⟨S_, .f32⟩
  | 93 => ⟨S8704x128, .f32⟩
  | 94 => ⟨S8704x128, .f32⟩
  | 95 => ⟨S_, .f32⟩
  | 96 => ⟨S8704x128, .f32⟩
  | 97 => ⟨S8704x128, .f32⟩
  | 98 => ⟨S8704x896, .f32⟩
  | 99 => ⟨S8704x896, .f32⟩
  | 100 => ⟨S_, .f32⟩
  | 101 => ⟨S8704, .f32⟩
  | 102 => ⟨S8704x1, .f32⟩
  | 103 => ⟨S_, .f32⟩
  | 104 => ⟨S8704x1, .f32⟩
  | 105 => ⟨S8704x1, .f32⟩
  | 106 => ⟨S_, .f32⟩
  | 107 => ⟨S8704x1, .f32⟩
  | 108 => ⟨S8704x1, .f32⟩
  | 109 => ⟨S8704x1, .f32⟩
  | 110 => ⟨S8704x896, .f32⟩
  | 111 => ⟨S8704x896, .f32⟩
  | 112 => ⟨S1x896, .f32⟩
  | 113 => ⟨S8704x896, .f32⟩
  | 114 => ⟨S8704x896, .f32⟩
  | 115 => ⟨S8704x16x192, .f32⟩
  | 116 => ⟨S8704x16x128, .f32⟩
  | 117 => ⟨S16x320x8704, .f32⟩
  | 118 => ⟨S8704x16x320, .f32⟩
  | 119 => ⟨S8704x16x64, .f32⟩
  | 120 => ⟨S8704x16x32, .f32⟩
  | 121 => ⟨S8704x16x32, .f32⟩
  | 122 => ⟨S8704x16x32, .f32⟩
  | 123 => ⟨S8704x16x32, .f32⟩
  | 124 => ⟨S8704x16x32, .f32⟩
  | 125 => ⟨S8704x16x32, .f32⟩
  | 126 => ⟨S8704x16x32, .f32⟩
  | 127 => ⟨S8704x16x32, .f32⟩
  | _ => ⟨S8704x4224, .f32⟩

abbrev hbmTy0_1 (i : Nat) : BufTy := match i % 128 with
  | 0 => ⟨S8704x16x32, .f32⟩
  | 1 => ⟨S8704x16x32, .f32⟩
  | 2 => ⟨S8704x16x64, .f32⟩
  | 3 => ⟨S8704x16x384, .f32⟩
  | 4 => ⟨S_, .f32⟩
  | 5 => ⟨S8704x16x384, .f32⟩
  | 6 => ⟨S8704x16x384, .f32⟩
  | 7 => ⟨S8704x6144, .f32⟩
  | 8 => ⟨S8704x6144, .bf16⟩
  | 9 => ⟨S8704x384, .bf16⟩
  | _ => ⟨S8704x4224, .f32⟩

abbrev hbmTy (i : Nat) : BufTy := match i / 128 with
  | 0 => hbmTy0_0 i
  | 1 => hbmTy0_1 i
  | _ => ⟨S8704x4224, .f32⟩

abbrev bufTy : (tb : Table) → Fin (tcTables nBuf tb) → BufTy
  | .hbm, ⟨i, _⟩ => hbmTy i
  | _, _ => ⟨S8704x4224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_cst : Ref sig .tc := ⟨.hbm, 47, rfl⟩
abbrev main_v38 : Ref sig .tc := ⟨.hbm, 48, rfl⟩
abbrev main_v39 : Ref sig .tc := ⟨.hbm, 49, rfl⟩
abbrev main_cst_0 : Ref sig .tc := ⟨.hbm, 50, rfl⟩
abbrev main_v40 : Ref sig .tc := ⟨.hbm, 51, rfl⟩
abbrev main_v41 : Ref sig .tc := ⟨.hbm, 52, rfl⟩
abbrev main_cst_1 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_cst_2 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_cst_3 : Ref sig .tc := ⟨.hbm, 92, rfl⟩
abbrev main_v79 : Ref sig .tc := ⟨.hbm, 93, rfl⟩
abbrev main_v80 : Ref sig .tc := ⟨.hbm, 94, rfl⟩
abbrev main_cst_4 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_cst_5 : Ref sig .tc := ⟨.hbm, 100, rfl⟩
abbrev main_v85 : Ref sig .tc := ⟨.hbm, 101, rfl⟩
abbrev main_v86 : Ref sig .tc := ⟨.hbm, 102, rfl⟩
abbrev main_cst_6 : Ref sig .tc := ⟨.hbm, 103, rfl⟩
abbrev main_v87 : Ref sig .tc := ⟨.hbm, 104, rfl⟩
abbrev main_v88 : Ref sig .tc := ⟨.hbm, 105, rfl⟩
abbrev main_cst_7 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_cst_8 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩

abbrev nD : Nat := 1
abbrev τ : Topo := Topo.v7x

variable {F : FTy → Type} [FloatOps F]
-- ==== Kernel6.lean ====
abbrev S8704x4096 : Shape := ⟨2, ![8704, 4096]⟩
abbrev S4096 : Shape := ⟨1, ![4096]⟩
abbrev S1x4096 : Shape := ⟨2, ![1, 4096]⟩
abbrev S512x4096 : Shape := ⟨2, ![512, 4096]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S8704x4096, .f32⟩
  | .hbm, ⟨1, _⟩ => ⟨S4096, .f32⟩
  | .hbm, ⟨2, _⟩ => ⟨S1x4096, .f32⟩
  | .hbm, ⟨3, _⟩ => ⟨S8704x4096, .f32⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S512x4096, .f32⟩
  | .local _ .vmem, ⟨4, _⟩ => ⟨S512x4096, .f32⟩
  | _, _ => ⟨S8704x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference6Ideal.lean ====
abbrev S8704x4096 : Shape := ⟨2, ![8704, 4096]⟩
abbrev S4096 : Shape := ⟨1, ![4096]⟩
abbrev S_ : Shape := ⟨0, ![]⟩
abbrev S8704 : Shape := ⟨1, ![8704]⟩
abbrev S8704x1 : Shape := ⟨2, ![8704, 1]⟩
abbrev S1x4096 : Shape := ⟨2, ![1, 4096]⟩

abbrev nBuf : Space → Nat
  | .hbm => 18
  | .vmem => 0
  | .smem => 0
  | _ => 0

abbrev bufTy : (tb : Table) → Fin (tcTables nBuf tb) → BufTy
  | .hbm, ⟨0, _⟩ => ⟨S8704x4096, .f32⟩
  | .hbm, ⟨1, _⟩ => ⟨S4096, .f32⟩
  | .hbm, ⟨2, _⟩ => ⟨S8704x4096, .f32⟩
  | .hbm, ⟨3, _⟩ => ⟨S_, .f32⟩
  | .hbm, ⟨4, _⟩ => ⟨S8704, .f32⟩
  | .hbm, ⟨5, _⟩ => ⟨S8704x1, .f32⟩
  | .hbm, ⟨6, _⟩ => ⟨S_, .f32⟩
  | .hbm, ⟨7, _⟩ => ⟨S8704x1, .f32⟩
  | .hbm, ⟨8, _⟩ => ⟨S8704x1, .f32⟩
  | .hbm, ⟨9, _⟩ => ⟨S_, .f32⟩
  | .hbm, ⟨10, _⟩ => ⟨S8704x1, .f32⟩
  | .hbm, ⟨11, _⟩ => ⟨S8704x1, .f32⟩
  | .hbm, ⟨12, _⟩ => ⟨S8704x1, .f32⟩
  | .hbm, ⟨13, _⟩ => ⟨S8704x4096, .f32⟩
  | .hbm, ⟨14, _⟩ => ⟨S8704x4096, .f32⟩
  | .hbm, ⟨15, _⟩ => ⟨S1x4096, .f32⟩
  | .hbm, ⟨16, _⟩ => ⟨S8704x4096, .f32⟩
  | .hbm, ⟨17, _⟩ => ⟨S8704x4096, .f32⟩
  | _, _ => ⟨S8704x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Proof.Online.lean ====
/-
  The mathematics of a softmax taken chunk by chunk, on the extended reals.

  A row of scores `s 0, s 1, …` and a row of values `v 0, v 1, …` are given. `top s n` is the greatest of the first `n`
  scores (`⊥` for none), `mass s n` the sum of `exp (s k - top s n)` over them and `blend s v n` the same sum weighted by
  the values. The theorems say how the three pass from `n` to `n + w` scores (`top_add`, `mass_add`, `blend_add`), that
  scores `⊥` (masked keys) change nothing (`top_mono_bot`, …), and that dividing each weight before summing is dividing the
  weighted sum (`sum_div_mul`).
-/
module

public import Idealize.ShloMosaic.PureOps.Ideal.Laws

@[expose] public section

noncomputable section

namespace Cert.Online

open Idealize.ShloMosaic
open scoped BigOperators

/-! ## The exponential of a difference -/

/-- The exponential of `⊥` is zero. -/
theorem exp_bot : Ideal.exp ⊥ = 0 := rfl

/-- Subtracting anything from `⊥` leaves `⊥`. -/
theorem bot_sub (x : EReal) : (⊥ : EReal) - x = ⊥ := by rw [sub_eq_add_neg, EReal.bot_add]

/-- Subtracting `⊤` from anything gives `⊥`. -/
theorem sub_top (x : EReal) : x - (⊤ : EReal) = ⊥ := by rw [sub_eq_add_neg, EReal.neg_top, EReal.add_bot]

/-- The exponential of a difference whose second member is the greater is a non-negative real. -/
theorem exp_sub_real (a b : EReal) (h : a ≤ b) : ∃ r : ℝ, 0 ≤ r ∧ Ideal.exp (a - b) = (r : EReal) := by
  induction b with
  | bot =>
    rw [le_bot_iff.mp h, bot_sub]
    exact ⟨0, le_refl 0, rfl⟩
  | top => rw [sub_top]; exact ⟨0, le_refl 0, rfl⟩
  | coe y =>
    induction a with
    | bot => rw [bot_sub]; exact ⟨0, le_refl 0, rfl⟩
    | top => exact absurd (top_le_iff.mp h) (EReal.coe_ne_top y)
    | coe x => exact ⟨Real.exp (x - y), (Real.exp_pos _).le, rfl⟩

/-- Rescaling: a weight taken against an old maximum, times the weight of the old maximum against the new one, is the
    weight against the new maximum. It holds at every extended real. -/
theorem exp_rescale (a b d : EReal) (hab : a ≤ b) (hbd : b ≤ d) :
    Ideal.exp (b - d) * Ideal.exp (a - b) = Ideal.exp (a - d) := by
  induction a with
  | bot => rw [bot_sub, bot_sub, exp_bot, mul_zero]
  | top =>
    obtain rfl := top_le_iff.mp hab
    rw [top_le_iff.mp hbd, sub_top, exp_bot, mul_zero]
  | coe x =>
    induction d with
    | bot => exact absurd (le_bot_iff.mp (hab.trans hbd)) (EReal.coe_ne_bot x)
    | top => rw [sub_top, sub_top, exp_bot, zero_mul]
    | coe z =>
      induction b with
      | bot => exact absurd (le_bot_iff.mp hab) (EReal.coe_ne_bot x)
      | top => exact absurd (top_le_iff.mp hbd) (EReal.coe_ne_top z)
      | coe y =>
        show ((Real.exp (y - z) : ℝ) : EReal) * ((Real.exp (x - y) : ℝ) : EReal) = ((Real.exp (x - z) : ℝ) : EReal)
        rw [← EReal.coe_mul, ← Real.exp_add]
        congr 2; ring

/-! ## A constant factor over a sum -/

/-- A non-negative factor other than `⊤` distributes over a finite sum. -/
theorem mul_sum {ι : Type} (x : EReal) (h0 : 0 ≤ x) (ht : x ≠ ⊤) (I : Finset ι) (f : ι → EReal) :
    x * ∑ i ∈ I, f i = ∑ i ∈ I, x * f i := by
  classical
  induction I using Finset.induction_on with
  | empty => simp
  | insert a I ha ih =>
    rw [Finset.sum_insert ha, Finset.sum_insert ha, EReal.left_distrib_of_nonneg_of_ne_top h0 ht, ih]

/-- Dividing every weight by a positive number before the weighted sum is dividing the weighted sum. -/
theorem sum_div_mul {ι : Type} (I : Finset ι) (e v : ι → EReal) (d : EReal) (hd : 0 < d) :
    ∑ i ∈ I, Ideal.div (e i) d * v i = Ideal.div (∑ i ∈ I, e i * v i) d := by
  have hne : d ≠ 0 := hd.ne'
  have hinv : 0 ≤ d⁻¹ ∧ d⁻¹ ≠ ⊤ := by
    induction d with
    | bot => exact absurd hd (not_lt_bot)
    | top => rw [EReal.inv_top]; exact ⟨le_refl 0, EReal.zero_ne_top⟩
    | coe r =>
      rw [← EReal.coe_inv]
      exact ⟨EReal.coe_nonneg.mpr (inv_nonneg.mpr (EReal.coe_pos.mp hd).le), EReal.coe_ne_top _⟩
  unfold Ideal.div
  simp only [if_neg hne]
  rw [mul_comm _ d⁻¹, mul_sum _ hinv.1 hinv.2]
  refine Finset.sum_congr rfl fun i _ => ?_
  rw [mul_comm (e i) d⁻¹, mul_assoc]

/-! ## The three running quantities -/

/-- The greatest of the first `n` scores. -/
def top (s : ℕ → EReal) (n : ℕ) : EReal := (Finset.range n).sup s
/-- The sum of the first `n` weights, taken against their greatest score. -/
def mass (s : ℕ → EReal) (n : ℕ) : EReal := ∑ k ∈ Finset.range n, Ideal.exp (s k - top s n)
/-- The weighted sum of the first `n` values. -/
def blend (s v : ℕ → EReal) (n : ℕ) : EReal := ∑ k ∈ Finset.range n, Ideal.exp (s k - top s n) * v k

theorem top_zero (s : ℕ → EReal) : top s 0 = ⊥ := rfl
theorem mass_zero (s : ℕ → EReal) : mass s 0 = 0 := rfl
theorem blend_zero (s v : ℕ → EReal) : blend s v 0 = 0 := rfl

/-- Every one of the first `n` scores is at most the greatest. -/
theorem le_top (s : ℕ → EReal) {n k : ℕ} (h : k < n) : s k ≤ top s n :=
  Finset.le_sup (f := s) (Finset.mem_range.mpr h)

/-- The greatest of a family indexed by `Fin n`, as a fold of `max` from `⊥`, is the running maximum. -/
theorem fold_eq_top (s : ℕ → EReal) (n : ℕ) :
    (Finset.univ : Finset (Fin n)).fold max ⊥ (fun k => s k.val) = top s n := by
  show (Finset.univ : Finset (Fin n)).sup (fun k => s k.val) = (Finset.range n).sup s
  refine le_antisymm (Finset.sup_le fun k _ => Finset.le_sup (f := s) (Finset.mem_range.mpr k.isLt))
    (Finset.sup_le fun k hk => ?_)
  exact Finset.le_sup (f := fun k : Fin n => s k.val) (Finset.mem_univ (⟨k, Finset.mem_range.mp hk⟩ : Fin n))

/-- The maximum of the first `n + w` scores is that of the first `n` and that of the `w` after them. -/
theorem top_add (s : ℕ → EReal) (n w : ℕ) :
    top s (n + w) = max (top s n) ((Finset.univ : Finset (Fin w)).fold max ⊥ fun j => s (n + j.val)) := by
  rw [fold_eq_top (fun j => s (n + j)) w]
  unfold top
  refine le_antisymm (Finset.sup_le fun k hk => ?_) (max_le (Finset.sup_le fun k hk => ?_) (Finset.sup_le fun k hk => ?_))
  · have hk' := Finset.mem_range.mp hk
    by_cases h : k < n
    · exact le_max_of_le_left (Finset.le_sup (f := s) (Finset.mem_range.mpr h))
    · refine le_max_of_le_right ?_
      have := Finset.le_sup (f := fun j => s (n + j)) (Finset.mem_range.mpr (show k - n < w by omega))
      simpa [show n + (k - n) = k by omega] using this
  · exact Finset.le_sup (f := s) (Finset.mem_range.mpr (by have := Finset.mem_range.mp hk; omega))
  · exact Finset.le_sup (f := s) (Finset.mem_range.mpr (by have := Finset.mem_range.mp hk; omega))

theorem top_le_add (s : ℕ → EReal) (n w : ℕ) : top s n ≤ top s (n + w) := by
  rw [top_add]; exact le_max_left _ _

/-- The weight of the old maximum against the new one is non-negative and not `⊤`. -/
theorem scale_ok (s : ℕ → EReal) (n w : ℕ) :
    0 ≤ Ideal.exp (top s n - top s (n + w)) ∧ Ideal.exp (top s n - top s (n + w)) ≠ ⊤ := by
  obtain ⟨r, hr, he⟩ := exp_sub_real _ _ (top_le_add s n w)
  rw [he]; exact ⟨EReal.coe_nonneg.mpr hr, EReal.coe_ne_top r⟩

/-- The mass of the first `n + w` scores: the old mass rescaled, plus the weights of the `w` new scores. -/
theorem mass_add (s : ℕ → EReal) (n w : ℕ) :
    mass s (n + w) = Ideal.exp (top s n - top s (n + w)) * mass s n
      + ∑ j : Fin w, Ideal.exp (s (n + j.val) - top s (n + w)) := by
  have h := scale_ok s n w
  unfold mass
  rw [Finset.sum_range_add, mul_sum _ h.1 h.2, Finset.sum_range (fun j => Ideal.exp (s (n + j) - top s (n + w)))]
  refine congrArg (· + _) (Finset.sum_congr rfl fun k hk => ?_)
  exact (exp_rescale _ _ _ (le_top s (Finset.mem_range.mp hk)) (top_le_add s n w)).symm

/-- The weighted sum over the first `n + w` scores: the old one rescaled, plus the `w` new terms. -/
theorem blend_add (s v : ℕ → EReal) (n w : ℕ) :
    blend s v (n + w) = Ideal.exp (top s n - top s (n + w)) * blend s v n
      + ∑ j : Fin w, Ideal.exp (s (n + j.val) - top s (n + w)) * v (n + j.val) := by
  have h := scale_ok s n w
  unfold blend
  rw [Finset.sum_range_add, mul_sum _ h.1 h.2, Finset.sum_range (fun j => Ideal.exp (s (n + j) - top s (n + w)) * v (n + j))]
  refine congrArg (· + _) (Finset.sum_congr rfl fun k hk => ?_)
  rw [← mul_assoc, exp_rescale _ _ _ (le_top s (Finset.mem_range.mp hk)) (top_le_add s n w)]

/-! ## Masked scores change nothing -/

/-- Past `n`, scores `⊥` leave the maximum as it was. -/
theorem top_of_bot (s : ℕ → EReal) {n N : ℕ} (hn : n ≤ N) (h : ∀ k, n ≤ k → k < N → s k = ⊥) : top s N = top s n := by
  refine le_antisymm (Finset.sup_le fun k hk => ?_) (Finset.sup_le fun k hk => ?_)
  · have hk' := Finset.mem_range.mp hk
    by_cases hkn : k < n
    · exact le_top s hkn
    · rw [h k (by omega) hk']; exact bot_le
  · exact le_top s (by have := Finset.mem_range.mp hk; omega)

/-- … the mass … -/
theorem mass_of_bot (s : ℕ → EReal) {n N : ℕ} (hn : n ≤ N) (h : ∀ k, n ≤ k → k < N → s k = ⊥) : mass s N = mass s n := by
  unfold mass
  rw [top_of_bot s hn h]
  symm
  refine Finset.sum_subset (Finset.range_mono hn) fun k hk hk' => ?_
  rw [h k (by simpa using hk') (Finset.mem_range.mp hk), bot_sub, exp_bot]

/-- … and the weighted sum. -/
theorem blend_of_bot (s v : ℕ → EReal) {n N : ℕ} (hn : n ≤ N) (h : ∀ k, n ≤ k → k < N → s k = ⊥) :
    blend s v N = blend s v n := by
  unfold blend
  rw [top_of_bot s hn h]
  symm
  refine Finset.sum_subset (Finset.range_mono hn) fun k hk hk' => ?_
  rw [h k (by simpa using hk') (Finset.mem_range.mp hk), bot_sub, exp_bot, zero_mul]

end Cert.Online

end
-- ==== Proof.Trips.lean ====
/-
  How often the attention kernel's loops turn and where their chunks lie, at query block `i 1`: with `n = 128 * (i 1)` queries
  before the block, the first loop takes the `(n + 1) / 512` chunks every query of the block may see whole, the second the
  rest up to the block's last query; each of the two loops' remainders takes none.
-/
module

public import proofs.«01_k».proof.Proof.Gen.KernelIdeal.Frame
public import Idealize.ShloMosaic.Lib.ValueIdxCore

@[expose] public section

set_option maxRecDepth 16384

noncomputable section

namespace Cert.Trips

open Cert.KernelIdeal Cert.KernelIdeal.Gen Idealize.ShloMosaic Idealize.ShloMosaic.Tactic

/-- The number of whole chunks. -/
def full (i : grid0.Coords) : ℕ := (128 * (i 1).val + 1) / 512

theorem trips1 : ∀ i : grid0.Coords, (k0_t1_loop i).trips = full i := by decide +kernel
theorem trips2 : ∀ i : grid0.Coords, (k0_t2_loop i).trips = 0 := by decide +kernel
theorem trips3 : ∀ i : grid0.Coords, full i + (k0_t3_loop i).trips = (128 * (i 1).val + 639) / 512 := by decide +kernel
theorem trips4 : ∀ i : grid0.Coords, (k0_t4_loop i).trips = 0 := by decide +kernel

/-- The second loop's chunk number, times 512, as a word. -/
theorem chunk3 : ∀ (i : grid0.Coords) (k : Fin (k0_t3_loop i).trips),
    Scalar.muli (Scf.iv (k0_t3_loop i).lb 1#32 k) 512#32 = BitVec.ofNat 32 (512 * (full i + k.val)) := by decide +kernel

/-- Where the second loop's chunk lies. -/
theorem off3 : ∀ (i : grid0.Coords) (k : Fin (k0_t3_loop i).trips), k0_off3 i k = ![512 * (full i + k.val), 0] := by decide +kernel

/-- A small word read as a signed integer. -/
theorem toInt_small (n : ℕ) (h : n < 2 ^ 31) : (BitVec.ofNat 32 n).toInt = n := by
  rw [BitVec.toInt_eq_toNat_of_lt] <;> rw [BitVec.toNat_ofNat, Nat.mod_eq_of_lt (by omega)]
  omega

/-- The mask's comparison: key `n + j` against query `q` of block `b`. -/
theorem mask_word (n j b q : ℕ) (hn : n + j < 2 ^ 31) (hb : b * 128 + q < 2 ^ 31) :
    IntOp.cmpi CmpIPredicate.sle (IntOp.addi (BitVec.ofNat 32 n) (BitVec.ofNat 32 j))
      (IntOp.addi (Scalar.muli (BitVec.ofNat 32 b) 128#32) (BitVec.ofNat 32 q))
      = if n + j ≤ 128 * b + q then 1#1 else 0#1 := by
  rw [show IntOp.addi (BitVec.ofNat 32 n) (BitVec.ofNat 32 j) = BitVec.ofNat 32 (n + j) from (BitVec.ofNat_add n j).symm,
    show IntOp.addi (Scalar.muli (BitVec.ofNat 32 b) 128#32) (BitVec.ofNat 32 q) = BitVec.ofNat 32 (b * 128 + q) from by
      rw [BitVec.ofNat_add, BitVec.ofNat_mul]; rfl]
  have h1 := IntOp.cmpi_sle (x := BitVec.ofNat 32 (n + j)) (y := BitVec.ofNat 32 (b * 128 + q))
  rw [toInt_small _ hn, toInt_small _ hb] at h1
  split
  · exact h1.mpr (by omega)
  · exact ValueIdx.eq_zero_of_ne_one fun hh => absurd (h1.mp hh) (by omega)

end Cert.Trips

end
-- ==== Proof.Rows.lean ====
/-
  What one chunk of 512 keys does to the state of the attention kernel's loops.

  A block of 128 queries of 16 heads is held as 2048 rows `Q` (row `h * 128 + q` is query `q` of head `h`); the sequence's
  2048 latent rows are `X`, its keys and values at once. `sc Q X b r` are row `r`'s scores, `⊥` at the keys after the
  row's own position `b + r % 128`; `St Q X b n S` says that the carried triple `S` holds the running maximum, mass and
  weighted sum of the first `n` keys (Online.lean). `step_plain` and `step_masked` take a triple from `n` to `n + 512`.
-/
module

public import proofs.«01_k».proof.Proof.Online
public import proofs.«01_k».proof.Proof.Trips
public import Idealize.ShloMosaic.Lib.Pointwise

@[expose] public section

set_option maxRecDepth 16384

noncomputable section

namespace Cert.Rows

open Cert.KernelIdeal Cert.KernelIdeal.Gen Idealize.ShloMosaic Idealize.ShloMosaic.Tactic Cert.Online
open scoped BigOperators

/-- The product of query row `r` and latent row `k`. -/
def dot (Q X : FVec Ideal S2048x384 .bf16) (r k : Fin 2048) : EReal := ∑ e : Fin 384, Q (ix2 r e) * X (ix2 k e)

/-- Row `r`'s scores by key: the product at a key the row may see, `⊥` at a later one. -/
def sc (Q X : FVec Ideal S2048x384 .bf16) (b : ℕ) (r : Fin 2048) (k : ℕ) : EReal :=
  if h : k < 2048 then (if k ≤ b + r.val % 128 then dot Q X r ⟨k, h⟩ else ⊥) else ⊥

/-- Column `d` of the values, by key. -/
def vl (X : FVec Ideal S2048x384 .bf16) (d : Fin 384) (k : ℕ) : EReal := if h : k < 2048 then X (ix2 ⟨k, h⟩ d) else 0

/-- The row of query `q` of head `h`. -/
def row (h : Fin 16) (q : Fin 128) : Fin 2048 := ⟨h.val * 128 + q.val, by omega⟩

/-- The head of a row, and its query. -/
def hd (r : Fin 2048) : Fin 16 := ⟨r.val / 128, by omega⟩
def qr (r : Fin 2048) : Fin 128 := ⟨r.val % 128, by omega⟩

theorem row_hd_qr (r : Fin 2048) : row (hd r) (qr r) = r :=
  Fin.ext (by show r.val / 128 * 128 + r.val % 128 = r.val; omega)

/-- The carried triple holds the three running quantities of the first `n` keys, row by row. -/
structure St (Q X : FVec Ideal S2048x384 .bf16) (b n : ℕ)
    (S : FVec Ideal S16x128x1 .f32 × FVec Ideal S16x128x1 .f32 × FVec Ideal S2048x384 .f32) : Prop where
  hm : ∀ h q, S.1 (ix3 h q 0) = top (sc Q X b (row h q)) n
  hl : ∀ h q, S.2.1 (ix3 h q 0) = mass (sc Q X b (row h q)) n
  ha : ∀ r d, S.2.2 (ix2 r d) = blend (sc Q X b r) (vl X d) n

/-- The named mask is `⊥`. -/
theorem mask_bot : (Named.named (F := Ideal) (φ := .f32) κ "mask" 0xF149F2CA#32 : EReal) = ⊥ := rfl

/-- The bit pattern of minus infinity is `⊥`. -/
theorem neg_inf : Ideal.ofBits FTy.f32 0xFF800000#32 = ⊥ := by
  simp [Ideal.ofBits, Ideal.ieee]

/-- Before the first key the triple is (mask, 0, 0). -/
theorem start (Q X : FVec Ideal S2048x384 .bf16) (b : ℕ) : St Q X b 0 (k0_pay12, k0_pay13, k0_pay14) where
  hm h q := by rw [top_zero]; pointwise [k0_pay12]; exact mask_bot
  hl h q := by rw [mass_zero]; pointwise [k0_pay13]
  ha r d := by rw [blend_zero]; pointwise [k0_pay14]

/-! ## The step, from what the chunk's scores are -/

/-- The step of the three quantities from scores `s`, whichever payload states them: used for both loops. -/
theorem step_of (Q X : FVec Ideal S2048x384 .bf16) (b n : ℕ) (hn : n + 512 ≤ 2048)
    (S S' : FVec Ideal S16x128x1 .f32 × FVec Ideal S16x128x1 .f32 × FVec Ideal S2048x384 .f32)
    (s : FVec Ideal S16x128x512 .f32) (V : FVec Ideal S512x384 .bf16)
    (hV : ∀ (j : Fin 512) (e : Fin 384), V (ix2 j e) = X (ix2 ⟨n + j.val, by omega⟩ e))
    (hs : ∀ h q (j : Fin 512), s (ix3 h q j) = sc Q X b (row h q) (n + j.val))
    (hm : ∀ h q, S'.1 (ix3 h q 0) = max (S.1 (ix3 h q 0))
      ((Finset.univ : Finset (Fin 512)).fold max ⊥ fun j => s (ix3 h q j)))
    (hl : ∀ h q, S'.2.1 (ix3 h q 0) = Ideal.exp (S.1 (ix3 h q 0) - S'.1 (ix3 h q 0)) * S.2.1 (ix3 h q 0)
      + ∑ j : Fin 512, Ideal.exp (s (ix3 h q j) - S'.1 (ix3 h q 0)))
    (ha : ∀ (r : Fin 2048) (d : Fin 384), S'.2.2 (ix2 r d)
      = Ideal.exp (S.1 (ix3 (hd r) (qr r) 0) - S'.1 (ix3 (hd r) (qr r) 0)) * S.2.2 (ix2 r d)
        + ∑ j : Fin 512, Ideal.exp (s (ix3 (hd r) (qr r) j) - S'.1 (ix3 (hd r) (qr r) 0)) * V (ix2 j d))
    (hS : St Q X b n S) : St Q X b (n + 512) S' := by
  have em : ∀ h q, S'.1 (ix3 h q 0) = top (sc Q X b (row h q)) (n + 512) := fun h q => by
    rw [hm, hS.hm, top_add]; simp only [hs]
  refine ⟨em, fun h q => ?_, fun r d => ?_⟩
  · rw [hl, hS.hm, em, hS.hl, mass_add]; simp only [hs]
  · have hr : row (hd r) (qr r) = r := row_hd_qr r
    rw [ha, hS.hm, em, hS.ha, hr, blend_add]
    refine congrArg₂ (· + ·) rfl (Finset.sum_congr rfl fun j _ => ?_)
    rw [hs, hV, hr]
    congr 1
    unfold vl
    rw [dif_pos (show n + j.val < 2048 by omega)]

theorem row_mod (h : Fin 16) (q : Fin 128) : (row h q).val % 128 = q.val := by simp only [row]; omega

/-! ## A chunk every query of the block may see whole -/

/-- One trip of the first loop. -/
theorem step_plain (Q X : FVec Ideal S2048x384 .bf16) (b n : ℕ) (hn : n + 512 ≤ 2048) (hb : n + 511 ≤ b)
    (S : FVec Ideal S16x128x1 .f32 × FVec Ideal S16x128x1 .f32 × FVec Ideal S2048x384 .f32) (V : FVec Ideal S512x384 .bf16)
    (hV : ∀ (j : Fin 512) (e : Fin 384), V (ix2 j e) = X (ix2 ⟨n + j.val, by omega⟩ e))
    (hS : St Q X b n S) :
    St Q X b (n + 512) (k0_pay16 Q S.1 V, k0_pay19 Q S.1 S.2.1 V, k0_pay20 Q S.1 S.2.2 V) := by
  refine step_of Q X b n hn S _ (k0_pay15 Q V) V hV (fun h q j => ?_) (fun h q => ?_) (fun h q => ?_) (fun r d => ?_) hS
  · pointwise [k0_pay15]
    unfold sc dot
    rw [dif_pos (show n + j.val < 2048 by omega), if_pos (by omega)]
    simp only [hV]; rfl
  · pointwise [k0_pay16]
    rw [neg_inf]
  · pointwise [k0_pay19, k0_pay17, k0_pay18]
  · pointwise [k0_pay20, k0_pay17, k0_pay18]
    rfl

/-! ## A chunk masked to the keys at or before each query -/

/-- One trip of the second loop: its chunk is number `a`, where the loop starts from chunk `f`. -/
theorem step_masked (i : grid0.Coords) (f : BitVec 32) (k : Fin (k0_t3_loop i).trips) (Q X : FVec Ideal S2048x384 .bf16) (n : ℕ)
    (hn : n + 512 ≤ 2048) (hf : Scalar.muli (Scf.iv f 1#32 k) 512#32 = BitVec.ofNat 32 n)
    (S : FVec Ideal S16x128x1 .f32 × FVec Ideal S16x128x1 .f32 × FVec Ideal S2048x384 .f32) (V : FVec Ideal S512x384 .bf16)
    (hV : ∀ (j : Fin 512) (e : Fin 384), V (ix2 j e) = X (ix2 ⟨n + j.val, by omega⟩ e))
    (hS : St Q X (128 * (i 1).val) n S) :
    St Q X (128 * (i 1).val) (n + 512) (k0_pay28 i Q (k0_pay11 i) f k S.1 V, k0_pay31 i Q (k0_pay11 i) f k S.1 S.2.1 V,
      k0_pay32 i Q (k0_pay11 i) f k S.1 S.2.2 V) := by
  have hi : (i 1).val < 16 := (i 1).isLt
  refine step_of Q X _ n hn S _ (k0_pay27 i Q (k0_pay11 i) f k V) V hV (fun h q j => ?_) (fun h q => ?_) (fun h q => ?_)
    (fun r d => ?_) hS
  · pointwise [k0_pay27, k0_pay11]
    rw [hf, mask_bot]
    rw [Trips.mask_word n j.val (i 1).val q.val (by omega) (by omega)]
    unfold sc dot
    rw [dif_pos (show n + j.val < 2048 by omega), row_mod]
    by_cases hc : n + j.val ≤ 128 * (i 1).val + q.val
    · rw [if_pos hc, if_pos hc]
      show _ + (0 : EReal) = _
      rw [add_zero]
      simp only [hV]; rfl
    · rw [if_neg hc, if_neg hc]
      show _ + (⊥ : EReal) = _
      exact EReal.add_bot _
  · pointwise [k0_pay28]
    rw [neg_inf]
  · pointwise [k0_pay31, k0_pay29, k0_pay30]
  · pointwise [k0_pay32, k0_pay29, k0_pay30]
    rfl

/-- What the kernel stores: the weighted sum over the mass, which it keeps from being zero. -/
theorem finish (Q X : FVec Ideal S2048x384 .bf16) (b n : ℕ)
    (S : FVec Ideal S16x128x1 .f32 × FVec Ideal S16x128x1 .f32 × FVec Ideal S2048x384 .f32) (hS : St Q X b n S)
    (r : Fin 2048) (d : Fin 384) :
    k0_pay39 S.2.1 S.2.2 (ix2 r d)
      = Ideal.div (blend (sc Q X b r) (vl X d) n) (max (mass (sc Q X b r) n) (Ideal.ofBits .f32 0x0DA24260#32)) := by
  have hl := hS.hl (hd r) (qr r)
  rw [row_hd_qr] at hl
  rw [← hS.ha, ← hl]
  pointwise [k0_pay39]
  rfl

end Cert.Rows

end
-- ==== Proof.Loops.lean ====
/-
  The attention kernel's loops, run over its chunks of keys: the carried triple holds the running quantities (Rows.lean) of
  the keys the chunks so far have covered, so after the last chunk of the second loop it holds those of every key up to the
  block's last query, rounded up to a chunk.
-/
module

public import proofs.«01_k».proof.Proof.Rows
public import proofs.«01_k».proof.Proof.Trips
public import Idealize.ShloMosaic.Lib.Pipeline.ValueKit

@[expose] public section

set_option maxRecDepth 16384

noncomputable section

namespace Cert.Loops

open Cert.KernelIdeal Cert.KernelIdeal.Gen Idealize.ShloMosaic Idealize.ShloMosaic.Tactic Cert.Rows Cert.Trips

variable (c : Dev nD) (i : grid0.Coords) (arg2 : Memref sig .tc .vmem S128x6144 .bf16) (harg2 : arg2.IsWhole)
  (arg3 : Memref sig .tc .vmem S2048x384 .bf16) (harg3 : arg3.IsWhole) (arg4 : Memref sig .tc .vmem S128x6144 .bf16)
  (harg4 : arg4.IsWhole) (Q : FVec Ideal S2048x384 .bf16) (v58 : BitVec 32) (v59 v60 : FVec Ideal S16x128x1 .f32)
  (v61 : FVec Ideal S2048x384 .f32) (c0 v62 : BitVec 32) (X : FVec Ideal S2048x384 .bf16)
  (init : FVec Ideal S16x128x1 .f32 × FVec Ideal S16x128x1 .f32 × FVec Ideal S2048x384 .f32)

/-- A load of the 512 rows from row `n` reads those rows. -/
theorem load_rows (n : ℕ) (hn : n + 512 ≤ 2048) (off : Fin 2 → ℕ) (inb : ∀ a, off a + S512x384.size a ≤ S2048x384.size a)
    (h : off = ![n, 0]) (j : Fin 512) (e : Fin 384) :
    View.readAt (Elt Ideal) arg3.view (Rect.unit (s := S2048x384) off S512x384.size inb).toLoadRect (harg3.unread X) (ix2 j e)
      = X (ix2 ⟨n + j.val, by omega⟩ e) := by
  subst h
  rw [View.readAt_eq_ld, harg3.read_unread]
  refine View.ld_unit_apply_of (Val := Elt Ideal) (e := .bf16) X _ _ inb (ix2 j e) (ix2 ⟨n + j.val, _⟩ e) fun a => ?_
  match a with
  | ⟨0, _⟩ => rfl
  | ⟨1, _⟩ => exact (Nat.zero_add _).symm

theorem full_le : full i ≤ 3 := by
  have hi : (i 1).val < 16 := (i 1).isLt
  unfold full; omega

/-- The first loop, after `k` trips. -/
theorem loop1 (v20 : IVec S128x1 32) (v38 : BitVec 32) (h0 : St Q X (128 * (i 1).val) 0 init) :
    ∀ k : ℕ, k ≤ (k0_t1_loop i).trips → St Q X (128 * (i 1).val) (512 * k)
      (st_k0_t1 Variants.none c none i arg2 harg2 arg3 harg3 arg4 harg4 Q v20 v38 v58 v59 v60 v61 c0 v62 (harg3.unread X) init k)
  | 0, _ => h0
  | k + 1, hk => by
    have hi : (i 1).val < 16 := (i 1).isLt
    have hf : full i ≤ 3 := full_le i
    have ht := trips1 i
    have hk' : k < full i := by omega
    have hfull : full i = (128 * (i 1).val + 1) / 512 := rfl
    rw [st_k0_t1_succ Variants.none c none i arg2 harg2 arg3 harg3 arg4 harg4 Q v20 v38 v58 v59 v60 v61 c0 v62 (harg3.unread X) init
      ⟨k, hk⟩]
    unfold tripR_k0_t1 trip_k0_t1
    dsimp only
    exact step_plain Q X (128 * (i 1).val) (512 * k) (by omega) (by omega) _ _
      (load_rows arg3 harg3 X (512 * k) (by omega) _ _ (k0_off1_eq i ⟨k, hk⟩)) (loop1 v20 v38 h0 k (by omega))

/-- The second loop, after `k` trips. -/
theorem loop3 (h0 : St Q X (128 * (i 1).val) (512 * full i) init) :
    ∀ k : ℕ, k ≤ (k0_t3_loop i).trips → St Q X (128 * (i 1).val) (512 * (full i + k))
      (st_k0_t3 Variants.none c none i arg2 harg2 arg3 harg3 arg4 harg4 Q (k0_pay11 i) (k0_t3_loop i).lb v58 v59 v60 v61 c0 v62
        (harg3.unread X) init k)
  | 0, _ => h0
  | k + 1, hk => by
    have hi : (i 1).val < 16 := (i 1).isLt
    have ht := trips3 i
    rw [st_k0_t3_succ Variants.none c none i arg2 harg2 arg3 harg3 arg4 harg4 Q (k0_pay11 i) (k0_t3_loop i).lb v58 v59 v60 v61 c0 v62
      (harg3.unread X) init ⟨k, hk⟩]
    unfold tripR_k0_t3 trip_k0_t3
    dsimp only
    exact step_masked i (k0_t3_loop i).lb ⟨k, hk⟩ Q X (512 * (full i + k)) (by omega) (chunk3 i ⟨k, hk⟩) _ _
      (load_rows arg3 harg3 X (512 * (full i + k)) (by omega) _ _ (off3 i ⟨k, hk⟩)) (loop3 h0 k (by omega))

end Cert.Loops

end
-- ==== Proof.Queries.lean ====
/-
  The attention kernel's query rows: the sixteen heads' column blocks of its query block, laid one under another.
-/
module

public import proofs.«01_k».proof.Proof.Rows
public import proofs.«01_k».proof.Proof.Trips
public import Idealize.ShloMosaic.Lib.Pipeline.ValueKit

@[expose] public section

set_option maxRecDepth 16384

noncomputable section

namespace Cert.Queries

open Cert.KernelIdeal Cert.KernelIdeal.Gen Idealize.ShloMosaic Idealize.ShloMosaic.Tactic Cert.Rows

/-- Head `n`'s column block of the query block. -/
def headOf (x0 : FVec Ideal S128x6144 .bf16) (n : Fin 16) : FVec Ideal S128x384 .bf16 :=
  fun i => x0 (ix2 (i 0) ⟨384 * n.val + (i 1).val, by have : (i 1).val < 384 := (i 1).isLt; omega⟩)

/-- The query rows: row `r` is query `r % 128` of head `r / 128`. -/
def rows (x0 : FVec Ideal S128x6144 .bf16) : FVec Ideal S2048x384 .bf16 := fun j => headOf x0 (hd (j 0)) (ix2 (qr (j 0)) (j 1))

/-- Sixteen blocks laid one under another, read at a row. -/
theorem stacked (f : Fin 16 → FVec Ideal S128x384 .bf16) (j : S2048x384.Idx) :
    k0_pay10 (F := Ideal) (f 0) (f 1) (f 2) (f 3) (f 4) (f 5) (f 6) (f 7) (f 8) (f 9) (f 10) (f 11) (f 12) (f 13) (f 14) (f 15) j
      = f (hd (j 0)) (ix2 (qr (j 0)) (j 1)) := by
  unfold k0_pay10
  exact concatenate_ofFn_apply (t := S2048x384) (s₁ := S128x384) 0 f _ rfl 128 rfl j (hd (j 0)) rfl (ix2 (qr (j 0)) (j 1)) rfl (fun b hb => by
    match b with
    | ⟨0, _⟩ => exact absurd rfl hb
    | ⟨1, _⟩ => rfl)

/-- One of the kernel's loads of its query block. -/
theorem load (arg2 : Memref sig .tc .vmem S128x6144 .bf16) (harg2 : arg2.IsWhole) (x0 : FVec Ideal S128x6144 .bf16)
    (n : Fin 16) (off : Fin 2 → ℕ) (inb : ∀ a, off a + S128x384.size a ≤ S128x6144.size a) (h : off = ![0, 384 * n.val]) :
    View.readAt (Elt Ideal) arg2.view (Rect.unit (s := S128x6144) off S128x384.size inb).toLoadRect (harg2.unread x0) = headOf x0 n := by
  subst h
  rw [View.readAt_eq_ld, harg2.read_unread]
  funext x
  refine View.ld_unit_apply_of (Val := Elt Ideal) (e := .bf16) x0 _ _ inb x (ix2 (x 0) ⟨384 * n.val + (x 1).val, _⟩) fun a => ?_
  match a with
  | ⟨0, _⟩ => exact (Nat.zero_add _).symm
  | ⟨1, _⟩ => rfl

/-- What the kernel's queries are. -/
theorem queries (c : Dev nD) (arg2 : Memref sig .tc .vmem S128x6144 .bf16) (harg2 : arg2.IsWhole) (x0 : FVec Ideal S128x6144 .bf16) :
    kernelRun0_A.sl.r c arg2 harg2 x0 = rows x0 := by
  have e : kernelRun0_A.sl.r c arg2 harg2 x0 = k0_pay10 (F := Ideal) (headOf x0 0) (headOf x0 1) (headOf x0 2) (headOf x0 3) (headOf x0 4)
      (headOf x0 5) (headOf x0 6) (headOf x0 7) (headOf x0 8) (headOf x0 9) (headOf x0 10) (headOf x0 11) (headOf x0 12)
      (headOf x0 13) (headOf x0 14) (headOf x0 15) := by
    unfold kernelRun0_A.sl.r
    congr 1 <;> exact load arg2 harg2 x0 _ _ _ rfl
  rw [e]
  funext j
  exact stacked (headOf x0) j

end Cert.Queries

end
-- ==== Proof.Block.lean ====
/-
  What the attention kernel leaves in one block of its result: every row's weighted sum of the values over its mass, both
  taken over all 2048 keys with the later keys' scores at `⊥`.
-/
module

public import proofs.«01_k».proof.Proof.Loops
public import proofs.«01_k».proof.Proof.Queries
public import proofs.«01_k».proof.Proof.Gen.KernelIdeal.Value

@[expose] public section

set_option maxRecDepth 16384

noncomputable section

namespace Cert.Block

open Cert.KernelIdeal Cert.KernelIdeal.Gen Idealize.ShloMosaic Idealize.ShloMosaic.Tactic Cert.Rows Cert.Trips Cert.Loops
  Cert.Queries Cert.Online

/-- Row `r`'s result in column `d`. -/
def rowOut (Q X : FVec Ideal S2048x384 .bf16) (b : ℕ) (r : Fin 2048) (d : Fin 384) : EReal :=
  Ideal.div (blend (sc Q X b r) (vl X d) 2048) (max (mass (sc Q X b r) 2048) (Ideal.ofBits .f32 0x0DA24260#32))

/-- The result block of rows `V`: head `n`'s rows in columns `384 n` to `384 n + 383`. -/
def spread (V : Fin 2048 → Fin 384 → EReal) (y : S128x6144.Idx) : EReal :=
  V (row ⟨(y 1).val / 384, by have : (y 1).val < 6144 := (y 1).isLt; omega⟩ (y 0)) ⟨(y 1).val % 384, by omega⟩

/-- Keys past the block's last query weigh nothing, so the quantities of the covered keys are those of all. -/
theorem rowOut_of (Q X : FVec Ideal S2048x384 .bf16) (b n : ℕ) (hn : n ≤ 2048) (hb : b + 128 ≤ n)
    (S : FVec Ideal S16x128x1 .f32 × FVec Ideal S16x128x1 .f32 × FVec Ideal S2048x384 .f32) (hS : St Q X b n S)
    (r : Fin 2048) (d : Fin 384) : k0_pay39 S.2.1 S.2.2 (ix2 r d) = rowOut Q X b r d := by
  rw [finish Q X b n S hS]
  have hbot : ∀ k, n ≤ k → k < 2048 → sc Q X b r k = ⊥ := fun k h1 h2 => by
    unfold sc; rw [dif_pos h2, if_neg (by omega)]
  unfold rowOut
  rw [blend_of_bot _ _ hn hbot, mass_of_bot _ hn hbot]

/-- One stored piece: a head's 128 rows. -/
theorem piece (Z : FVec Ideal S2048x384 .bf16) (V : Fin 2048 → Fin 384 → EReal) (hZ : ∀ r d, Z (ix2 r d) = V r d) (n : Fin 16)
    (p : FVec Ideal S128x384 .bf16) (hp : ∀ q e, p (ix2 q e) = Z (ix2 (row n q) e)) (off : Fin 2 → ℕ)
    (inb : ∀ a, off a + S128x384.size a ≤ S128x6144.size a) (h : off = ![0, 384 * n.val]) (x : S128x384.Idx) :
    p x = spread V ((Rect.unit (s := S128x6144) off S128x384.size inb).emb x) := by
  subst h
  obtain ⟨q, e, rfl⟩ : ∃ (q : Fin 128) (e : Fin 384), x = ix2 q e := ⟨x 0, x 1, by funext a; match a with | ⟨0, _⟩ => rfl | ⟨1, _⟩ => rfl⟩
  rw [hp, hZ]
  unfold spread
  have h0 : ((Rect.unit (s := S128x6144) ![0, 384 * n.val] S128x384.size inb).emb (ix2 q e) 0).val = q.val :=
    (Rect.idx_unit_val _ _ inb _ 0).trans (Nat.zero_add _)
  have h1 : ((Rect.unit (s := S128x6144) ![0, 384 * n.val] S128x384.size inb).emb (ix2 q e) 1).val = 384 * n.val + e.val :=
    Rect.idx_unit_val _ _ inb _ 1
  congr 1
  · apply Fin.ext
    show n.val * 128 + q.val = (Fin.val _) / 384 * 128 + Fin.val _
    rw [h0, h1]; omega
  · apply Fin.ext
    show e.val = (Fin.val _) % 384
    rw [h1]; omega

/-! Each stored piece is one head's rows of the divided sums. -/

theorem cut0 (m : FVec Ideal S16x128x1 .f32) (a : FVec Ideal S2048x384 .f32) (q : Fin 128) (e : Fin 384) :
    k0_pay40 m a (ix2 q e) = k0_pay39 m a (ix2 (row 0 q) e) := by
  pointwise [k0_pay40]
  rw [show row 0 q = ⟨q.val, by omega⟩ from Fin.ext (Nat.zero_add _)]

theorem cut1 (m : FVec Ideal S16x128x1 .f32) (a : FVec Ideal S2048x384 .f32) (q : Fin 128) (e : Fin 384) :
    k0_pay41 m a (ix2 q e) = k0_pay39 m a (ix2 (row 1 q) e) := by pointwise [k0_pay41]; rfl

theorem cut2 (m : FVec Ideal S16x128x1 .f32) (a : FVec Ideal S2048x384 .f32) (q : Fin 128) (e : Fin 384) :
    k0_pay42 m a (ix2 q e) = k0_pay39 m a (ix2 (row 2 q) e) := by pointwise [k0_pay42]; rfl

theorem cut3 (m : FVec Ideal S16x128x1 .f32) (a : FVec Ideal S2048x384 .f32) (q : Fin 128) (e : Fin 384) :
    k0_pay43 m a (ix2 q e) = k0_pay39 m a (ix2 (row 3 q) e) := by pointwise [k0_pay43]; rfl

theorem cut4 (m : FVec Ideal S16x128x1 .f32) (a : FVec Ideal S2048x384 .f32) (q : Fin 128) (e : Fin 384) :
    k0_pay44 m a (ix2 q e) = k0_pay39 m a (ix2 (row 4 q) e) := by pointwise [k0_pay44]; rfl

theorem cut5 (m : FVec Ideal S16x128x1 .f32) (a : FVec Ideal S2048x384 .f32) (q : Fin 128) (e : Fin 384) :
    k0_pay45 m a (ix2 q e) = k0_pay39 m a (ix2 (row 5 q) e) := by pointwise [k0_pay45]; rfl

theorem cut6 (m : FVec Ideal S16x128x1 .f32) (a : FVec Ideal S2048x384 .f32) (q : Fin 128) (e : Fin 384) :
    k0_pay46 m a (ix2 q e) = k0_pay39 m a (ix2 (row 6 q) e) := by pointwise [k0_pay46]; rfl

theorem cut7 (Z : FVec Ideal S2048x384 .bf16) (q : Fin 128) (e : Fin 384) :
    k0_pay1 (F := Ideal) Z (ix2 q e) = Z (ix2 (row 7 q) e) := by pointwise [k0_pay1]; rfl

theorem cut8 (Z : FVec Ideal S2048x384 .bf16) (q : Fin 128) (e : Fin 384) :
    k0_pay2 (F := Ideal) Z (ix2 q e) = Z (ix2 (row 8 q) e) := by pointwise [k0_pay2]; rfl

theorem cut9 (Z : FVec Ideal S2048x384 .bf16) (q : Fin 128) (e : Fin 384) :
    k0_pay3 (F := Ideal) Z (ix2 q e) = Z (ix2 (row 9 q) e) := by pointwise [k0_pay3]; rfl

theorem cut10 (Z : FVec Ideal S2048x384 .bf16) (q : Fin 128) (e : Fin 384) :
    k0_pay4 (F := Ideal) Z (ix2 q e) = Z (ix2 (row 10 q) e) := by pointwise [k0_pay4]; rfl

theorem cut11 (Z : FVec Ideal S2048x384 .bf16) (q : Fin 128) (e : Fin 384) :
    k0_pay5 (F := Ideal) Z (ix2 q e) = Z (ix2 (row 11 q) e) := by pointwise [k0_pay5]; rfl

theorem cut12 (Z : FVec Ideal S2048x384 .bf16) (q : Fin 128) (e : Fin 384) :
    k0_pay6 (F := Ideal) Z (ix2 q e) = Z (ix2 (row 12 q) e) := by pointwise [k0_pay6]; rfl

theorem cut13 (Z : FVec Ideal S2048x384 .bf16) (q : Fin 128) (e : Fin 384) :
    k0_pay7 (F := Ideal) Z (ix2 q e) = Z (ix2 (row 13 q) e) := by pointwise [k0_pay7]; rfl

theorem cut14 (Z : FVec Ideal S2048x384 .bf16) (q : Fin 128) (e : Fin 384) :
    k0_pay8 (F := Ideal) Z (ix2 q e) = Z (ix2 (row 14 q) e) := by pointwise [k0_pay8]; rfl

theorem cut15 (Z : FVec Ideal S2048x384 .bf16) (q : Fin 128) (e : Fin 384) :
    k0_pay9 (F := Ideal) Z (ix2 q e) = Z (ix2 (row 15 q) e) := by pointwise [k0_pay9]; rfl

/-- All sixteen stores put the rows' results where `spread` has them. -/
theorem pieces (m : FVec Ideal S16x128x1 .f32) (a : FVec Ideal S2048x384 .f32) (Z : FVec Ideal S2048x384 .bf16)
    (V : Fin 2048 → Fin 384 → EReal) (hV : ∀ r d, k0_pay39 m a (ix2 r d) = V r d) (hZ : ∀ r d, Z (ix2 r d) = V r d)
    (L : List (View.Piece (Elt Ideal) S128x6144 .bf16))
    (hL : L = [⟨Rect.unit ![0, 5760] ![128, 384] inb_S128x6144_S128x384_0_5760, k0_pay9 Z⟩,
      ⟨Rect.unit ![0, 5376] ![128, 384] inb_S128x6144_S128x384_0_5376, k0_pay8 Z⟩,
      ⟨Rect.unit ![0, 4992] ![128, 384] inb_S128x6144_S128x384_0_4992, k0_pay7 Z⟩,
      ⟨Rect.unit ![0, 4608] ![128, 384] inb_S128x6144_S128x384_0_4608, k0_pay6 Z⟩,
      ⟨Rect.unit ![0, 4224] ![128, 384] inb_S128x6144_S128x384_0_4224, k0_pay5 Z⟩,
      ⟨Rect.unit ![0, 3840] ![128, 384] inb_S128x6144_S128x384_0_3840, k0_pay4 Z⟩,
      ⟨Rect.unit ![0, 3456] ![128, 384] inb_S128x6144_S128x384_0_3456, k0_pay3 Z⟩,
      ⟨Rect.unit ![0, 3072] ![128, 384] inb_S128x6144_S128x384_0_3072, k0_pay2 Z⟩,
      ⟨Rect.unit ![0, 2688] ![128, 384] inb_S128x6144_S128x384_0_2688, k0_pay1 Z⟩,
      ⟨Rect.unit ![0, 2304] ![128, 384] inb_S128x6144_S128x384_0_2304, k0_pay46 m a⟩,
      ⟨Rect.unit ![0, 1920] ![128, 384] inb_S128x6144_S128x384_0_1920, k0_pay45 m a⟩,
      ⟨Rect.unit ![0, 1536] ![128, 384] inb_S128x6144_S128x384_0_1536, k0_pay44 m a⟩,
      ⟨Rect.unit ![0, 1152] ![128, 384] inb_S128x6144_S128x384_0_1152, k0_pay43 m a⟩,
      ⟨Rect.unit ![0, 768] ![128, 384] inb_S128x6144_S128x384_0_768, k0_pay42 m a⟩,
      ⟨Rect.unit ![0, 384] ![128, 384] inb_S128x6144_S128x384_0_384, k0_pay41 m a⟩,
      ⟨Rect.unit ![0, 0] ![128, 384] inb_S128x6144_S128x384_0_0, k0_pay40 m a⟩])
    (p : View.Piece (Elt Ideal) S128x6144 .bf16) (hp : p ∈ L) (x : p.1.shape.Idx) : p.2 x = spread V (p.1.emb x) := by
  subst hL
  simp only [List.mem_cons, List.mem_nil_iff, or_false] at hp
  rcases hp with rfl | rfl | rfl | rfl | rfl | rfl | rfl | rfl | rfl | rfl | rfl | rfl | rfl | rfl | rfl | rfl
  · exact piece _ V hZ 15 _ (cut15 Z) ![0, 5760] inb_S128x6144_S128x384_0_5760 rfl x
  · exact piece _ V hZ 14 _ (cut14 Z) ![0, 5376] inb_S128x6144_S128x384_0_5376 rfl x
  · exact piece _ V hZ 13 _ (cut13 Z) ![0, 4992] inb_S128x6144_S128x384_0_4992 rfl x
  · exact piece _ V hZ 12 _ (cut12 Z) ![0, 4608] inb_S128x6144_S128x384_0_4608 rfl x
  · exact piece _ V hZ 11 _ (cut11 Z) ![0, 4224] inb_S128x6144_S128x384_0_4224 rfl x
  · exact piece _ V hZ 10 _ (cut10 Z) ![0, 3840] inb_S128x6144_S128x384_0_3840 rfl x
  · exact piece _ V hZ 9 _ (cut9 Z) ![0, 3456] inb_S128x6144_S128x384_0_3456 rfl x
  · exact piece _ V hZ 8 _ (cut8 Z) ![0, 3072] inb_S128x6144_S128x384_0_3072 rfl x
  · exact piece _ V hZ 7 _ (cut7 Z) ![0, 2688] inb_S128x6144_S128x384_0_2688 rfl x
  · exact piece _ V hV 6 _ (cut6 m a) ![0, 2304] inb_S128x6144_S128x384_0_2304 rfl x
  · exact piece _ V hV 5 _ (cut5 m a) ![0, 1920] inb_S128x6144_S128x384_0_1920 rfl x
  · exact piece _ V hV 4 _ (cut4 m a) ![0, 1536] inb_S128x6144_S128x384_0_1536 rfl x
  · exact piece _ V hV 3 _ (cut3 m a) ![0, 1152] inb_S128x6144_S128x384_0_1152 rfl x
  · exact piece _ V hV 2 _ (cut2 m a) ![0, 768] inb_S128x6144_S128x384_0_768 rfl x
  · exact piece _ V hV 1 _ (cut1 m a) ![0, 384] inb_S128x6144_S128x384_0_384 rfl x
  · exact piece _ V hV 0 _ (cut0 m a) ![0, 0] inb_S128x6144_S128x384_0_0 rfl x

/-- The block the kernel leaves. -/
theorem block (c : Dev nD) (i : grid0.Coords) (arg2 : Memref sig .tc .vmem S128x6144 .bf16) (harg2 : arg2.IsWhole)
    (arg3 : Memref sig .tc .vmem S2048x384 .bf16) (harg3 : arg3.IsWhole) (arg4 : Memref sig .tc .vmem S128x6144 .bf16)
    (harg4 : arg4.IsWhole) (x0 : FVec Ideal S128x6144 .bf16) (X : FVec Ideal S2048x384 .bf16) (y : S128x6144.Idx) :
    out0_A_2 (F := Ideal) c i arg2 harg2 arg3 harg3 arg4 harg4 x0 X y = spread (rowOut (rows x0) X (128 * (i 1).val)) y := by
  have hi : (i 1).val < 16 := (i 1).isLt
  have hcov := cover0_A_2 (F := Ideal) c i arg2 harg2 arg3 harg3 arg4 harg4 x0 X
  unfold out0_A_2
  rw [View.read_writes_eq_canon _ _ _ hcov]
  refine View.canon_apply_of_pieces (spread (rowOut (rows x0) X (128 * (i 1).val))) _ ?_ y (hcov y)
  -- the loops' end state
  have h1 := loop1 c i arg2 harg2 arg3 harg3 arg4 harg4 (rows x0) (kernelRun0_A.sl.v58 i) k0_pay12 k0_pay13 k0_pay14 0#32
    (kernelRun0_A.sl.v62 i) X (k0_pay12, k0_pay13, k0_pay14) (k0_pay11 i) (kernelRun0_A.sl.v38 i) (start _ _ _) (k0_t1_loop i).trips le_rfl
  rw [trips1] at h1
  have hZ : ∀ r d, kernelRun0_A.sl.r_1 (F := Ideal) c i arg2 harg2 arg3 harg3 arg4 harg4 x0 X (ix2 r d) = rowOut (rows x0) X (128 * (i 1).val) r d := by
    intro r d
    unfold kernelRun0_A.sl.r_1
    rw [queries]
    have ht2 := trips2 i
    have ht3 := trips3 i
    have ht4 := trips4 i
    refine rowOut_of (rows x0) X (128 * (i 1).val) (512 * (full i + (k0_t3_loop i).trips)) (by omega) (by omega) _ ?_ r d
    rw [show Scf.trips (k0_t4_loop i).lb (k0_t4_loop i).ub (k0_t4_loop i).st = 0 from ht4, st_k0_t4_zero]
    refine loop3 c i arg2 harg2 arg3 harg3 arg4 harg4 (rows x0) _ _ _ _ _ _ X _ ?_ (k0_t3_loop i).trips le_rfl
    rw [show Scf.trips (k0_t2_loop i).lb (k0_t2_loop i).ub (k0_t2_loop i).st = 0 from ht2, st_k0_t2_zero,
      show Scf.trips (k0_t1_loop i).lb (k0_t1_loop i).ub (k0_t1_loop i).st = full i from trips1 i]
    exact h1
  have hZ' := hZ
  unfold kernelRun0_A.sl.r_1 at hZ'
  refine pieces _ _ _ _ hZ' hZ _ ?_
  unfold kernelRun0_A
  rfl

end Cert.Block

end
-- ==== Proof.Array.lean ====
/-
  The attention kernel's whole result, element by element, in terms of its two argument arrays.
-/
module

public import proofs.«01_k».proof.Proof.Block

@[expose] public section

set_option maxRecDepth 16384

noncomputable section

namespace Cert.Array

open Cert.KernelIdeal Cert.KernelIdeal.Gen Idealize.ShloMosaic Idealize.ShloMosaic.TcCoe Idealize.ShloMosaic.Tactic Cert.Rows
  Cert.Block Cert.Queries Cert.Online
open Idealize.ShloMosaic.Pipeline (Dat)
open scoped BigOperators

/-- Scores of the query at position `p` of sequence `b`, head `h`, by key: `⊥` at a key after it. -/
def score (A : FVec Ideal S8704x6144 .bf16) (C : FVec Ideal S8704x384 .bf16) (b : Fin 4) (p : Fin 2048) (h : Fin 16) (k : ℕ) : EReal :=
  if hk : k < 2048 then
    (if k ≤ p.val then ∑ e : Fin 384, A (ix2 ⟨2048 * b.val + p.val, by omega⟩ ⟨384 * h.val + e.val, by omega⟩)
      * C (ix2 ⟨2048 * b.val + k, by omega⟩ e) else ⊥)
  else ⊥

/-- Column `d` of sequence `b`'s values, by key. -/
def value (C : FVec Ideal S8704x384 .bf16) (b : Fin 4) (d : Fin 384) (k : ℕ) : EReal :=
  if hk : k < 2048 then C (ix2 ⟨2048 * b.val + k, by omega⟩ d) else 0

/-- The attention of that query, in column `d`. -/
def attn (A : FVec Ideal S8704x6144 .bf16) (C : FVec Ideal S8704x384 .bf16) (b : Fin 4) (p : Fin 2048) (h : Fin 16) (d : Fin 384) :
    EReal :=
  Ideal.div (blend (score A C b p h) (value C b d) 2048) (max (mass (score A C b p h) 2048) (Ideal.ofBits .f32 0x0DA24260#32))

/-- The result array. -/
def out (A : FVec Ideal S8704x6144 .bf16) (C : FVec Ideal S8704x384 .bf16) : FVec Ideal S8192x6144 .bf16 := fun j =>
  attn A C ⟨(j 0).val / 2048, by have : (j 0).val < 8192 := (j 0).isLt; omega⟩ ⟨(j 0).val % 2048, by omega⟩
    ⟨(j 1).val / 384, by have : (j 1).val < 6144 := (j 1).isLt; omega⟩ ⟨(j 1).val % 384, by omega⟩

/-- A block's row, from where the block's arrays lie in the whole ones. -/
theorem rowOut_eq (A : FVec Ideal S8704x6144 .bf16) (C : FVec Ideal S8704x384 .bf16) (x0 : FVec Ideal S128x6144 .bf16)
    (X : FVec Ideal S2048x384 .bf16) (b : Fin 4) (n : Fin 16)
    (h0 : ∀ (q : Fin 128) (k : Fin 6144), x0 (ix2 q k) = A (ix2 ⟨2048 * b.val + (128 * n.val + q.val), by omega⟩ k))
    (h1 : ∀ (k : Fin 2048) (e : Fin 384), X (ix2 k e) = C (ix2 ⟨2048 * b.val + k.val, by omega⟩ e))
    (h : Fin 16) (q : Fin 128) (d : Fin 384) :
    rowOut (rows x0) X (128 * n.val) (row h q) d = attn A C b ⟨128 * n.val + q.val, by omega⟩ h d := by
  have es : sc (rows x0) X (128 * n.val) (row h q) = score A C b ⟨128 * n.val + q.val, by omega⟩ h := by
    funext k
    unfold sc score
    by_cases hk : k < 2048
    · rw [dif_pos hk, dif_pos hk, row_mod]
      refine if_congr Iff.rfl ?_ rfl
      unfold dot
      refine Finset.sum_congr rfl fun e _ => ?_
      rw [h1]
      refine congrArg₂ (· * ·) ?_ rfl
      have hr : rows x0 (ix2 (row h q) e) = x0 (ix2 q ⟨384 * h.val + e.val, by omega⟩) := by
        have eh : hd (row h q) = h := Fin.ext (by simp only [hd, row]; omega)
        have eq : qr (row h q) = q := Fin.ext (by simp only [qr, row]; omega)
        show headOf x0 (hd (row h q)) (ix2 (qr (row h q)) e) = _
        rw [eh, eq]; rfl
      rw [hr, h0]
    · rw [dif_neg hk, dif_neg hk]
  have ev : vl X d = value C b d := by
    funext k
    unfold vl value
    by_cases hk : k < 2048
    · rw [dif_pos hk, dif_pos hk, h1]
    · rw [dif_neg hk, dif_neg hk]
  unfold rowOut attn
  rw [es, ev]

theorem index_facts : ∀ t : Fin grid0.N, win0_0.index t = ![16 * (grid0.coords t 0).val + (grid0.coords t 1).val, 0]
    ∧ win0_1.index t = ![(grid0.coords t 0).val, 0]
    ∧ win0_2.index t = ![16 * (grid0.coords t 0).val + (grid0.coords t 1).val, 0] := by decide +kernel

variable (m : (ℓ : Loc nD τ sig) → Buf (Elt Ideal) ℓ)

/-- The array after the run. -/
theorem result (c : Dev nD) : (dats m 0 c).arrAt 2 cfg0.N = out (V m c main_arg0) (V m c main_arg1) := by
  refine (dats m 0 c).arrAt_eq_of_covers 2 _ (by decide +kernel) fun t hf y => ?_
  blk_simp
  rw [after0_2]
  unfold outsAt0
  rw [block]
  obtain ⟨i0, i1, i2⟩ := index_facts t
  have hb : (grid0.coords t 0).val < 4 := (grid0.coords t 0).isLt
  have hn : (grid0.coords t 1).val < 16 := (grid0.coords t 1).isLt
  have hq : (y 0).val < 128 := (y 0).isLt
  have hc : (y 1).val < 6144 := (y 1).isLt
  unfold spread
  refine (rowOut_eq (V m c main_arg0) (V m c main_arg1) _ _ ⟨(grid0.coords t 0).val, hb⟩ ⟨(grid0.coords t 1).val, hn⟩ (fun q k => ?_)
    (fun k e => ?_) _ _ _).trans ?_
  · blk_ext [i0, iblk]
  · unfold X0_1 Pipeline.Window.fill
    rw [dif_pos (moved0_1 t _)]
    blk_ext [i1, iblk]
  · have e0 : (((cfg0.win 2).blk t).view.emb y 0 : ℕ) = 128 * (16 * (grid0.coords t 0).val + (grid0.coords t 1).val) + (y 0).val := by
      blk_simp [i2]; simp; omega
    have e1 : (((cfg0.win 2).blk t).view.emb y 1 : ℕ) = (y 1).val := by
      blk_simp [i2]
    unfold out
    congr 1
    · apply Fin.ext; show _ = Fin.val _ / 2048; rw [e0]; dsimp only; omega
    · apply Fin.ext; show _ = Fin.val _ % 2048; rw [e0]; dsimp only; omega
    · apply Fin.ext; show _ = Fin.val _ / 384; rw [e1]
    · apply Fin.ext; show _ = Fin.val _ % 384; rw [e1]

end Cert.Array

end
-- ==== Proof.Reference.lean ====
/-
  The reference, element by element: the attention of Array.lean.
-/
module

public import proofs.«01_k».proof.Proof.Array
public import proofs.«01_k».proof.Proof.Gen.ReferenceIdeal.Read

@[expose] public section

set_option maxRecDepth 16384

noncomputable section

namespace Cert.Reference

open Cert.ReferenceIdeal Cert.ReferenceIdeal.Read Idealize.ShloMosaic Idealize.ShloMosaic.Tactic Cert.Online Cert.Array
open scoped BigOperators

variable (A : FVec Ideal S8704x6144 .bf16) (C : FVec Ideal S8704x384 .bf16)

/-- The floor of the mass is positive. -/
theorem floor_pos : (0 : EReal) < Ideal.ofBits .f32 0x0DA24260#32 := by
  have h : Ideal.ofBits .f32 0x0DA24260#32 = ((10633824 * (2 ^ 123)⁻¹ : ℝ) : EReal) := by
    rw [EReal.coe_mul]
    simp [Ideal.ofBits, Ideal.ieee]
  rw [h]
  exact EReal.coe_pos.mpr (by positivity)

theorem queries_read (b : Fin 4) (p : Fin 2048) (h : Fin 16) (e : Fin 384) :
    val_main_v2 (F := Ideal) A (ix4 b p h e) = A (ix2 ⟨2048 * b.val + p.val, by omega⟩ ⟨384 * h.val + e.val, by omega⟩) := by
  pointwise [val_main_v2, val_main_v1, val_main_v0]
  simp only [Nat.mul_comm]

theorem rows_read (b : Fin 4) (k : Fin 2048) (e : Fin 384) :
    val_main_v5 (F := Ideal) C (ix3 b k e) = C (ix2 ⟨2048 * b.val + k.val, by omega⟩ e) := by
  pointwise [val_main_v5, val_main_v4, val_main_v3]
  simp only [Nat.mul_comm]

/-- The two halves of the score are one product over 384 columns. -/
theorem product_read (b : Fin 4) (h : Fin 16) (p k : Fin 2048) :
    val_main_v16 (F := Ideal) A C (ix4 b h p k) = ∑ e : Fin 384,
      A (ix2 ⟨2048 * b.val + p.val, by omega⟩ ⟨384 * h.val + e.val, by omega⟩) * C (ix2 ⟨2048 * b.val + k.val, by omega⟩ e) := by
  pointwise [val_main_v16, val_main_v15, val_main_v14, val_main_v13, val_main_v12, val_main_v9, val_main_v8, val_main_v7, val_main_v6]
  simp only [rows_read, queries_read]
  have hs := Fin.sum_univ_add (M := EReal) (a := 320) (b := 64) fun e : Fin 384 =>
    A (ix2 ⟨2048 * b.val + p.val, by omega⟩ ⟨384 * h.val + e.val, by omega⟩) * C (ix2 ⟨2048 * b.val + k.val, by omega⟩ e)
  refine Eq.trans (congrArg₂ (· + ·) (Finset.sum_congr rfl fun e _ => mul_comm _ _) (Finset.sum_congr rfl fun e _ => mul_comm _ _)) hs.symm

/-- The comparison of a key's place with the query's. -/
theorem mask_read (p k : Fin 2048) : IntOp.cmpi CmpIPredicate.sle (BitVec.ofNat 32 k.val) (BitVec.ofNat 32 p.val)
    = if k.val ≤ p.val then 1#1 else 0#1 := by
  have h1 := IntOp.cmpi_sle (x := BitVec.ofNat 32 k.val) (y := BitVec.ofNat 32 p.val)
  rw [Trips.toInt_small _ (by omega), Trips.toInt_small _ (by omega)] at h1
  split
  · exact h1.mpr (by omega)
  · exact ValueIdx.eq_zero_of_ne_one fun hh => absurd (h1.mp hh) (by omega)

theorem score_read (b : Fin 4) (h : Fin 16) (p k : Fin 2048) :
    val_main_v23 (F := Ideal) A C (ix4 b h p k) = score A C b p h k.val := by
  pointwise [val_main_v23, val_main_call0_v1, val_main_call0_v2, val_main_call0_v0, val_main_v22, val_main_v21, val_main_v20,
    val_main_v19, val_main_v18, val_main_v17, val_main_v11, val_main_v10, val_main_cst]
  rw [mask_read, product_read]
  unfold score
  rw [dif_pos k.isLt]
  by_cases hk : k.val ≤ p.val
  · rw [if_pos hk, if_pos hk]; rfl
  · rw [if_neg hk, if_neg hk]; exact Rows.neg_inf

theorem top_read (b : Fin 4) (h : Fin 16) (p : Fin 2048) :
    val_main_v24 (F := Ideal) A C (ix3 b h p) = top (score A C b p h) 2048 := by
  pointwise [val_main_v24, val_main_cst_0]
  simp only [score_read]
  rw [Rows.neg_inf]
  exact fold_eq_top _ _

theorem weight_read (b : Fin 4) (h : Fin 16) (p k : Fin 2048) :
    val_main_v29 (F := Ideal) A C (ix4 b h p k) = Ideal.exp (score A C b p h k.val - top (score A C b p h) 2048) := by
  pointwise [val_main_v29, val_main_v28, val_main_v27, val_main_v26, val_main_v25, val_main_call1_v1, val_main_call1_v2,
    val_main_call1_v0, val_main_cst_1, val_main_v22, val_main_v21, val_main_v20, val_main_v19, val_main_v18, val_main_v17,
    val_main_v11, val_main_v10]
  rw [mask_read, score_read, top_read]
  by_cases hk : k.val ≤ p.val
  · rw [if_pos hk]; rfl
  · rw [if_neg hk]
    have hbot : score A C b p h k.val = ⊥ := by unfold score; rw [dif_pos k.isLt, if_neg hk]
    rw [hbot, bot_sub, exp_bot]
    show Ideal.ofBits .f32 0#32 = 0
    simp [Ideal.ofBits, Ideal.ieee]

theorem mass_read (b : Fin 4) (h : Fin 16) (p : Fin 2048) :
    val_main_v30 (F := Ideal) A C (ix3 b h p) = mass (score A C b p h) 2048 := by
  pointwise [val_main_v30, val_main_cst_2]
  simp only [weight_read]
  unfold mass
  rw [Finset.sum_range]

/-- The attention, as the sum of the values by their divided weights. -/
theorem attn_eq (b : Fin 4) (p : Fin 2048) (h : Fin 16) (d : Fin 384) :
    ∑ k : Fin 2048, C (ix2 ⟨2048 * b.val + k.val, by omega⟩ d)
        * Ideal.div (Ideal.exp (score A C b p h k.val - top (score A C b p h) 2048))
          (max (mass (score A C b p h) 2048) (Ideal.ofBits .f32 0x0DA24260#32)) = attn A C b p h d := by
  unfold attn blend
  rw [Finset.sum_range, ← sum_div_mul Finset.univ
    (fun k : Fin 2048 => Ideal.exp (score A C b p h k.val - top (score A C b p h) 2048)) (fun k : Fin 2048 => value C b d k.val)
    (max (mass (score A C b p h) 2048) (Ideal.ofBits .f32 0x0DA24260#32)) (lt_of_lt_of_le floor_pos (le_max_right _ _))]
  refine Finset.sum_congr rfl fun k _ => ?_
  rw [mul_comm]
  refine congrArg₂ (· * ·) rfl ?_
  unfold value
  rw [dif_pos k.isLt]

/-- The reference's result is the attention. -/
theorem result : val_main_v39 (F := Ideal) A C = out A C := by
  funext j
  obtain ⟨R, q, rfl⟩ : ∃ (R : Fin 8192) (q : Fin 6144), j = ix2 R q :=
    ⟨j 0, j 1, by funext a; match a with | ⟨0, _⟩ => rfl | ⟨1, _⟩ => rfl⟩
  pointwise [val_main_v39, val_main_v38, val_main_v37, val_main_v36, val_main_v35, val_main_v34, val_main_v33, val_main_v32,
    val_main_v31, val_main_cst_3]
  simp only [weight_read, mass_read, rows_read]
  exact attn_eq A C ⟨R.val / 2048, by omega⟩ ⟨R.val % 2048, by omega⟩ ⟨q.val / 384, by omega⟩ ⟨q.val % 384, by omega⟩

end Cert.Reference

end
-- ==== Proof.Norm.lean ====
/-
  Row normalization: a row divided by the root of its mean square, scaled column by column.
-/
module

public import Idealize.ShloMosaic.Lib.Pointwise
public import Idealize.ShloMosaic.Lib.Pipeline.ValueKit

@[expose] public section

noncomputable section

namespace Cert.Norm

open Idealize.ShloMosaic
open scoped BigOperators

/-- Entry `k` of the row `x` normalized: its mean square (over `w`, the row's length as the programs spell it), raised by
    a millionth, under the root; then the gain of the column. -/
def normed {n : ℕ} (w : BitVec 32) (x g : Fin n → EReal) (k : Fin n) : EReal :=
  x k * Ideal.rsqrt (Ideal.div (∑ e : Fin n, x e * x e) (Ideal.ofBits .f32 w) + Ideal.ofBits .f32 897988541#32) * g k

end Cert.Norm

end
-- ==== Proof.InProj.lean ====
/-
  The input projection: each row normalized, then multiplied into the weights. At the first point of a tile of rows the
  kernel normalizes the tile into its scratch, and every point multiplies the scratch into a tile of columns.
-/
module

public import proofs.«01_k».proof.Proof.Norm
public import proofs.«01_k».proof.Proof.Gen.Kernel2Ideal.Value

@[expose] public section

set_option maxRecDepth 16384

noncomputable section

namespace Cert.InProj

open Cert.Kernel2Ideal Cert.Kernel2Ideal.Gen Idealize.ShloMosaic Idealize.ShloMosaic.TcCoe Idealize.ShloMosaic.Tactic Cert.Norm
open Idealize.ShloMosaic.Pipeline (Dat)
open scoped BigOperators

/-- Row `i` of the normalized array. -/
def nrow (X : FVec Ideal S8704x4096 .f32) (g : FVec Ideal S4096 .f32) (i : Fin 8704) (k : Fin 4096) : EReal :=
  normed 1166016512#32 (fun e => X (ix2 i e)) (fun e => g (ix1 e)) k

/-- The result array. -/
def out (X : FVec Ideal S8704x4096 .f32) (g : FVec Ideal S4096 .f32) (W : FVec Ideal S4096x4224 .bf16) : FVec Ideal S8704x4224 .f32 :=
  fun j => ∑ k : Fin 4096, nrow X g (j 0) k * W (ix2 k (j 1))

theorem pay1 (x : FVec Ideal S512x4096 .f32) (g : FVec Ideal S1x4096 .f32) (r : Fin 512) (k : Fin 4096) :
    k0_pay1 (F := Ideal) x g (ix2 r k) = normed 1166016512#32 (fun e => x (ix2 r e)) (fun e => g (ix2 0 e)) k := by
  pointwise [k0_pay1]
  rfl

theorem pay2 (x : FVec Ideal S512x4096 .bf16) (w : FVec Ideal S4096x384 .bf16) (r : Fin 512) (k : Fin 384) :
    k0_pay2 (F := Ideal) x w (ix2 r k) = ∑ e : Fin 4096, x (ix2 r e) * w (ix2 e k) := by
  pointwise [k0_pay2]

theorem index_facts : ∀ t : Fin grid0.N, win0_0.index t = ![t.val / 11, 0] ∧ win0_1.index t = ![0, 0]
    ∧ win0_2.index t = ![0, t.val % 11] ∧ win0_3.index t = ![t.val / 11, t.val % 11] := by decide +kernel

variable (m : (ℓ : Loc nD τ sig) → Buf (Elt Ideal) ℓ) (c : Dev nD)

theorem row_of (g : FVec Ideal S4096 .f32) (k : Fin 4096) : shapeCast S1x4096 g shapeCasts_S4096_S1x4096 (ix2 0 k) = g (ix1 k) := by
  pointwise []

/-- The gain the kernel stages is the argument, laid as one row. -/
theorem gain (k : Fin 4096) : (V m c main_v0 : FVec Ideal S1x4096 .f32) (ix2 0 k) = (m (c.tc.loc main_arg1) : FVec Ideal S4096 .f32) (ix1 k) := by
  have h : V m c main_v0 = (shapeCast S1x4096 (m (c.tc.loc main_arg1) : FVec Ideal S4096 .f32) shapeCasts_S4096_S1x4096 : FVec Ideal S1x4096 .f32) := by
    unfold_abbrev_sides
    after_results
    rfl
  rw [h]
  exact row_of (m (c.tc.loc main_arg1)) k

theorem blk_x (t : Fin cfg0.N) (r : Fin 512) (k : Fin 4096) (i : Fin 8704) (hi : i.val = 512 * (t.val / 11) + r.val) :
    (iblk m c 0 t : FVec Ideal S512x4096 .f32) (ix2 r k) = (m (c.tc.loc main_arg0) : FVec Ideal S8704x4096 .f32) (ix2 i k) := by
  obtain ⟨i0, -⟩ := index_facts t
  rw [← V_main_arg0 m c]
  blk_ext [i0, iblk, hi]

theorem blk_g (t : Fin cfg0.N) (k : Fin 4096) :
    (iblk m c 1 t : FVec Ideal S1x4096 .f32) (ix2 0 k) = (m (c.tc.loc main_arg1) : FVec Ideal S4096 .f32) (ix1 k) := by
  obtain ⟨-, i1, -⟩ := index_facts t
  rw [← gain m c]
  blk_ext [i1, iblk]

theorem blk_w (t : Fin cfg0.N) (k : Fin 4096) (q : Fin 384) (i : Fin 4224) (hi : i.val = 384 * (t.val % 11) + q.val) :
    (iblk m c 2 t : FVec Ideal S4096x384 .bf16) (ix2 k q) = (m (c.tc.loc main_arg2) : FVec Ideal S4096x4224 .bf16) (ix2 k i) := by
  obtain ⟨-, -, i2, -⟩ := index_facts t
  rw [← V_main_arg2 m c]
  blk_ext [i2, iblk, hi]

/-- After a tile's first point the scratch holds the tile's rows normalized. -/
theorem first (t : Fin cfg0.N) (h0 : t.val % 11 = 0) :
    (outsAt0 m c t.val t.isLt).2 = k0_pay1 (F := Ideal) (iblk m c 0 t) (iblk m c 1 t) := by
  rw [outsAt0_A m c t h0]
  frame_out

theorem out_first (t : Fin cfg0.N) (h0 : t.val % 11 = 0) :
    (outsAt0 m c t.val t.isLt).1 = k0_pay2 (F := Ideal) (outsAt0 m c t.val t.isLt).2 (iblk m c 2 t) := by
  rw [first m c t h0, outsAt0_A m c t h0]
  frame_out

theorem out_later (t : Fin cfg0.N) (h0 : ¬t.val % 11 = 0) :
    (outsAt0 m c t.val t.isLt).1 = k0_pay2 (F := Ideal) (outsAt0 m c t.val t.isLt).2 (iblk m c 2 t) := by
  rw [outsAt0_B m c t h0]
  frame_out
  unfold sout0_B_0
  exact congrArg (fun z => k0_pay2 (F := Ideal) z (iblk m c 2 t)) (Memref.IsWhole.read_unread (Memref.isWhole_whole cc0_scratch0) _)

/-- At every point the scratch holds the rows of its tile, normalized. -/
theorem scratch : ∀ (n : ℕ) (h : n < cfg0.N) (r : Fin 512) (k : Fin 4096) (i : Fin 8704), i.val = 512 * (n / 11) + r.val →
    ((outsAt0 m c n h).2 : FVec Ideal S512x4096 .bf16) (ix2 r k) = nrow (m (c.tc.loc main_arg0)) (m (c.tc.loc main_arg1)) i k := by
  intro n
  induction n with
  | zero =>
    intro h r k i hi
    rw [first m c ⟨0, h⟩ rfl, pay1]
    unfold nrow
    congr 1
    · funext e; exact blk_x m c ⟨0, h⟩ r e i hi
    · funext e; exact blk_g m c ⟨0, h⟩ e
  | succ n ih =>
    intro h r k i hi
    by_cases h0 : (n + 1) % 11 = 0
    · rw [first m c ⟨n + 1, h⟩ h0, pay1]
      unfold nrow
      congr 1
      · funext e; exact blk_x m c ⟨n + 1, h⟩ r e i hi
      · funext e; exact blk_g m c ⟨n + 1, h⟩ e
    · rw [outsAt0_B m c ⟨n + 1, h⟩ h0]
      exact ih (Nat.lt_of_succ_lt h) r k i (by omega)

theorem point (t : Fin cfg0.N) :
    (outsAt0 m c t.val t.isLt).1 = k0_pay2 (F := Ideal) (outsAt0 m c t.val t.isLt).2 (iblk m c 2 t) := by
  by_cases h0 : t.val % 11 = 0
  · exact out_first m c t h0
  · exact out_later m c t h0

/-- The array after the run. -/
theorem result : (dats m 0 c).arrAt 3 cfg0.N = out (m (c.tc.loc main_arg0)) (m (c.tc.loc main_arg1)) (m (c.tc.loc main_arg2)) := by
  refine (dats m 0 c).arrAt_eq_of_covers 3 _ (by decide +kernel) fun t hf y => ?_
  blk_simp
  rw [after0_3, point]
  obtain ⟨-, -, -, i3⟩ := index_facts t
  have hq : (y 0).val < 512 := (y 0).isLt
  have hc : (y 1).val < 384 := (y 1).isLt
  have e0 : (((cfg0.win 3).blk t).view.emb y 0 : ℕ) = 512 * (t.val / 11) + (y 0).val := by
    blk_simp [i3]; simp; omega
  have e1 : (((cfg0.win 3).blk t).view.emb y 1 : ℕ) = 384 * (t.val % 11) + (y 1).val := by
    blk_simp [i3]; simp; omega
  refine (congrArg (k0_pay2 (F := Ideal) _ _) (show y = ix2 ⟨(y 0).val, hq⟩ ⟨(y 1).val, hc⟩ from by funext a; fin_cases a <;> rfl)).trans ?_
  refine (pay2 _ _ _ _).trans (Finset.sum_congr rfl fun e _ => ?_)
  exact congrArg₂ (· * ·) (scratch m c t.val t.isLt _ _ _ e0) (blk_w m c t _ _ _ e1)

end Cert.InProj

end
-- ==== Proof.InRef.lean ====
/-
  The input projection's reference, element by element: the array of InProj.lean.
-/
module

public import proofs.«01_k».proof.Proof.InProj
public import proofs.«01_k».proof.Proof.Gen.Reference2Ideal.Read

@[expose] public section

set_option maxRecDepth 16384

noncomputable section

namespace Cert.InRef

open Cert.Reference2Ideal Cert.Reference2Ideal.Read Idealize.ShloMosaic Idealize.ShloMosaic.Tactic Cert.Norm
open scoped BigOperators

theorem at_entry (x : FVec Ideal S8704x4096 .f32) (g : FVec Ideal S4096 .f32) (w : FVec Ideal S4096x4224 .bf16) (r : Fin 8704) (k : Fin 4224) :
    val_main_v14 (F := Ideal) x g w (ix2 r k) = Cert.InProj.out x g w (ix2 r k) := by
  pointwise [val_main_v14, val_main_v13, val_main_v12, val_main_v11, val_main_v10, val_main_v9, val_main_v8, val_main_v7, val_main_v6,
    val_main_v5, val_main_v4, val_main_v3, val_main_v2, val_main_v1, val_main_v0, val_main_cst, val_main_cst_0, val_main_cst_1]
  rfl

theorem result (x : FVec Ideal S8704x4096 .f32) (g : FVec Ideal S4096 .f32) (w : FVec Ideal S4096x4224 .bf16) :
    val_main_v14 (F := Ideal) x g w = Cert.InProj.out x g w := by
  funext j
  rw [show j = ix2 (j 0) (j 1) from by funext a; fin_cases a <;> rfl]
  exact at_entry x g w (j 0) (j 1)

end Cert.InRef

end
-- ==== Proof.OutProj.lean ====
/-
  The output projection: two halves of a row, each normalized, side by side, multiplied into the weights and added to the
  rows. At the first point of a tile of rows the kernel normalizes the tile's halves into its scratch.
-/
module

public import proofs.«01_k».proof.Proof.Norm
public import proofs.«01_k».proof.Proof.Gen.Kernel3Ideal.Value

@[expose] public section

set_option maxRecDepth 16384

noncomputable section

namespace Cert.OutProj

open Cert.Kernel3Ideal Cert.Kernel3Ideal.Gen Idealize.ShloMosaic Idealize.ShloMosaic.TcCoe Idealize.ShloMosaic.Tactic Cert.Norm
open Idealize.ShloMosaic.Pipeline (Dat)
open scoped BigOperators

/-- Two rows side by side. -/
def beside (a b : Fin 2048 → EReal) (k : Fin 4096) : EReal :=
  if h : k.val < 2048 then a ⟨k.val, h⟩ else b ⟨k.val - 2048, by omega⟩

/-- Row `i` of the two normalized arrays side by side. -/
def nrow (A B : FVec Ideal S8704x2048 .f32) (g : FVec Ideal S2x2048 .f32) (i : Fin 8704) : Fin 4096 → EReal :=
  beside (normed 1157627904#32 (fun e => A (ix2 i e)) (fun e => g (ix2 0 e))) (normed 1157627904#32 (fun e => B (ix2 i e)) (fun e => g (ix2 1 e)))

/-- The result array. -/
def out (A B : FVec Ideal S8704x2048 .f32) (g : FVec Ideal S2x2048 .f32) (W : FVec Ideal S4096x4096 .f32) (H : FVec Ideal S8704x4096 .f32) :
    FVec Ideal S8704x4096 .f32 := fun j =>
  H (ix2 (j 0) (j 1)) + ∑ k : Fin 4096, nrow A B g (j 0) k * W (ix2 k (j 1))

theorem pay1 (x : FVec Ideal S512x2048 .f32) (g : FVec Ideal S1x2048 .f32) (r : Fin 512) (k : Fin 2048) :
    k0_pay1 (F := Ideal) x g (ix2 r k) = normed 1157627904#32 (fun e => x (ix2 r e)) (fun e => g (ix2 0 e)) k := by
  pointwise [k0_pay1]
  rfl

theorem pay2 (x : FVec Ideal S512x2048 .f32) (g : FVec Ideal S1x2048 .f32) (r : Fin 512) (k : Fin 2048) :
    k0_pay2 (F := Ideal) x g (ix2 r k) = normed 1157627904#32 (fun e => x (ix2 r e)) (fun e => g (ix2 0 e)) k := by
  pointwise [k0_pay2]
  rfl

theorem pay3 (h : FVec Ideal S512x512 .f32) (x : FVec Ideal S512x4096 .bf16) (w : FVec Ideal S4096x512 .bf16) (r : Fin 512) (k : Fin 512) :
    k0_pay3 (F := Ideal) h x w (ix2 r k) = h (ix2 r k) + ∑ e : Fin 4096, x (ix2 r e) * w (ix2 e k) := by
  pointwise [k0_pay3]

theorem index_facts : ∀ t : Fin grid0.N, win0_0.index t = ![t.val / 8, 0] ∧ win0_1.index t = ![t.val / 8, 0]
    ∧ win0_2.index t = ![0, 0] ∧ win0_3.index t = ![0, 0] ∧ win0_4.index t = ![0, t.val % 8] ∧ win0_5.index t = ![t.val / 8, t.val % 8]
    ∧ win0_6.index t = ![t.val / 8, t.val % 8] := by decide +kernel

variable (m : (ℓ : Loc nD τ sig) → Buf (Elt Ideal) ℓ) (c : Dev nD)

theorem row_0 (g : FVec Ideal S2x2048 .f32) (k : Fin 2048) :
    extractStridedSlice S1x2048 ![0, 0] g slices_S2x2048_S1x2048_0_0 (ix2 0 k) = g (ix2 0 k) := by
  pointwise []

theorem row_1 (g : FVec Ideal S2x2048 .f32) (k : Fin 2048) :
    extractStridedSlice S1x2048 ![1, 0] g slices_S2x2048_S1x2048_1_0 (ix2 0 k) = g (ix2 1 k) := by
  pointwise []

/-- The gains the kernel stages are the argument's two rows. -/
theorem gain_0 (k : Fin 2048) : (V m c main_v0 : FVec Ideal S1x2048 .f32) (ix2 0 k) = (m (c.tc.loc main_arg2) : FVec Ideal S2x2048 .f32) (ix2 0 k) := by
  have h : V m c main_v0 = (extractStridedSlice S1x2048 ![0, 0] (m (c.tc.loc main_arg2) : FVec Ideal S2x2048 .f32) slices_S2x2048_S1x2048_0_0 : FVec Ideal S1x2048 .f32) := by
    unfold_abbrev_sides
    after_results
  rw [h]
  exact row_0 (m (c.tc.loc main_arg2)) k

theorem gain_1 (k : Fin 2048) : (V m c main_v1 : FVec Ideal S1x2048 .f32) (ix2 0 k) = (m (c.tc.loc main_arg2) : FVec Ideal S2x2048 .f32) (ix2 1 k) := by
  have h : V m c main_v1 = (extractStridedSlice S1x2048 ![1, 0] (m (c.tc.loc main_arg2) : FVec Ideal S2x2048 .f32) slices_S2x2048_S1x2048_1_0 : FVec Ideal S1x2048 .f32) := by
    unfold_abbrev_sides
    after_results
  rw [h]
  exact row_1 (m (c.tc.loc main_arg2)) k

/-- The staged weights are the argument in the short format, which keeps every value. -/
theorem weights : (V m c main_v2 : FVec Ideal S4096x4096 .bf16) = (m (c.tc.loc main_arg3) : FVec Ideal S4096x4096 .f32) := by
  unfold_abbrev_sides
  after_results
  rfl

theorem blk_a (t : Fin cfg0.N) (r : Fin 512) (k : Fin 2048) (i : Fin 8704) (hi : i.val = 512 * (t.val / 8) + r.val) :
    (iblk m c 0 t : FVec Ideal S512x2048 .f32) (ix2 r k) = (m (c.tc.loc main_arg0) : FVec Ideal S8704x2048 .f32) (ix2 i k) := by
  obtain ⟨i0, -⟩ := index_facts t
  rw [← V_main_arg0 m c]
  blk_ext [i0, iblk, hi]

theorem blk_b (t : Fin cfg0.N) (r : Fin 512) (k : Fin 2048) (i : Fin 8704) (hi : i.val = 512 * (t.val / 8) + r.val) :
    (iblk m c 1 t : FVec Ideal S512x2048 .f32) (ix2 r k) = (m (c.tc.loc main_arg1) : FVec Ideal S8704x2048 .f32) (ix2 i k) := by
  obtain ⟨-, i1, -⟩ := index_facts t
  rw [← V_main_arg1 m c]
  blk_ext [i1, iblk, hi]

theorem blk_ga (t : Fin cfg0.N) (k : Fin 2048) :
    (iblk m c 2 t : FVec Ideal S1x2048 .f32) (ix2 0 k) = (m (c.tc.loc main_arg2) : FVec Ideal S2x2048 .f32) (ix2 0 k) := by
  obtain ⟨-, -, i2, -⟩ := index_facts t
  rw [← gain_0 m c]
  blk_ext [i2, iblk]

theorem blk_gb (t : Fin cfg0.N) (k : Fin 2048) :
    (iblk m c 3 t : FVec Ideal S1x2048 .f32) (ix2 0 k) = (m (c.tc.loc main_arg2) : FVec Ideal S2x2048 .f32) (ix2 1 k) := by
  obtain ⟨-, -, -, i3, -⟩ := index_facts t
  rw [← gain_1 m c]
  blk_ext [i3, iblk]

theorem blk_w (t : Fin cfg0.N) (k : Fin 4096) (q : Fin 512) (j : Fin 4096) (hj : j.val = 512 * (t.val % 8) + q.val) :
    (iblk m c 4 t : FVec Ideal S4096x512 .bf16) (ix2 k q) = (m (c.tc.loc main_arg3) : FVec Ideal S4096x4096 .f32) (ix2 k j) := by
  obtain ⟨-, -, -, -, i4, -⟩ := index_facts t
  refine Eq.trans ?_ (congrFun (weights m c) (ix2 k j))
  blk_ext [i4, iblk, hj]

theorem blk_h (t : Fin cfg0.N) (r : Fin 512) (k : Fin 512) (i : Fin 8704) (j : Fin 4096) (hi : i.val = 512 * (t.val / 8) + r.val)
    (hj : j.val = 512 * (t.val % 8) + k.val) :
    (iblk m c 5 t : FVec Ideal S512x512 .f32) (ix2 r k) = (m (c.tc.loc main_arg4) : FVec Ideal S8704x4096 .f32) (ix2 i j) := by
  obtain ⟨-, -, -, -, -, i5, -⟩ := index_facts t
  rw [← V_main_arg4 m c]
  blk_ext [i5, iblk, hi, hj]

/-- Where a block's index lies in the array. -/
theorem emb_val {s : Shape} (off size : Fin s.rank → ℕ) (inb : ∀ a, off a + size a ≤ s.size a) (x : (Rect.unit off size inb).shape.Idx)
    (a : Fin s.rank) : ((Rect.unit off size inb).emb x a).val = off a + (x a).val := Rect.idx_unit_val off size inb x a

/-- The last store's payload at an index it covers. -/
theorem canon_at {s : Shape} {e : EltTy} (R : Rect s) (w : R.shape.Idx → Elt Ideal e) (L : List (View.Piece (Elt Ideal) s e)) (y : s.Idx)
    (x : R.shape.Idx) (h : y = R.emb x) : View.canon (⟨R, w⟩ :: L) y = w x := by
  subst h
  exact View.canon_cons_emb R w L x

/-- An index the last store does not cover holds what was there before. -/
theorem canon_off {s : Shape} {e : EltTy} (R : Rect s) (w : R.shape.Idx → Elt Ideal e) (L : List (View.Piece (Elt Ideal) s e)) (y : s.Idx)
    (h : y ∉ R.set) : View.canon (⟨R, w⟩ :: L) y = View.canon L y :=
  View.canon_cons_of_not_mem ⟨R, w⟩ L h

/-- An index past the left half is the right half's. -/
theorem right_at (r : Fin 512) (e : Fin 2048) (k : Fin 4096) (hk : k.val = 2048 + e.val) :
    (ix2 r k : S512x4096.Idx) = (Rect.unit (s := S512x4096) ![0, 2048] ![512, 2048] inb_S512x4096_S512x2048_0_2048).emb (ix2 r e) := by
  funext a
  apply Fin.ext
  rw [emb_val]
  match a with
  | ⟨0, _⟩ => exact (Nat.zero_add _).symm
  | ⟨1, _⟩ => exact hk

theorem left_at (r : Fin 512) (e : Fin 2048) (k : Fin 4096) (hk : k.val = e.val) :
    (ix2 r k : S512x4096.Idx) = (Rect.unit (s := S512x4096) ![0, 0] ![512, 2048] inb_S512x4096_S512x2048_0_0).emb (ix2 r e) := by
  funext a
  apply Fin.ext
  rw [emb_val]
  match a with
  | ⟨0, _⟩ => exact (Nat.zero_add _).symm
  | ⟨1, _⟩ => exact hk.trans (Nat.zero_add _).symm

/-- What two stores side by side leave. -/
theorem two (a b : FVec Ideal S512x2048 .bf16) (r : Fin 512) (k : Fin 4096) :
    View.canon (Val := Elt Ideal) (s := S512x4096) (e := .bf16) [⟨Rect.unit ![0, 2048] ![512, 2048] inb_S512x4096_S512x2048_0_2048, b⟩,
      ⟨Rect.unit ![0, 0] ![512, 2048] inb_S512x4096_S512x2048_0_0, a⟩] (ix2 r k)
      = beside (fun e => a (ix2 r e)) (fun e => b (ix2 r e)) k := by
  by_cases hk : k.val < 2048
  · have hn : (ix2 r k : S512x4096.Idx) ∉ (Rect.unit (s := S512x4096) ![0, 2048] ![512, 2048] inb_S512x4096_S512x2048_0_2048).set := fun hm => by
      have h1 : 2048 ≤ k.val := (Rect.mem_set_unit.mp hm 1).1
      omega
    refine (canon_off (e := .bf16) (Rect.unit (s := S512x4096) ![0, 2048] ![512, 2048] inb_S512x4096_S512x2048_0_2048) b _ _ hn).trans ?_
    refine (canon_at (e := .bf16) (Rect.unit (s := S512x4096) ![0, 0] ![512, 2048] inb_S512x4096_S512x2048_0_0) a [] _ (ix2 r ⟨k.val, hk⟩) (left_at r ⟨k.val, hk⟩ k rfl)).trans ?_
    unfold beside; rw [dif_pos hk]
  · have hq : k.val - 2048 < 2048 := by omega
    refine (canon_at (e := .bf16) (Rect.unit (s := S512x4096) ![0, 2048] ![512, 2048] inb_S512x4096_S512x2048_0_2048) b _ _ (ix2 r ⟨k.val - 2048, hq⟩)
      (right_at r ⟨k.val - 2048, hq⟩ k (show k.val = 2048 + (k.val - 2048) by omega))).trans ?_
    unfold beside; rw [dif_neg hk]

/-- After a tile's first point the scratch holds the tile's rows normalized. -/
theorem first (t : Fin cfg0.N) (h0 : t.val % 8 = 0) (r : Fin 512) (k : Fin 4096) :
    ((outsAt0 m c t.val t.isLt).2 : FVec Ideal S512x4096 .bf16) (ix2 r k)
      = beside (fun e => k0_pay1 (F := Ideal) (iblk m c 0 t) (iblk m c 2 t) (ix2 r e))
        (fun e => k0_pay2 (F := Ideal) (iblk m c 1 t) (iblk m c 3 t) (ix2 r e)) k := by
  rw [outsAt0_A m c t h0]
  frame_out
  exact two _ _ r k

/-- The whole of the scratch, read in place. -/
theorem whole_at (j : S512x4096.Idx) : (Rect.unit (s := S512x4096) ![0, 0] S512x4096.size inb_S512x4096_S512x4096_0_0).emb j = j := by
  funext a
  apply Fin.ext
  rw [emb_val]
  match a with
  | ⟨0, _⟩ => exact Nat.zero_add _
  | ⟨1, _⟩ => exact Nat.zero_add _

theorem point (t : Fin cfg0.N) : (outsAt0 m c t.val t.isLt).1
    = k0_pay3 (F := Ideal) (iblk m c 5 t) (outsAt0 m c t.val t.isLt).2 (iblk m c 4 t) := by
  by_cases h0 : t.val % 8 = 0
  · rw [outsAt0_A m c t h0]
    frame_out
    exact congrArg (fun z => k0_pay3 (F := Ideal) (iblk m c 5 t) z (iblk m c 4 t)) ((View.readCov_eq_canon' _ _ _).trans
      (funext fun j => congrArg (View.canon _) (whole_at j)))
  · rw [outsAt0_B m c t h0]
    frame_out
    unfold sout0_B_0
    exact congrArg (fun z => k0_pay3 (F := Ideal) (iblk m c 5 t) z (iblk m c 4 t))
      (Memref.IsWhole.read_unread (Memref.isWhole_whole cc0_scratch0) _)

/-- At every point the scratch holds the rows of its tile, normalized. -/
theorem scratch : ∀ (n : ℕ) (h : n < cfg0.N) (r : Fin 512) (k : Fin 4096) (i : Fin 8704), i.val = 512 * (n / 8) + r.val →
    ((outsAt0 m c n h).2 : FVec Ideal S512x4096 .bf16) (ix2 r k)
      = nrow (m (c.tc.loc main_arg0)) (m (c.tc.loc main_arg1)) (m (c.tc.loc main_arg2)) i k := by
  have start : ∀ (t : Fin cfg0.N) (_ : t.val % 8 = 0) (r : Fin 512) (k : Fin 4096) (i : Fin 8704), i.val = 512 * (t.val / 8) + r.val →
      ((outsAt0 m c t.val t.isLt).2 : FVec Ideal S512x4096 .bf16) (ix2 r k)
        = nrow (m (c.tc.loc main_arg0)) (m (c.tc.loc main_arg1)) (m (c.tc.loc main_arg2)) i k := by
    intro t h0 r k i hi
    rw [first m c t h0]
    unfold nrow
    congr 1
    · funext q
      rw [pay1]
      congr 1
      · funext e; exact blk_a m c t r e i hi
      · funext e; exact blk_ga m c t e
    · funext q
      rw [pay2]
      congr 1
      · funext e; exact blk_b m c t r e i hi
      · funext e; exact blk_gb m c t e
  intro n
  induction n with
  | zero => exact fun h => start ⟨0, h⟩ rfl
  | succ n ih =>
    intro h r k i hi
    by_cases h0 : (n + 1) % 8 = 0
    · exact start ⟨n + 1, h⟩ h0 r k i hi
    · rw [outsAt0_B m c ⟨n + 1, h⟩ h0]
      exact ih (Nat.lt_of_succ_lt h) r k i (by omega)

/-- The array after the run. -/
theorem result : (dats m 0 c).arrAt 6 cfg0.N = out (m (c.tc.loc main_arg0)) (m (c.tc.loc main_arg1)) (m (c.tc.loc main_arg2))
    (m (c.tc.loc main_arg3)) (m (c.tc.loc main_arg4)) := by
  refine (dats m 0 c).arrAt_eq_of_covers 6 _ (by decide +kernel) fun t hf y => ?_
  blk_simp
  rw [after0_6, point]
  obtain ⟨-, -, -, -, -, -, i6⟩ := index_facts t
  have hq : (y 0).val < 512 := (y 0).isLt
  have hc : (y 1).val < 512 := (y 1).isLt
  have e0 : (((cfg0.win 6).blk t).view.emb y 0 : ℕ) = 512 * (t.val / 8) + (y 0).val := by
    blk_simp [i6]; simp; omega
  have e1 : (((cfg0.win 6).blk t).view.emb y 1 : ℕ) = 512 * (t.val % 8) + (y 1).val := by
    blk_simp [i6]; simp; omega
  refine (congrArg (k0_pay3 (F := Ideal) _ _ _)
    (show y = ix2 ⟨(y 0).val, hq⟩ ⟨(y 1).val, hc⟩ from by funext a; fin_cases a <;> rfl)).trans ?_
  refine (pay3 _ _ _ _ _).trans (congrArg₂ (· + ·) (blk_h m c t _ _ _ _ e0 e1) ?_)
  exact Finset.sum_congr rfl fun e _ => congrArg₂ (· * ·) (scratch m c t.val t.isLt _ _ _ e0) (blk_w m c t _ _ _ e1)

end Cert.OutProj

end
-- ==== Proof.OutRef.lean ====
/-
  The output projection's reference, element by element: the array of OutProj.lean.
-/
module

public import proofs.«01_k».proof.Proof.OutProj
public import proofs.«01_k».proof.Proof.Gen.Reference3Ideal.Read

@[expose] public section

set_option maxRecDepth 16384

noncomputable section

namespace Cert.OutRef

open Cert.Reference3Ideal Cert.Reference3Ideal.Read Idealize.ShloMosaic Idealize.ShloMosaic.Tactic Cert.Norm
open scoped BigOperators

theorem left (u v : Fin 2048 → EReal) (x : Fin 2048) : Cert.OutProj.beside u v (Fin.castAdd 2048 x) = u x := by
  unfold Cert.OutProj.beside
  rw [dif_pos (show (Fin.castAdd 2048 x).val < 2048 from x.isLt)]
  rfl

theorem right (u v : Fin 2048 → EReal) (x : Fin 2048) : Cert.OutProj.beside u v (Fin.natAdd 2048 x) = v x := by
  unfold Cert.OutProj.beside
  have h : (Fin.natAdd 2048 x).val = 2048 + x.val := rfl
  rw [dif_neg (by omega)]
  exact congrArg v (Fin.ext (by dsimp only; omega))

theorem at_entry (a b : FVec Ideal S8704x2048 .f32) (g : FVec Ideal S2x2048 .f32) (W : FVec Ideal S4096x4096 .f32) (h : FVec Ideal S8704x4096 .f32)
    (r : Fin 8704) (k : Fin 4096) : val_main_v32 (F := Ideal) a b g W h (ix2 r k) = Cert.OutProj.out a b g W h (ix2 r k) := by
  pointwise [val_main_v32, val_main_v31, val_main_v30, val_main_v29, val_main_v28, val_main_v27, val_main_v26, val_main_v25,
    val_main_v24, val_main_v23, val_main_v22, val_main_v21, val_main_v20, val_main_v19, val_main_v18, val_main_v17, val_main_v16, val_main_v15,
    val_main_v14, val_main_v13, val_main_v12, val_main_v11, val_main_v10, val_main_v9, val_main_v8, val_main_v7, val_main_v6, val_main_v5,
    val_main_v4, val_main_v3, val_main_v2, val_main_v1, val_main_v0, val_main_cst, val_main_cst_0, val_main_cst_1, val_main_cst_2, val_main_cst_3, val_main_cst_4]
  refine congrArg _ (Eq.symm ?_)
  refine (Fin.sum_univ_add (a := 2048) (b := 2048) (fun e : Fin 4096 => Cert.OutProj.nrow a b g r e * W (ix2 e k))).trans ?_
  refine congrArg₂ (· + ·) (Finset.sum_congr rfl fun x _ => ?_) (Finset.sum_congr rfl fun x _ => ?_)
  · refine congrArg₂ (· * ·) ?_ rfl
    exact left _ _ x
  · refine congrArg₂ (· * ·) ?_ rfl
    exact right _ _ x

theorem result (a b : FVec Ideal S8704x2048 .f32) (g : FVec Ideal S2x2048 .f32) (W : FVec Ideal S4096x4096 .f32) (h : FVec Ideal S8704x4096 .f32) :
    val_main_v32 (F := Ideal) a b g W h = Cert.OutProj.out a b g W h := by
  funext j
  rw [show j = ix2 (j 0) (j 1) from by funext a; fin_cases a <;> rfl]
  exact at_entry a b g W h (j 0) (j 1)

end Cert.OutRef

end
-- ==== Proof.Ple.lean ====
/-
  The per-layer embedding: rows normalized, multiplied into the gate's weights, the gate's logistic times the projected
  embedding added to the rows. At the first point of a tile of rows the kernel normalizes the tile into its scratch.
-/
module

public import proofs.«01_k».proof.Proof.Norm
public import proofs.«01_k».proof.Proof.Gen.Kernel4Ideal.Value

@[expose] public section

set_option maxRecDepth 16384

noncomputable section

namespace Cert.Ple

open Cert.Kernel4Ideal Cert.Kernel4Ideal.Gen Idealize.ShloMosaic Idealize.ShloMosaic.TcCoe Idealize.ShloMosaic.Tactic Cert.Norm
open Idealize.ShloMosaic.Pipeline (Dat)
open scoped BigOperators

/-- Row `i` of the normalized array. -/
def nrow (H : FVec Ideal S8704x4096 .f32) (g : FVec Ideal S4096 .f32) (i : Fin 8704) (k : Fin 4096) : EReal :=
  normed 1166016512#32 (fun e => H (ix2 i e)) (fun e => g (ix1 e)) k

/-- The result array: rows, embedding, projection, gain, gate. -/
def out (H : FVec Ideal S8704x4096 .f32) (P : FVec Ideal S8704x256 .f32) (W : FVec Ideal S256x4096 .f32) (g : FVec Ideal S4096 .f32)
    (G : FVec Ideal S4096x4096 .f32) : FVec Ideal S8704x4096 .f32 := fun j =>
  H (ix2 (j 0) (j 1)) + Ideal.logistic (∑ k : Fin 4096, nrow H g (j 0) k * G (ix2 k (j 1)))
    * ∑ k : Fin 256, P (ix2 (j 0) k) * W (ix2 k (j 1))

theorem pay1 (x : FVec Ideal S512x4096 .f32) (g : FVec Ideal S1x4096 .f32) (r : Fin 512) (k : Fin 4096) :
    k0_pay1 (F := Ideal) x g (ix2 r k) = normed 1166016512#32 (fun e => x (ix2 r e)) (fun e => g (ix2 0 e)) k := by
  pointwise [k0_pay1]
  rfl

theorem pay2 (x : FVec Ideal S512x4096 .bf16) (G : FVec Ideal S4096x512 .bf16) (p : FVec Ideal S512x256 .bf16) (w : FVec Ideal S256x512 .bf16)
    (h : FVec Ideal S512x512 .f32) (r : Fin 512) (k : Fin 512) :
    k0_pay2 (F := Ideal) x G p w h (ix2 r k) = h (ix2 r k) + Ideal.logistic (∑ e : Fin 4096, x (ix2 r e) * G (ix2 e k))
      * ∑ e : Fin 256, p (ix2 r e) * w (ix2 e k) := by
  pointwise [k0_pay2]

theorem index_facts : ∀ t : Fin grid0.N, win0_0.index t = ![t.val / 8, 0] ∧ win0_1.index t = ![t.val / 8, t.val % 8]
    ∧ win0_2.index t = ![0, 0] ∧ win0_3.index t = ![0, t.val % 8] ∧ win0_4.index t = ![t.val / 8, 0] ∧ win0_5.index t = ![0, t.val % 8]
    ∧ win0_6.index t = ![t.val / 8, t.val % 8] := by decide +kernel

variable (m : (ℓ : Loc nD τ sig) → Buf (Elt Ideal) ℓ) (c : Dev nD)

theorem row_of (g : FVec Ideal S4096 .f32) (k : Fin 4096) : shapeCast S1x4096 g shapeCasts_S4096_S1x4096 (ix2 0 k) = g (ix1 k) := by
  pointwise []

/-- The gain the kernel stages is the argument, laid as one row. -/
theorem gain (k : Fin 4096) : (V m c main_v3 : FVec Ideal S1x4096 .f32) (ix2 0 k) = (m (c.tc.loc main_arg3) : FVec Ideal S4096 .f32) (ix1 k) := by
  have h : V m c main_v3 = (shapeCast S1x4096 (m (c.tc.loc main_arg3) : FVec Ideal S4096 .f32) shapeCasts_S4096_S1x4096 : FVec Ideal S1x4096 .f32) := by
    unfold_abbrev_sides
    after_results
    rfl
  rw [h]
  exact row_of (m (c.tc.loc main_arg3)) k

/-- The other staged arrays are arguments in the short format, which keeps every value. -/
theorem gate : (V m c main_v0 : FVec Ideal S4096x4096 .bf16) = (m (c.tc.loc main_arg4) : FVec Ideal S4096x4096 .f32) := by
  unfold_abbrev_sides
  after_results
  rfl

theorem emb : (V m c main_v1 : FVec Ideal S8704x256 .bf16) = (m (c.tc.loc main_arg1) : FVec Ideal S8704x256 .f32) := by
  unfold_abbrev_sides
  after_results
  rfl

theorem proj : (V m c main_v2 : FVec Ideal S256x4096 .bf16) = (m (c.tc.loc main_arg2) : FVec Ideal S256x4096 .f32) := by
  unfold_abbrev_sides
  after_results
  rfl

theorem blk_x (t : Fin cfg0.N) (r : Fin 512) (k : Fin 4096) (i : Fin 8704) (hi : i.val = 512 * (t.val / 8) + r.val) :
    (iblk m c 0 t : FVec Ideal S512x4096 .f32) (ix2 r k) = (m (c.tc.loc main_arg0) : FVec Ideal S8704x4096 .f32) (ix2 i k) := by
  obtain ⟨i0, -⟩ := index_facts t
  rw [← V_main_arg0 m c]
  blk_ext [i0, iblk, hi]

theorem blk_h (t : Fin cfg0.N) (r : Fin 512) (k : Fin 512) (i : Fin 8704) (j : Fin 4096) (hi : i.val = 512 * (t.val / 8) + r.val)
    (hj : j.val = 512 * (t.val % 8) + k.val) :
    (iblk m c 1 t : FVec Ideal S512x512 .f32) (ix2 r k) = (m (c.tc.loc main_arg0) : FVec Ideal S8704x4096 .f32) (ix2 i j) := by
  obtain ⟨-, i1, -⟩ := index_facts t
  rw [← V_main_arg0 m c]
  blk_ext [i1, iblk, hi, hj]

theorem blk_g (t : Fin cfg0.N) (k : Fin 4096) :
    (iblk m c 2 t : FVec Ideal S1x4096 .f32) (ix2 0 k) = (m (c.tc.loc main_arg3) : FVec Ideal S4096 .f32) (ix1 k) := by
  obtain ⟨-, -, i2, -⟩ := index_facts t
  rw [← gain m c]
  blk_ext [i2, iblk]

theorem blk_gate (t : Fin cfg0.N) (k : Fin 4096) (q : Fin 512) (j : Fin 4096) (hj : j.val = 512 * (t.val % 8) + q.val) :
    (iblk m c 3 t : FVec Ideal S4096x512 .bf16) (ix2 k q) = (m (c.tc.loc main_arg4) : FVec Ideal S4096x4096 .f32) (ix2 k j) := by
  obtain ⟨-, -, -, i3, -⟩ := index_facts t
  refine Eq.trans ?_ (congrFun (gate m c) (ix2 k j))
  blk_ext [i3, iblk, hj]

theorem blk_emb (t : Fin cfg0.N) (r : Fin 512) (k : Fin 256) (i : Fin 8704) (hi : i.val = 512 * (t.val / 8) + r.val) :
    (iblk m c 4 t : FVec Ideal S512x256 .bf16) (ix2 r k) = (m (c.tc.loc main_arg1) : FVec Ideal S8704x256 .f32) (ix2 i k) := by
  obtain ⟨-, -, -, -, i4, -⟩ := index_facts t
  refine Eq.trans ?_ (congrFun (emb m c) (ix2 i k))
  blk_ext [i4, iblk, hi]

theorem blk_proj (t : Fin cfg0.N) (k : Fin 256) (q : Fin 512) (j : Fin 4096) (hj : j.val = 512 * (t.val % 8) + q.val) :
    (iblk m c 5 t : FVec Ideal S256x512 .bf16) (ix2 k q) = (m (c.tc.loc main_arg2) : FVec Ideal S256x4096 .f32) (ix2 k j) := by
  obtain ⟨-, -, -, -, -, i5, -⟩ := index_facts t
  refine Eq.trans ?_ (congrFun (proj m c) (ix2 k j))
  blk_ext [i5, iblk, hj]

/-- After a tile's first point the scratch holds the tile's rows normalized. -/
theorem first (t : Fin cfg0.N) (h0 : t.val % 8 = 0) :
    (outsAt0 m c t.val t.isLt).2 = k0_pay1 (F := Ideal) (iblk m c 0 t) (iblk m c 2 t) := by
  rw [outsAt0_A m c t h0]
  frame_out

theorem point (t : Fin cfg0.N) : (outsAt0 m c t.val t.isLt).1
    = k0_pay2 (F := Ideal) (outsAt0 m c t.val t.isLt).2 (iblk m c 3 t) (iblk m c 4 t) (iblk m c 5 t) (iblk m c 1 t) := by
  by_cases h0 : t.val % 8 = 0
  · rw [first m c t h0, outsAt0_A m c t h0]
    frame_out
  · rw [outsAt0_B m c t h0]
    frame_out
    unfold sout0_B_0
    exact congrArg (fun z => k0_pay2 (F := Ideal) z (iblk m c 3 t) (iblk m c 4 t) (iblk m c 5 t) (iblk m c 1 t))
      (Memref.IsWhole.read_unread (Memref.isWhole_whole cc0_scratch0) _)

/-- At every point the scratch holds the rows of its tile, normalized. -/
theorem scratch : ∀ (n : ℕ) (h : n < cfg0.N) (r : Fin 512) (k : Fin 4096) (i : Fin 8704), i.val = 512 * (n / 8) + r.val →
    ((outsAt0 m c n h).2 : FVec Ideal S512x4096 .bf16) (ix2 r k) = nrow (m (c.tc.loc main_arg0)) (m (c.tc.loc main_arg3)) i k := by
  have start : ∀ (t : Fin cfg0.N) (_ : t.val % 8 = 0) (r : Fin 512) (k : Fin 4096) (i : Fin 8704), i.val = 512 * (t.val / 8) + r.val →
      ((outsAt0 m c t.val t.isLt).2 : FVec Ideal S512x4096 .bf16) (ix2 r k) = nrow (m (c.tc.loc main_arg0)) (m (c.tc.loc main_arg3)) i k := by
    intro t h0 r k i hi
    rw [first m c t h0, pay1]
    unfold nrow
    congr 1
    · funext e; exact blk_x m c t r e i hi
    · funext e; exact blk_g m c t e
  intro n
  induction n with
  | zero => exact fun h => start ⟨0, h⟩ rfl
  | succ n ih =>
    intro h r k i hi
    by_cases h0 : (n + 1) % 8 = 0
    · exact start ⟨n + 1, h⟩ h0 r k i hi
    · rw [outsAt0_B m c ⟨n + 1, h⟩ h0]
      exact ih (Nat.lt_of_succ_lt h) r k i (by omega)

/-- The array after the run. -/
theorem result : (dats m 0 c).arrAt 6 cfg0.N = out (m (c.tc.loc main_arg0)) (m (c.tc.loc main_arg1)) (m (c.tc.loc main_arg2))
    (m (c.tc.loc main_arg3)) (m (c.tc.loc main_arg4)) := by
  refine (dats m 0 c).arrAt_eq_of_covers 6 _ (by decide +kernel) fun t hf y => ?_
  blk_simp
  rw [after0_6, point]
  obtain ⟨-, -, -, -, -, -, i6⟩ := index_facts t
  have hq : (y 0).val < 512 := (y 0).isLt
  have hc : (y 1).val < 512 := (y 1).isLt
  have e0 : (((cfg0.win 6).blk t).view.emb y 0 : ℕ) = 512 * (t.val / 8) + (y 0).val := by
    blk_simp [i6]; simp; omega
  have e1 : (((cfg0.win 6).blk t).view.emb y 1 : ℕ) = 512 * (t.val % 8) + (y 1).val := by
    blk_simp [i6]; simp; omega
  refine (congrArg (k0_pay2 (F := Ideal) _ _ _ _ _)
    (show y = ix2 ⟨(y 0).val, hq⟩ ⟨(y 1).val, hc⟩ from by funext a; fin_cases a <;> rfl)).trans ?_
  refine (pay2 _ _ _ _ _ _ _).trans (congrArg₂ (· + ·) (blk_h m c t _ _ _ _ e0 e1) (congrArg₂ (· * ·) (congrArg Ideal.logistic ?_) ?_))
  · exact Finset.sum_congr rfl fun e _ => congrArg₂ (· * ·) (scratch m c t.val t.isLt _ _ _ e0) (blk_gate m c t _ _ _ e1)
  · exact Finset.sum_congr rfl fun e _ => congrArg₂ (· * ·) (blk_emb m c t _ _ _ e0) (blk_proj m c t _ _ _ e1)

end Cert.Ple

end
-- ==== Proof.PleRef.lean ====
/-
  The per-layer embedding's reference, element by element: the array of Ple.lean.
-/
module

public import proofs.«01_k».proof.Proof.Ple
public import proofs.«01_k».proof.Proof.Gen.Reference4Ideal.Read

@[expose] public section

set_option maxRecDepth 16384

noncomputable section

namespace Cert.PleRef

open Cert.Reference4Ideal Cert.Reference4Ideal.Read Idealize.ShloMosaic Idealize.ShloMosaic.Tactic Cert.Norm
open scoped BigOperators

/-- The reference spells the logistic `1 / (1 + exp (-z))`. -/
theorem at_entry (h : FVec Ideal S8704x4096 .f32) (p : FVec Ideal S8704x256 .f32) (w : FVec Ideal S256x4096 .f32) (g : FVec Ideal S4096 .f32)
    (G : FVec Ideal S4096x4096 .f32) (r : Fin 8704) (k : Fin 4096) :
    val_main_v22 (F := Ideal) h p w g G (ix2 r k) = Cert.Ple.out h p w g G (ix2 r k) := by
  pointwise [val_main_v22, val_main_v21, val_main_v20, val_main_v19, val_main_v18, val_main_v17, val_main_v16, val_main_v15, val_main_v14, val_main_v13, val_main_v12,
    val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3]
  rfl

theorem result (h : FVec Ideal S8704x4096 .f32) (p : FVec Ideal S8704x256 .f32) (w : FVec Ideal S256x4096 .f32) (g : FVec Ideal S4096 .f32)
    (G : FVec Ideal S4096x4096 .f32) : val_main_v22 (F := Ideal) h p w g G = Cert.Ple.out h p w g G := by
  funext j
  rw [show j = ix2 (j 0) (j 1) from by funext a; fin_cases a <;> rfl]
  exact at_entry h p w g G (j 0) (j 1)

end Cert.PleRef

end
-- ==== Proof.Final.lean ====
/-
  The closing norm: every row normalized, a tile of rows at a time.
-/
module

public import proofs.«01_k».proof.Proof.Norm
public import proofs.«01_k».proof.Proof.Gen.Kernel6Ideal.Value
public import proofs.«01_k».proof.Proof.Gen.Reference6Ideal.Read

@[expose] public section

set_option maxRecDepth 16384

noncomputable section

namespace Cert.Final

open Cert.Kernel6Ideal Cert.Kernel6Ideal.Gen Idealize.ShloMosaic Idealize.ShloMosaic.TcCoe Idealize.ShloMosaic.Tactic Cert.Norm
open Idealize.ShloMosaic.Pipeline (Dat)

/-- The result array. -/
def out (X : FVec Ideal S8704x4096 .f32) (g : FVec Ideal S4096 .f32) : FVec Ideal S8704x4096 .f32 :=
  fun j => normed 1166016512#32 (fun e => X (ix2 (j 0) e)) (fun e => g (ix1 e)) (j 1)

theorem pay1 (x : FVec Ideal S512x4096 .f32) (g : FVec Ideal S1x4096 .f32) (r : Fin 512) (k : Fin 4096) :
    k0_pay1 (F := Ideal) x g (ix2 r k) = normed 1166016512#32 (fun e => x (ix2 r e)) (fun e => g (ix2 0 e)) k := by
  pointwise [k0_pay1]
  rfl

theorem index_facts : ∀ t : Fin grid0.N, win0_0.index t = ![t.val, 0] ∧ win0_1.index t = ![0, 0]
    ∧ win0_2.index t = ![t.val, 0] := by decide +kernel

variable (m : (ℓ : Loc nD τ sig) → Buf (Elt Ideal) ℓ) (c : Dev nD)

theorem row_of (g : FVec Ideal S4096 .f32) (k : Fin 4096) : shapeCast S1x4096 g shapeCasts_S4096_S1x4096 (ix2 0 k) = g (ix1 k) := by
  pointwise []

/-- The gain the kernel stages is the argument, laid as one row. -/
theorem gain (k : Fin 4096) : (V m c main_v0 : FVec Ideal S1x4096 .f32) (ix2 0 k) = (m (c.tc.loc main_arg1) : FVec Ideal S4096 .f32) (ix1 k) := by
  have h : V m c main_v0 = (shapeCast S1x4096 (m (c.tc.loc main_arg1) : FVec Ideal S4096 .f32) shapeCasts_S4096_S1x4096 : FVec Ideal S1x4096 .f32) := by
    unfold_abbrev_sides
    after_results
    rfl
  rw [h]
  exact row_of (m (c.tc.loc main_arg1)) k

theorem blk_x (t : Fin cfg0.N) (r : Fin 512) (k : Fin 4096) (i : Fin 8704) (hi : i.val = 512 * t.val + r.val) :
    (iblk m c 0 t : FVec Ideal S512x4096 .f32) (ix2 r k) = (m (c.tc.loc main_arg0) : FVec Ideal S8704x4096 .f32) (ix2 i k) := by
  obtain ⟨i0, -⟩ := index_facts t
  rw [← V_main_arg0 m c]
  blk_ext [i0, iblk, hi]

theorem blk_g (t : Fin cfg0.N) (k : Fin 4096) :
    (iblk m c 1 t : FVec Ideal S1x4096 .f32) (ix2 0 k) = (m (c.tc.loc main_arg1) : FVec Ideal S4096 .f32) (ix1 k) := by
  obtain ⟨-, i1, -⟩ := index_facts t
  rw [← gain m c]
  blk_ext [i1, iblk]

theorem point (t : Fin cfg0.N) : out0_2 (F := Ideal) (iblk m c 0 t) (iblk m c 1 t) = k0_pay1 (F := Ideal) (iblk m c 0 t) (iblk m c 1 t) := by
  unfold out0_2
  frame_out

/-- The array after the run. -/
theorem result : (dats m 0 c).arrAt 2 cfg0.N = out (m (c.tc.loc main_arg0)) (m (c.tc.loc main_arg1)) := by
  refine (dats m 0 c).arrAt_eq_of_covers 2 _ (by decide +kernel) fun t hf y => ?_
  blk_simp
  rw [after0_2, point]
  obtain ⟨-, -, i2⟩ := index_facts t
  have hq : (y 0).val < 512 := (y 0).isLt
  have hc : (y 1).val < 4096 := (y 1).isLt
  have e0 : (((cfg0.win 2).blk t).view.emb y 0 : ℕ) = 512 * t.val + (y 0).val := by
    blk_simp [i2]; simp; omega
  have e1 : (((cfg0.win 2).blk t).view.emb y 1 : ℕ) = (y 1).val := by
    blk_simp [i2]
  refine (congrArg (k0_pay1 (F := Ideal) _ _) (show y = ix2 ⟨(y 0).val, hq⟩ ⟨(y 1).val, hc⟩ from by funext a; fin_cases a <;> rfl)).trans ?_
  refine (pay1 _ _ _ _).trans ?_
  unfold out
  rw [show (fun e => (iblk m c 0 t : FVec Ideal S512x4096 .f32) (ix2 ⟨(y 0).val, hq⟩ e)) = fun e => (m (c.tc.loc main_arg0) : FVec Ideal S8704x4096 .f32) (ix2 (((cfg0.win 2).blk t).view.emb y 0) e)
    from funext fun e => blk_x m c t _ _ _ e0, show (fun e => (iblk m c 1 t : FVec Ideal S1x4096 .f32) (ix2 0 e)) = fun e => (m (c.tc.loc main_arg1) : FVec Ideal S4096 .f32) (ix1 e) from funext fun e => blk_g m c t e]
  exact congrArg (normed _ _ _) (Fin.ext e1.symm)

end Cert.Final

namespace Cert.FinalRef

open Cert.Reference6Ideal Cert.Reference6Ideal.Read Idealize.ShloMosaic Idealize.ShloMosaic.Tactic Cert.Norm

theorem at_entry (x : FVec Ideal S8704x4096 .f32) (g : FVec Ideal S4096 .f32) (r : Fin 8704) (k : Fin 4096) :
    val_main_v12 (F := Ideal) x g (ix2 r k) = Cert.Final.out x g (ix2 r k) := by
  pointwise [val_main_v12, val_main_v11, val_main_v10, val_main_v9, val_main_v8, val_main_v7, val_main_v6,
    val_main_v5, val_main_v4, val_main_v3, val_main_v2, val_main_v1, val_main_v0, val_main_cst, val_main_cst_0, val_main_cst_1]
  rfl

/-- The closing norm's reference is the same array. -/
theorem result (x : FVec Ideal S8704x4096 .f32) (g : FVec Ideal S4096 .f32) : val_main_v12 (F := Ideal) x g = Cert.Final.out x g := by
  funext j
  rw [show j = ix2 (j 0) (j 1) from by funext a; fin_cases a <;> rfl]
  exact at_entry x g (j 0) (j 1)

end Cert.FinalRef

end
-- ==== Proof.SplitRun.lean ====
/-
  The rows' split: one run of the kernel's body, and the pieces that it leaves in each result's buffer.
-/
module

public import proofs.«01_k».proof.Proof.Gen.Kernel5Ideal.Frame
public import proofs.«01_k».proof.Proof.Gen.Kernel5Ideal.Skeleton
public import Idealize.ShloMosaic.Lib.Claim

@[expose] public section

set_option maxRecDepth 65536

noncomputable section

namespace Cert.SplitRun

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The pieces that the body stores into each result's buffer, and the body's run: the inputs' buffers keep their
    contents, and each result's buffer ends with its pieces written. -/
def run (c : Dev nD) (i : grid0.Coords) (arg1 : Memref sig .tc .vmem S256x4224 .f32) (harg1 : arg1.IsWhole) (arg2 : Memref sig .tc .vmem S256x128 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x896 .f32) (harg6 : arg6.IsWhole) (arg7 : Memref sig .tc .vmem S1x384 .f32) (harg7 : arg7.IsWhole) (arg8 : Memref sig .tc .vmem S896x3072 .bf16) (harg8 : arg8.IsWhole) (arg9 : Memref sig .tc .vmem S16x128x384 .bf16) (harg9 : arg9.IsWhole) (arg10 : Memref sig .tc .vmem S256x2048 .bf16) (harg10 : arg10.IsWhole) (arg11 : Memref sig .tc .vmem S512x128 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S256x256 .bf16) (harg14 : arg14.IsWhole) (arg15 : Memref sig .tc .vmem S256x256 .bf16) (harg15 : arg15.IsWhole) (arg16 : Memref sig .tc .vmem S256x128 .f32) (harg16 : arg16.IsWhole) (arg17 : Memref sig .tc .vmem S256x6144 .bf16) (harg17 : arg17.IsWhole) (arg18 : Memref sig .tc .vmem S256x384 .f32) (harg18 : arg18.IsWhole) (arg19 : Memref sig .tc .vmem S256x384 .bf16) (harg19 : arg19.IsWhole)
    (x0 : Vec F S256x4224 .f32) (x1 : Vec F S256x128 .f32) (x2 : Vec F S256x128 .f32) (x3 : Vec F S256x128 .f32) (x4 : Vec F S256x128 .f32) (x5 : Vec F S1x896 .f32) (x6 : Vec F S1x384 .f32) (x7 : Vec F S896x3072 .bf16) (x8 : Vec F S16x128x384 .bf16) :
    Σ' (L9 : List (View.Piece (Elt F) S256x2048 .bf16)) (L10 : List (View.Piece (Elt F) S512x128 .f32)) (L11 : List (View.Piece (Elt F) S512x128 .f32)) (L12 : List (View.Piece (Elt F) S512x128 .f32)) (L13 : List (View.Piece (Elt F) S256x256 .bf16)) (L14 : List (View.Piece (Elt F) S256x256 .bf16)) (L15 : List (View.Piece (Elt F) S256x128 .f32)) (L16 : List (View.Piece (Elt F) S256x6144 .bf16)) (L17 : List (View.Piece (Elt F) S256x384 .f32)), { L18 : List (View.Piece (Elt F) S256x384 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f L14) ∗ (∃ f, arg16.view.loc (c : Thread nD τ) ↦[arg16.view.set]{fullShare} arg16.view.writes (Elt F) f L15) ∗ (∃ f, arg17.view.loc (c : Thread nD τ) ↦[arg17.view.set]{fullShare} arg17.view.writes (Elt F) f L16) ∗ (∃ f, arg18.view.loc (c : Thread nD τ) ↦[arg18.view.set]{fullShare} arg18.view.writes (Elt F) f L17) ∗ (∃ f, arg19.view.loc (c : Thread nD τ) ↦[arg19.view.set]{fullShare} arg19.view.writes (Elt F) f L18)) -∗ K ⟨⟩))
          ⊢ wp frame (wpE (defs₀ (F := F)) Variants.none c none) E (cc0_split_projection i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, ?_, ?_, ?_, ?_, ?_, ?_, ?_, ?_, fun E K => ?run⟩
  case run =>
    simp only [cc0_split_projection_eq_skeleton]; unfold cc0_split_projection_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    iexists _; iexact H18

end Cert.SplitRun

end
-- ==== Proof.SplitFrame.lean ====
/-
  The rows' split: the whole call's run, from the body's at each point of the grid. The generator writes this step for
  kernels whose stores are of consecutive rows; here the two halves of a key-value pair are stored into alternating
  rows, so it is written by hand, after the same plan.
-/
module

public import proofs.«01_k».proof.Proof.SplitRun
public import Idealize.ShloMosaic.Lib.Pipeline.FrameBody
public import Idealize.ShloMosaic.Lib.WordCmp

@[expose] public section

set_option maxRecDepth 65536

noncomputable section

namespace Cert.SplitFrame

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pieces cover each result's block -/

/-- Two stores, one into the odd rows of a block of `512` rows and one into the even ones, cover it. -/
theorem cover_rows {e : EltTy} (L : List (View.Piece (Elt F) S512x128 e))
    (h : L.map (fun q => q.1) = [⟨⟨![1, 0], S256x128.size, ![2, 1], inb_S512x128_S256x128_1_0_s_2_1⟩, spos_2_1⟩,
      ⟨⟨![0, 0], S256x128.size, ![2, 1], inb_S512x128_S256x128_0_0_s_2_1⟩, spos_2_1⟩])
    (y : S512x128.Idx) : ∃ q ∈ L, y ∈ q.1.set := by
  have hr : ∀ r ∈ L.map (fun q => q.1), ∃ q ∈ L, q.1 = r := fun r hr => by simpa using hr
  have h0 : (y 0).val < 512 := (y 0).isLt
  have h1 : (y 1).val < 128 := (y 1).isLt
  rcases Nat.mod_two_eq_zero_or_one (y 0).val with hy | hy
  · obtain ⟨q, hq, e⟩ := hr _ (by rw [h]; exact List.mem_cons_of_mem _ List.mem_cons_self)
    refine ⟨q, hq, e ▸ (LoadRect.mem_set _).mpr (Fin.forall_fin_two.mpr ⟨⟨(y 0).val / 2, ?_, ?_⟩, ⟨(y 1).val, ?_, ?_⟩⟩)⟩
    · show (y 0).val / 2 < 256; omega
    · show (y 0).val = 0 + 2 * ((y 0).val / 2); omega
    · show (y 1).val < 128; omega
    · show (y 1).val = 0 + 1 * (y 1).val; omega
  · obtain ⟨q, hq, e⟩ := hr _ (by rw [h]; exact List.mem_cons_self)
    refine ⟨q, hq, e ▸ (LoadRect.mem_set _).mpr (Fin.forall_fin_two.mpr ⟨⟨(y 0).val / 2, ?_, ?_⟩, ⟨(y 1).val, ?_, ?_⟩⟩)⟩
    · show (y 0).val / 2 < 256; omega
    · show (y 0).val = 1 + 2 * ((y 0).val / 2); omega
    · show (y 1).val < 128; omega
    · show (y 1).val = 0 + 1 * (y 1).val; omega

/-- The pieces that the body at point `t` of the grid stores, and its run there. -/
def pieces (c : Dev nD) (t : Fin cfg0.N) :=
  Cert.SplitRun.run (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (win0_18.stage (cfg0.slots t 18)) (hstage0_18 ((cfg0.slots t 18).cast nbuf0_18)) (iblk m c 0 t) (iblk m c 1 t) (iblk m c 2 t) (iblk m c 3 t) (iblk m c 4 t) (iblk m c 5 t) (iblk m c 6 t) (iblk m c 7 t) (iblk m c 8 t)

theorem cover9 (c : Dev nD) (t : Fin cfg0.N) (y : S256x2048.Idx) :
    ∃ q ∈ (pieces m c t).1, y ∈ q.1.set := View.cover_of_tiledL _ ![256, 128] (by sl_kernel_rfl) y

theorem cover10 (c : Dev nD) (t : Fin cfg0.N) (y : S512x128.Idx) :
    ∃ q ∈ (pieces m c t).2.1, y ∈ q.1.set := cover_rows _ (by sl_kernel_rfl) y

theorem cover11 (c : Dev nD) (t : Fin cfg0.N) (y : S512x128.Idx) :
    ∃ q ∈ (pieces m c t).2.2.1, y ∈ q.1.set := cover_rows _ (by sl_kernel_rfl) y

theorem cover12 (c : Dev nD) (t : Fin cfg0.N) (y : S512x128.Idx) :
    ∃ q ∈ (pieces m c t).2.2.2.1, y ∈ q.1.set := cover_rows _ (by sl_kernel_rfl) y

theorem cover13 (c : Dev nD) (t : Fin cfg0.N) (y : S256x256.Idx) :
    ∃ q ∈ (pieces m c t).2.2.2.2.1, y ∈ q.1.set := View.cover_of_tiledL _ ![256, 128] (by sl_kernel_rfl) y

theorem cover14 (c : Dev nD) (t : Fin cfg0.N) (y : S256x256.Idx) :
    ∃ q ∈ (pieces m c t).2.2.2.2.2.1, y ∈ q.1.set := View.cover_of_tiledL _ ![256, 128] (by sl_kernel_rfl) y

theorem cover15 (c : Dev nD) (t : Fin cfg0.N) (y : S256x128.Idx) :
    ∃ q ∈ (pieces m c t).2.2.2.2.2.2.1, y ∈ q.1.set := View.cover_of_tiledL _ ![256, 128] (by sl_kernel_rfl) y

theorem cover16 (c : Dev nD) (t : Fin cfg0.N) (y : S256x6144.Idx) :
    ∃ q ∈ (pieces m c t).2.2.2.2.2.2.2.1, y ∈ q.1.set := View.cover_of_tiledBy _ ![256, 128] (by sl_kernel_rfl) y

theorem cover17 (c : Dev nD) (t : Fin cfg0.N) (y : S256x384.Idx) :
    ∃ q ∈ (pieces m c t).2.2.2.2.2.2.2.2.1, y ∈ q.1.set := View.cover_of_tiledBy _ ![256, 128] (by sl_kernel_rfl) y

theorem cover18 (c : Dev nD) (t : Fin cfg0.N) (y : S256x384.Idx) :
    ∃ q ∈ (pieces m c t).2.2.2.2.2.2.2.2.2.1, y ∈ q.1.set := View.cover_of_tiledBy _ ![256, 128] (by sl_kernel_rfl) y

/-! ## The call's data -/

/-- The arrays at the call's start, and what each window's buffer holds after the body at a point: an input's its block,
    a result's the pieces stored over it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => View.canon (pieces m c t).1
    | ⟨10, _⟩ => View.canon (pieces m c t).2.1
    | ⟨11, _⟩ => View.canon (pieces m c t).2.2.1
    | ⟨12, _⟩ => View.canon (pieces m c t).2.2.2.1
    | ⟨13, _⟩ => View.canon (pieces m c t).2.2.2.2.1
    | ⟨14, _⟩ => View.canon (pieces m c t).2.2.2.2.2.1
    | ⟨15, _⟩ => View.canon (pieces m c t).2.2.2.2.2.2.1
    | ⟨16, _⟩ => View.canon (pieces m c t).2.2.2.2.2.2.2.1
    | ⟨17, _⟩ => View.canon (pieces m c t).2.2.2.2.2.2.2.2.1
    | ⟨18, _⟩ => View.canon (pieces m c t).2.2.2.2.2.2.2.2.2.1
    | ⟨k + 19, h⟩ => absurd (show k + 19 < 19 from h) (by omega)
  Φ _ := Pipeline.ΦA spec0 c
  q _ := fullShare
  owed _ := 0

theorem A_eq (c : Dev nD) (w : Fin cfg0.W) : (dats m 0 c).A w = V m c (Pipeline.arrRef spec0 w) := by dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = View.canon (pieces m c t).1 := by dsimp only [dats]
theorem after0_10 (c : Dev nD) (t : Fin cfg0.N) : (dats m 0 c).after 10 t = View.canon (pieces m c t).2.1 := by dsimp only [dats]
theorem after0_11 (c : Dev nD) (t : Fin cfg0.N) : (dats m 0 c).after 11 t = View.canon (pieces m c t).2.2.1 := by dsimp only [dats]
theorem after0_12 (c : Dev nD) (t : Fin cfg0.N) : (dats m 0 c).after 12 t = View.canon (pieces m c t).2.2.2.1 := by dsimp only [dats]
theorem after0_13 (c : Dev nD) (t : Fin cfg0.N) : (dats m 0 c).after 13 t = View.canon (pieces m c t).2.2.2.2.1 := by dsimp only [dats]
theorem after0_14 (c : Dev nD) (t : Fin cfg0.N) : (dats m 0 c).after 14 t = View.canon (pieces m c t).2.2.2.2.2.1 := by dsimp only [dats]
theorem after0_15 (c : Dev nD) (t : Fin cfg0.N) : (dats m 0 c).after 15 t = View.canon (pieces m c t).2.2.2.2.2.2.1 := by dsimp only [dats]
theorem after0_16 (c : Dev nD) (t : Fin cfg0.N) : (dats m 0 c).after 16 t = View.canon (pieces m c t).2.2.2.2.2.2.2.1 := by dsimp only [dats]
theorem after0_17 (c : Dev nD) (t : Fin cfg0.N) : (dats m 0 c).after 17 t = View.canon (pieces m c t).2.2.2.2.2.2.2.2.1 := by dsimp only [dats]
theorem after0_18 (c : Dev nD) (t : Fin cfg0.N) : (dats m 0 c).after 18 t = View.canon (pieces m c t).2.2.2.2.2.2.2.2.2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-! ## The body at each point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t))

set_option maxHeartbeats 3200000 in
/-- The body at any point: each input's buffer holds its block, so the body's run applies, and the pieces that it
    leaves in a result's buffer cover it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl]
  simp only [after0_0, after0_1, after0_2, after0_3, after0_4, after0_5, after0_6, after0_7, after0_8, after0_9, after0_10, after0_11, after0_12, after0_13, after0_14, after0_15, after0_16, after0_17, after0_18]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
  iapply ((pieces m c t).2.2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  iintro ⟨H0, H1, H2, H3, H4, H5, H6, H7, H8, ⟨%e9, H9⟩, ⟨%e10, H10⟩, ⟨%e11, H11⟩, ⟨%e12, H12⟩, ⟨%e13, H13⟩, ⟨%e14, H14⟩, ⟨%e15, H15⟩, ⟨%e16, H16⟩, ⟨%e17, H17⟩, ⟨%e18, H18⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · unfold owns; iexists _; isplitr
    swap; · iexact H9
    ipureintro; exact View.read_writes_eq_canon _ _ _ (cover9 m c t)
  isplitl [H10]
  · unfold owns; iexists _; isplitr
    swap; · iexact H10
    ipureintro; exact View.read_writes_eq_canon _ _ _ (cover10 m c t)
  isplitl [H11]
  · unfold owns; iexists _; isplitr
    swap; · iexact H11
    ipureintro; exact View.read_writes_eq_canon _ _ _ (cover11 m c t)
  isplitl [H12]
  · unfold owns; iexists _; isplitr
    swap; · iexact H12
    ipureintro; exact View.read_writes_eq_canon _ _ _ (cover12 m c t)
  isplitl [H13]
  · unfold owns; iexists _; isplitr
    swap; · iexact H13
    ipureintro; exact View.read_writes_eq_canon _ _ _ (cover13 m c t)
  isplitl [H14]
  · unfold owns; iexists _; isplitr
    swap; · iexact H14
    ipureintro; exact View.read_writes_eq_canon _ _ _ (cover14 m c t)
  isplitl [H15]
  · unfold owns; iexists _; isplitr
    swap; · iexact H15
    ipureintro; exact View.read_writes_eq_canon _ _ _ (cover15 m c t)
  isplitl [H16]
  · unfold owns; iexists _; isplitr
    swap; · iexact H16
    ipureintro; exact View.read_writes_eq_canon _ _ _ (cover16 m c t)
  isplitl [H17]
  · unfold owns; iexists _; isplitr
    swap; · iexact H17
    ipureintro; exact View.read_writes_eq_canon _ _ _ (cover17 m c t)
  unfold owns; iexists _; isplitr
  swap; · iexact H18
  ipureintro; exact View.read_writes_eq_canon _ _ _ (cover18 m c t)

theorem defs₀_row (t : Fin cfg0.N) :
    defs₀ (F := F) .tc cfg0.body (cfg0.bodyArgs t (cfg0.slots t)) = bodyAt0 t := by unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The whole run -/

set_option backward.isDefEq.respectTransparency.types false in
set_option maxHeartbeats 800000 in
/-- The whole program's run: every array ends as the call's data say, and nothing is left in flight. -/
theorem run_main_quiescent : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs to an end and leaves its arguments as they were, with nothing in flight. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) ∧ r.2.sem = fun _ => 0) :=
  θ_run_and (frame_of m ρ (dats m) (A_eq m) ((θ_run defs _ _).mono (fun _ h => h.1) (run_main_quiescent m ρ)))
    ((θ_run defs _ _).mono (fun _ h => h.2) (run_main_quiescent m ρ))

end Cert.SplitFrame
-- ==== Proof.SplitBits.lean ====
/-
  The rows' split at floating-point words: the program printed for words and the one printed for exact numbers are one
  text, so what was shown of the second over any arithmetic holds of the first.
-/
module

public import proofs.«01_k».proof.Defs
public import proofs.«01_k».proof.Proof.SplitFrame
public import proofs.«01_k».proof.Proof.Gen.Kernel5
public import proofs.«01_k».proof.Proof.Gen.Kernel5Ideal

@[expose] public section

set_option maxRecDepth 65536

noncomputable section

namespace Cert.SplitBits

open Cert.Kernel5Ideal Cert.Kernel5Ideal.Gen Idealize.ShloMosaic Idealize.ShloMosaic.TcCoe Idealize.ShloMosaic.Tactic

/-- The program runs to an end over the arithmetic `F`, and leaves its arguments as they were. -/
def Runs (F : FTy → Type) [FloatOps F] : Prop :=
  ∀ (m : (ℓ : Loc nD τ sig) → Buf (Elt F) ℓ) (ρ : Dev nD → PrngReg), True →
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) ∧ r.2.sem = fun _ => 0)

/-- One text: the two programs' claims are the same proposition at words. -/
theorem same : Runs Bits = Cert.quiescent_Kernel5 (hKernel5 := Cert.Kernel5.Gen.facts) := by sl_kernel_rfl

theorem frame : Cert.quiescent_Kernel5 (hKernel5 := Cert.Kernel5.Gen.facts) :=
  same.mp fun m ρ _ => Cert.SplitFrame.frame m ρ

end Cert.SplitBits

end
-- ==== Proof.Split.lean ====
/-
  The rows' split: what the key-value rows and the latent rows hold, and the rotary tables that the kernel stages.
-/
module

public import proofs.«01_k».proof.Proof.Norm
public import proofs.«01_k».proof.Proof.SplitFrame

@[expose] public section

set_option maxRecDepth 16384

noncomputable section

namespace Cert.Split

open Cert.Kernel5Ideal Cert.Kernel5Ideal.Gen Idealize.ShloMosaic Idealize.ShloMosaic.TcCoe Idealize.ShloMosaic.Tactic Cert.Norm
open scoped BigOperators

/-! ## The results -/

/-- The position of a token: the prompts' tokens come first, `2048` to a prompt, then the samples', four to a sample,
    all of them at the four positions after the prompts'. -/
def pos (i : Fin 8704) : Fin 2052 :=
  ⟨if i.val < 8192 then i.val % 2048 else 2048 + i.val % 4, by split <;> omega⟩

/-- Lane `e` of a row of `h + h` lanes with its two halves turned by the angles of `h` cosines and sines. -/
def turned (h : ℕ) (x : Fin (h + h) → EReal) (cos sin : Fin h → EReal) (e : Fin (h + h)) : EReal :=
  if he : e.val < h then x e * cos ⟨e.val, he⟩ - x ⟨e.val + h, by omega⟩ * sin ⟨e.val, he⟩
  else x e * cos ⟨e.val - h, by omega⟩ + x ⟨e.val - h, by omega⟩ * sin ⟨e.val - h, by omega⟩

/-- The key of branch `b`, turned to its token's position. -/
def key (b : Fin 3) (z : FVec Ideal S8704x4224 .f32) (cos sin : FVec Ideal S2052x64 .f32) (i : Fin 8704) (e : Fin 128) : EReal :=
  turned 64 (fun e => z (ix2 i ⟨2048 + 256 * b.val + e.val, by omega⟩)) (fun e => cos (ix2 (pos i) e)) (fun e => sin (ix2 (pos i) e)) e

/-- The key-value rows of branch `b`: a token's key, then its value. -/
def kv (b : Fin 3) (z : FVec Ideal S8704x4224 .f32) (cos sin : FVec Ideal S2052x64 .f32) : FVec Ideal S17408x128 .f32 := fun j =>
  have hj : (j 0).val < 17408 := (j 0).isLt
  have hc : (j 1).val < 128 := (j 1).isLt
  if (j 0).val % 2 = 0 then key b z cos sin ⟨(j 0).val / 2, by omega⟩ (j 1)
  else z (ix2 ⟨(j 0).val / 2, by omega⟩ ⟨2176 + 256 * b.val + (j 1).val, by omega⟩)

/-- The latent rows: `320` normalized lanes, then `64` lanes turned to the token's position. -/
def latent (z : FVec Ideal S8704x4224 .f32) (cos sin : FVec Ideal S2052x32 .f32) (g : FVec Ideal S320 .f32) : FVec Ideal S8704x384 .f32 := fun j =>
  have hc : (j 1).val < 384 := (j 1).isLt
  if h : (j 1).val < 320 then
    normed 1134559232#32 (fun e : Fin 320 => z (ix2 (j 0) ⟨3712 + e.val, by omega⟩)) (fun e => g (ix1 e)) ⟨(j 1).val, h⟩
  else turned 32 (fun e => z (ix2 (j 0) ⟨4032 + e.val, by omega⟩)) (fun e => cos (ix2 (pos (j 0)) e)) (fun e => sin (ix2 (pos (j 0)) e))
    ⟨(j 1).val - 320, by omega⟩

/-- The first queries: `16` heads of `128` lanes, each turned to its token's position and scaled. -/
def firstQueries (z : FVec Ideal S8704x4224 .f32) (cos sin : FVec Ideal S2052x64 .f32) : FVec Ideal S8704x2048 .f32 := fun j =>
  have hc : (j 1).val < 2048 := (j 1).isLt
  turned 64 (fun e => z (ix2 (j 0) ⟨128 * ((j 1).val / 128) + e.val, by omega⟩)) (fun e => cos (ix2 (pos (j 0)) e)) (fun e => sin (ix2 (pos (j 0)) e))
    ⟨(j 1).val % 128, by omega⟩ * Ideal.ofBits .f32 0x3DB504F3#32

/-- A token's key beside its value, for branch `b`. -/
def pair (b : Fin 3) (z : FVec Ideal S8704x4224 .f32) (cos sin : FVec Ideal S2052x64 .f32) : FVec Ideal S8704x256 .f32 := fun j =>
  have hc : (j 1).val < 256 := (j 1).isLt
  if h : (j 1).val < 128 then key b z cos sin (j 0) ⟨(j 1).val, h⟩
  else z (ix2 (j 0) ⟨2176 + 256 * b.val + ((j 1).val - 128), by omega⟩)

/-- The gates: the logistic function of the last `128` lanes. -/
def gates (z : FVec Ideal S8704x4224 .f32) : FVec Ideal S8704x128 .f32 := fun j =>
  have hc : (j 1).val < 128 := (j 1).isLt
  Ideal.logistic (z (ix2 (j 0) ⟨4096 + (j 1).val, by omega⟩))

/-- Lane `d` of head `h`'s second query, before it is turned: the normalized query latent times the up-projection. -/
def query (z : FVec Ideal S8704x4224 .f32) (g : FVec Ideal S896 .f32) (up : FVec Ideal S896x16x192 .f32) (i : Fin 8704) (h : Fin 16) (d : Fin 192) : EReal :=
  ∑ e : Fin 896, normed 1147142144#32 (fun e : Fin 896 => z (ix2 i ⟨2816 + e.val, by omega⟩)) (fun e => g (ix1 e)) e * up (ix3 e h d)

/-- Lane `j` of head `h`'s second query as it meets the latent rows: `320` lanes lifted by the key weights, then `64`
    lanes turned to the token's position; scaled. -/
def lane (z : FVec Ideal S8704x4224 .f32) (cos sin : FVec Ideal S2052x32 .f32) (g : FVec Ideal S896 .f32) (up : FVec Ideal S896x16x192 .f32)
    (w : FVec Ideal S320x16x128 .f32) (i : Fin 8704) (h : Fin 16) (j : Fin 384) : EReal :=
  (if hj : j.val < 320 then ∑ d : Fin 128, query z g up i h ⟨d.val, by omega⟩ * w (ix3 ⟨j.val, hj⟩ h d)
    else turned 32 (fun e => query z g up i h ⟨128 + e.val, by omega⟩) (fun e => cos (ix2 (pos i) e)) (fun e => sin (ix2 (pos i) e))
      ⟨j.val - 320, by omega⟩) * Ideal.ofBits .f32 0x3D93CD3A#32

/-- The second queries: `16` heads of `384` lanes. -/
def secondQueries (z : FVec Ideal S8704x4224 .f32) (cos sin : FVec Ideal S2052x32 .f32) (g : FVec Ideal S896 .f32) (up : FVec Ideal S896x16x192 .f32)
    (w : FVec Ideal S320x16x128 .f32) : FVec Ideal S8704x6144 .f32 := fun y =>
  have hc : (y 1).val < 6144 := (y 1).isLt
  lane z cos sin g up w (y 0) ⟨(y 1).val / 384, by omega⟩ ⟨(y 1).val % 384, by omega⟩

/-! ## The tables that the kernel stages -/

/-- The position whose angles row `p` of a staged table holds. -/
def at_ (p : Fin 2304) : Fin 2052 := ⟨if p.val < 2048 then p.val else 2048 + p.val % 4, by split <;> omega⟩

/-- Row `256 u + r` of a staged table is of the position of the tokens that use it. -/
theorem at_pos (t : ℕ) (r : Fin 256) (i : Fin 8704) (p : Fin 2304) (ht : t < 34) (hi : i.val = 256 * t + r.val)
    (hp : p.val = 256 * (if t < 32 then t % 8 else 8) + r.val) : at_ p = pos i := by
  apply Fin.ext
  unfold at_ pos
  simp only
  split at hp <;> split <;> split <;> omega

/-- A table of `64` lanes, its rows laid out for the kernel's tiles. -/
def tall64 (x : FVec Ideal S2052x64 .f32) : FVec Ideal S2304x64 .f32 :=
  concatenate S2304x64 0 [⟨S2048x64, extractStridedSlice S2048x64 ![0, 0] x slices_S2052x64_S2048x64_0_0⟩,
    ⟨S256x64, shapeCast S256x64 (broadcastInDim S64x4x1x64 ![0, 1, 2, 3] bcast_S1x4x1x64_S64x4x1x64_0_1_2_3
      (shapeCast S1x4x1x64 (extractStridedSlice S4x64 ![2048, 0] x slices_S2052x64_S4x64_2048_0) shapeCasts_S4x64_S1x4x1x64))
      shapeCasts_S64x4x1x64_S256x64⟩] concatenates_S2048x64_S256x64_S2304x64_d0

theorem tall64_at (x : FVec Ideal S2052x64 .f32) (p : Fin 2304) (e : Fin 64) : tall64 x (ix2 p e) = x (ix2 (at_ p) e) := by
  pointwise [tall64]
  unfold at_
  split <;> rename_i h
  · exact congrArg (fun q => x (ix2 q e)) (Fin.ext rfl)
  · exact congrArg (fun q => x (ix2 q e)) (Fin.ext (by simp only; omega))

def tall32 (x : FVec Ideal S2052x32 .f32) : FVec Ideal S2304x32 .f32 :=
  concatenate S2304x32 0 [⟨S2048x32, extractStridedSlice S2048x32 ![0, 0] x slices_S2052x32_S2048x32_0_0⟩,
    ⟨S256x32, shapeCast S256x32 (broadcastInDim S64x4x1x32 ![0, 1, 2, 3] bcast_S1x4x1x32_S64x4x1x32_0_1_2_3
      (shapeCast S1x4x1x32 (extractStridedSlice S4x32 ![2048, 0] x slices_S2052x32_S4x32_2048_0) shapeCasts_S4x32_S1x4x1x32))
      shapeCasts_S64x4x1x32_S256x32⟩] concatenates_S2048x32_S256x32_S2304x32_d0

theorem tall32_at (x : FVec Ideal S2052x32 .f32) (p : Fin 2304) (e : Fin 32) : tall32 x (ix2 p e) = x (ix2 (at_ p) e) := by
  pointwise [tall32]
  unfold at_
  split <;> rename_i h
  · exact congrArg (fun q => x (ix2 q e)) (Fin.ext rfl)
  · exact congrArg (fun q => x (ix2 q e)) (Fin.ext (by simp only; omega))

/-- Two tables side by side, `128` lanes in all. -/
def side64 (a b : FVec Ideal S2304x64 .f32) : FVec Ideal S2304x128 .f32 :=
  shapeCast S2304x128 (broadcastInDim S1x2304x1x128 ![0, 1, 2, 3] bcast_S1x2304x1x128_S1x2304x1x128_0_1_2_3
    (shapeCast S1x2304x1x128 (concatenate S2304x128 1 [⟨S2304x64, a⟩, ⟨S2304x64, b⟩] concatenates_S2304x64_S2304x64_S2304x128_d1)
      shapeCasts_S2304x128_S1x2304x1x128)) shapeCasts_S1x2304x1x128_S2304x128

theorem side64_at (a b : FVec Ideal S2304x64 .f32) (p : Fin 2304) (l : Fin 128) :
    side64 a b (ix2 p l) = if h : l.val < 64 then a (ix2 p ⟨l.val, h⟩) else b (ix2 p ⟨l.val - 64, by omega⟩) := by
  pointwise [side64]

def side32 (a b : FVec Ideal S2304x32 .f32) : FVec Ideal S2304x128 .f32 :=
  shapeCast S2304x128 (broadcastInDim S1x2304x2x64 ![0, 1, 2, 3] bcast_S1x2304x1x64_S1x2304x2x64_0_1_2_3
    (shapeCast S1x2304x1x64 (concatenate S2304x64 1 [⟨S2304x32, a⟩, ⟨S2304x32, b⟩] concatenates_S2304x32_S2304x32_S2304x64_d1)
      shapeCasts_S2304x64_S1x2304x1x64)) shapeCasts_S1x2304x2x64_S2304x128

theorem side32_at (a b : FVec Ideal S2304x32 .f32) (p : Fin 2304) (l : Fin 128) :
    side32 a b (ix2 p l) = if h : l.val % 64 < 32 then a (ix2 p ⟨l.val % 64, h⟩) else b (ix2 p ⟨l.val % 64 - 32, by omega⟩) := by
  pointwise [side32]

/-! ## The payloads -/

theorem pay26 (c s x : FVec Ideal S256x128 .f32) (r : Fin 256) (l : Fin 128) :
    k0_pay26 (F := Ideal) c s x (ix2 r l) = x (ix2 r l) * c (ix2 r l)
      + x (ix2 r ⟨(l.val + 64) % 128, by omega⟩) * s (ix2 r l) := by
  pointwise [k0_pay26]
  rw [show (⟨(l.val + 128 - 64) % 128, Nat.mod_lt _ (by omega)⟩ : Fin 128) = ⟨(l.val + 64) % 128, by omega⟩ from Fin.ext (by simp only; omega)]

/-- Which of the staged lanes the mean square counts. -/
theorem counted : ∀ e : Fin 384, IntOp.cmpi .slt (BitVec.ofNat 32 e.val) 320#32 = if e.val < 320 then 1#1 else 0#1 := by decide +kernel

/-- The sum over the lanes below `320`. -/
theorem masked_sum (f : Fin 384 → EReal) :
    (∑ e : Fin 384, Scalar.select (IntOp.cmpi .slt (BitVec.ofNat 32 e.val) 320#32) (f e) 0) = ∑ e : Fin 320, f ⟨e.val, by omega⟩ := by
  refine (Fin.sum_univ_add (a := 320) (b := 64) fun e : Fin 384 => Scalar.select (IntOp.cmpi .slt (BitVec.ofNat 32 e.val) 320#32) (f e) 0).trans ?_
  rw [Finset.sum_eq_zero (s := (Finset.univ : Finset (Fin 64))), add_zero]
  · refine Finset.sum_congr rfl fun e _ => ?_
    rw [counted, if_pos (show (Fin.castAdd 64 e : Fin 384).val < 320 from e.isLt)]
    rfl
  · intro e _
    rw [counted, if_neg (show ¬ (Fin.natAdd 320 e : Fin 384).val < 320 from by simp)]
    rfl

theorem pay34 (x : FVec Ideal S256x384 .f32) (g : FVec Ideal S1x384 .f32) (r : Fin 256) (k : Fin 384) (hk : k.val < 320) :
    k0_pay34 (F := Ideal) x g (ix2 r k) = normed 1134559232#32 (fun e : Fin 320 => x (ix2 r ⟨e.val, by omega⟩))
      (fun e => g (ix2 0 ⟨e.val, by omega⟩)) ⟨k.val, hk⟩ := by
  pointwise [k0_pay34]
  rw [masked_sum]
  rfl

theorem mask36 (r : Fin 256) (l : Fin 128) : k0_pay36 (ix2 r l) = if l.val < 64 then 1#1 else 0#1 := by
  pointwise [k0_pay36]
  revert l
  decide +kernel

theorem mask38 (r : Fin 256) (l : Fin 128) : k0_pay38 (ix2 r l) = if l.val % 64 < 32 then 1#1 else 0#1 := by
  pointwise [k0_pay38]
  revert l
  decide +kernel

theorem pay39 (c s x n : FVec Ideal S256x128 .f32) (r : Fin 256) (l : Fin 128) :
    k0_pay39 (F := Ideal) c s x k0_pay36 n k0_pay38 96#32 (ix2 r l) = if l.val < 64 then n (ix2 r l)
      else x (ix2 r l) * c (ix2 r l) + (if l.val % 64 < 32 then x (ix2 r ⟨(l.val + 128 - 96) % 128, by omega⟩)
        else x (ix2 r ⟨(l.val + 128 - 32) % 128, by omega⟩)) * s (ix2 r l) := by
  pointwise [k0_pay39]
  rw [mask36, mask38]
  split <;> split <;> rfl

theorem pay35 (x : FVec Ideal S256x384 .f32) (r : Fin 256) (l : Fin 128) :
    k0_pay35 (F := Ideal) x (ix2 r l) = x (ix2 r ⟨256 + l.val, by omega⟩) := by
  pointwise [k0_pay35]

theorem pay37 (x : FVec Ideal S256x384 .f32) (g : FVec Ideal S1x384 .f32) (r : Fin 256) (l : Fin 128) :
    k0_pay37 (F := Ideal) x g (ix2 r l) = k0_pay34 (F := Ideal) x g (ix2 r ⟨256 + l.val, by omega⟩) := by
  pointwise [k0_pay37]

theorem pay40 (x : FVec Ideal S256x384 .f32) (r : Fin 256) (l : Fin 256) :
    k0_pay40 (F := Ideal) x (ix2 r l) = x (ix2 r ⟨l.val, by omega⟩) := by
  pointwise [k0_pay40]

theorem pay3 (x : FVec Ideal S256x128 .f32) (r : Fin 256) (l : Fin 128) : k0_pay3 (F := Ideal) x (ix2 r l) = x (ix2 r l) := by
  pointwise [k0_pay3]

theorem pay4 (x : FVec Ideal S256x128 .f32) (r : Fin 256) (l : Fin 128) : k0_pay4 (F := Ideal) x (ix2 r l) = x (ix2 r l) := by
  pointwise [k0_pay4]

theorem pay5 (x : FVec Ideal S256x128 .f32) (r : Fin 256) (l : Fin 128) : k0_pay5 (F := Ideal) x (ix2 r l) = x (ix2 r l) := by
  pointwise [k0_pay5]

theorem pay6 (x : FVec Ideal S256x128 .f32) (r : Fin 256) (l : Fin 128) : k0_pay6 (F := Ideal) x (ix2 r l) = x (ix2 r l) := by
  pointwise [k0_pay6]

/-! ## A row of each result -/

/-- A lane plus the lane half a row away, with the sines of the first half negated: the halves turned. -/
theorem turned64 (x : Fin 128 → EReal) (cos sin : Fin 64 → EReal) (l : Fin 128) :
    x l * (if h : l.val < 64 then cos ⟨l.val, h⟩ else cos ⟨l.val - 64, by omega⟩)
      + x ⟨(l.val + 64) % 128, by omega⟩ * (if h : l.val < 64 then - sin ⟨l.val, h⟩ else sin ⟨l.val - 64, by omega⟩)
      = turned 64 x cos sin l := by
  unfold turned
  by_cases h : l.val < 64
  · rw [dif_pos h, dif_pos h, dif_pos h, mul_neg, ← sub_eq_add_neg]
    rw [show (⟨(l.val + 64) % 128, by omega⟩ : Fin 128) = ⟨l.val + 64, by omega⟩ from Fin.ext (by simp only; omega)]
  · rw [dif_neg h, dif_neg h, dif_neg h]
    rw [show (⟨(l.val + 64) % 128, by omega⟩ : Fin 128) = ⟨l.val - 64, by omega⟩ from Fin.ext (by simp only; omega)]

/-- The same in the upper half of `128` lanes, which holds `64` lanes of two halves. -/
theorem turned32 (y : Fin 128 → EReal) (cos sin : Fin 32 → EReal) (l : Fin 128) (hl : ¬ l.val < 64) :
    y l * (if h : l.val % 64 < 32 then cos ⟨l.val % 64, h⟩ else cos ⟨l.val % 64 - 32, by omega⟩)
      + (if l.val % 64 < 32 then y ⟨(l.val + 128 - 96) % 128, by omega⟩ else y ⟨(l.val + 128 - 32) % 128, by omega⟩)
        * (if h : l.val % 64 < 32 then - sin ⟨l.val % 64, h⟩ else sin ⟨l.val % 64 - 32, by omega⟩)
      = turned 32 (fun e => y ⟨64 + e.val, by omega⟩) cos sin ⟨l.val - 64, by omega⟩ := by
  have hm : l.val % 64 = l.val - 64 := by omega
  unfold turned
  beta_reduce
  have e0 : (⟨64 + (l.val - 64), by omega⟩ : Fin 128) = l := Fin.ext (by simp only; omega)
  by_cases h : l.val - 64 < 32
  · have h' : l.val % 64 < 32 := by omega
    rw [dif_pos h, dif_pos h', if_pos h', dif_pos h', mul_neg, ← sub_eq_add_neg, e0]
    rw [show (⟨(l.val + 128 - 96) % 128, by omega⟩ : Fin 128) = ⟨64 + (l.val - 64 + 32), by omega⟩ from Fin.ext (by simp only; omega),
      show (⟨l.val % 64, h'⟩ : Fin 32) = ⟨l.val - 64, h⟩ from Fin.ext hm]
  · have h' : ¬ l.val % 64 < 32 := by omega
    rw [dif_neg h, dif_neg h', if_neg h', dif_neg h', e0]
    rw [show (⟨(l.val + 128 - 32) % 128, by omega⟩ : Fin 128) = ⟨64 + (l.val - 64 - 32), by omega⟩ from Fin.ext (by simp only; omega),
      show (⟨l.val % 64 - 32, by omega⟩ : Fin 32) = ⟨l.val - 64 - 32, by omega⟩ from Fin.ext (by simp only; omega)]

/-- The same in the lower half. -/
theorem turned32_low (y : Fin 128 → EReal) (cos sin : Fin 32 → EReal) (l : Fin 128) (hl : l.val < 64) :
    y l * (if h : l.val % 64 < 32 then cos ⟨l.val % 64, h⟩ else cos ⟨l.val % 64 - 32, by omega⟩)
      + (if l.val % 64 < 32 then y ⟨(l.val + 128 - 96) % 128, by omega⟩ else y ⟨(l.val + 128 - 32) % 128, by omega⟩)
        * (if h : l.val % 64 < 32 then - sin ⟨l.val % 64, h⟩ else sin ⟨l.val % 64 - 32, by omega⟩)
      = turned 32 (fun e => y ⟨e.val, by omega⟩) cos sin ⟨l.val, hl⟩ := by
  have hm : l.val % 64 = l.val := by omega
  unfold turned
  beta_reduce
  by_cases h : l.val < 32
  · have h' : l.val % 64 < 32 := by omega
    rw [dif_pos h, dif_pos h', if_pos h', dif_pos h', mul_neg, ← sub_eq_add_neg]
    rw [show (⟨(l.val + 128 - 96) % 128, by omega⟩ : Fin 128) = ⟨l.val + 32, by omega⟩ from Fin.ext (by simp only; omega),
      show (⟨l.val % 64, h'⟩ : Fin 32) = ⟨l.val, h⟩ from Fin.ext hm]
  · have h' : ¬ l.val % 64 < 32 := by omega
    rw [dif_neg h, dif_neg h', if_neg h', dif_neg h']
    rw [show (⟨(l.val + 128 - 32) % 128, by omega⟩ : Fin 128) = ⟨l.val - 32, by omega⟩ from Fin.ext (by simp only; omega),
      show (⟨l.val % 64 - 32, by omega⟩ : Fin 32) = ⟨l.val - 32, by omega⟩ from Fin.ext (by simp only; omega)]

/-- `128` lanes of a token, from lane `b` on, turned as the kernel turns them. -/
theorem turned_row (b : ℕ) (hb : b + 128 ≤ 4224) (z : FVec Ideal S8704x4224 .f32) (cos sin : FVec Ideal S2052x64 .f32) (i : Fin 8704) (p : Fin 2304)
    (hp : at_ p = pos i) (c s x : FVec Ideal S256x128 .f32) (r : Fin 256)
    (hx : ∀ l : Fin 128, x (ix2 r l) = z (ix2 i ⟨b + l.val, by omega⟩))
    (hc : ∀ l : Fin 128, c (ix2 r l) = side64 (tall64 cos) (tall64 cos) (ix2 p l))
    (hs : ∀ l : Fin 128, s (ix2 r l) = side64 (Host.negf (F := Ideal) (tall64 sin)) (tall64 sin) (ix2 p l)) (l : Fin 128) :
    k0_pay26 (F := Ideal) c s x (ix2 r l)
      = turned 64 (fun e => z (ix2 i ⟨b + e.val, by omega⟩)) (fun e => cos (ix2 (pos i) e)) (fun e => sin (ix2 (pos i) e)) l := by
  have hn : ∀ e : Fin 64, (Host.negf (F := Ideal) (tall64 sin) : FVec Ideal S2304x64 .f32) (ix2 p e) = - sin (ix2 (pos i) e) := fun e =>
    (show _ = - tall64 sin (ix2 p e) from rfl).trans (by rw [tall64_at, hp])
  rw [pay26, hc, hs, side64_at, side64_at, hx, hx]
  simp only [hn, tall64_at, hp]
  exact turned64 (fun e => z (ix2 i ⟨b + e.val, by omega⟩)) (fun e => cos (ix2 (pos i) e)) (fun e => sin (ix2 (pos i) e)) l

/-- A key's lanes as the kernel computes them. -/
theorem key_row (b : Fin 3) (z : FVec Ideal S8704x4224 .f32) (cos sin : FVec Ideal S2052x64 .f32) (i : Fin 8704) (p : Fin 2304)
    (hp : at_ p = pos i) (c s x : FVec Ideal S256x128 .f32) (r : Fin 256)
    (hx : ∀ l : Fin 128, x (ix2 r l) = z (ix2 i ⟨2048 + 256 * b.val + l.val, by omega⟩))
    (hc : ∀ l : Fin 128, c (ix2 r l) = side64 (tall64 cos) (tall64 cos) (ix2 p l))
    (hs : ∀ l : Fin 128, s (ix2 r l) = side64 (Host.negf (F := Ideal) (tall64 sin)) (tall64 sin) (ix2 p l)) (l : Fin 128) :
    k0_pay26 (F := Ideal) c s x (ix2 r l) = key b z cos sin i l :=
  turned_row (2048 + 256 * b.val) (by omega) z cos sin i p hp c s x r hx hc hs l

theorem latent_low (z : FVec Ideal S8704x4224 .f32) (cos sin : FVec Ideal S2052x32 .f32) (g : FVec Ideal S320 .f32) (i : Fin 8704) (k : Fin 384)
    (h : k.val < 320) : latent z cos sin g (ix2 i k) = normed 1134559232#32 (fun e : Fin 320 => z (ix2 i ⟨3712 + e.val, by omega⟩))
      (fun e => g (ix1 e)) ⟨k.val, h⟩ :=
  dif_pos (show ((ix2 i k : S8704x384.Idx) 1).val < 320 from h)

theorem latent_high (z : FVec Ideal S8704x4224 .f32) (cos sin : FVec Ideal S2052x32 .f32) (g : FVec Ideal S320 .f32) (i : Fin 8704) (k : Fin 384)
    (h : ¬ k.val < 320) : latent z cos sin g (ix2 i k) = turned 32 (fun e => z (ix2 i ⟨4032 + e.val, by omega⟩))
      (fun e => cos (ix2 (pos i) e)) (fun e => sin (ix2 (pos i) e)) ⟨k.val - 320, by omega⟩ :=
  dif_neg (show ¬ ((ix2 i k : S8704x384.Idx) 1).val < 320 from h)

/-- A latent row's lanes as the kernel computes them. -/
theorem latent_row (z : FVec Ideal S8704x4224 .f32) (cos sin : FVec Ideal S2052x32 .f32) (G : FVec Ideal S320 .f32) (i : Fin 8704) (p : Fin 2304)
    (hp : at_ p = pos i) (c s : FVec Ideal S256x128 .f32) (x : FVec Ideal S256x384 .f32) (g : FVec Ideal S1x384 .f32) (r : Fin 256)
    (hx : ∀ l : Fin 384, x (ix2 r l) = z (ix2 i ⟨3712 + l.val, by omega⟩))
    (hg : ∀ e : Fin 320, g (ix2 0 ⟨e.val, by omega⟩) = G (ix1 e))
    (hc : ∀ l : Fin 128, c (ix2 r l) = side32 (tall32 cos) (tall32 cos) (ix2 p l))
    (hs : ∀ l : Fin 128, s (ix2 r l) = side32 (Host.negf (F := Ideal) (tall32 sin)) (tall32 sin) (ix2 p l)) (k : Fin 384) :
    (if h : k.val < 256 then k0_pay40 (F := Ideal) (k0_pay34 x g) (ix2 r ⟨k.val, h⟩)
      else k0_pay39 (F := Ideal) c s (k0_pay35 x) k0_pay36 (k0_pay37 x g) k0_pay38 96#32 (ix2 r ⟨k.val - 256, by omega⟩))
      = latent z cos sin G (ix2 i k) := by
  have hlow : ∀ q : Fin 384, q.val < 320 → q = k → k0_pay34 (F := Ideal) x g (ix2 r q) = latent z cos sin G (ix2 i k) := fun q hq e => by
    subst e
    rw [pay34 _ _ _ _ hq]
    simp only [hx, hg]
    exact (latent_low _ _ _ _ _ _ hq).symm
  have hn : ∀ e : Fin 32, (Host.negf (F := Ideal) (tall32 sin) : FVec Ideal S2304x32 .f32) (ix2 p e) = - sin (ix2 (pos i) e) := fun e =>
    (show _ = - tall32 sin (ix2 p e) from rfl).trans (by rw [tall32_at, hp])
  split <;> rename_i h
  · exact (pay40 _ _ _).trans (hlow _ (by simp only; omega) rfl)
  · rw [pay39]
    split <;> rename_i h1
    · exact (pay37 _ _ _ _).trans (hlow _ (by simp only at h1 ⊢; omega) (Fin.ext (by simp only; omega)))
    · have h1' : ¬ k.val - 256 < 64 := h1
      rw [hc, hs, side32_at, side32_at]
      simp only [pay35, hx, hn, tall32_at, hp]
      refine (turned32 (fun l => z (ix2 i ⟨3712 + (256 + l.val), by omega⟩)) (fun e => cos (ix2 (pos i) e)) (fun e => sin (ix2 (pos i) e))
        ⟨k.val - 256, by omega⟩ h1).trans (Eq.trans ?_ (latent_high z cos sin G i k (by omega)).symm)
      rw [show (fun e : Fin (32 + 32) => z (ix2 i ⟨3712 + (256 + (64 + e.val)), by omega⟩)) = fun e => z (ix2 i ⟨4032 + e.val, by omega⟩) from
        funext fun e => congrArg (fun q => z (ix2 i q)) (Fin.ext (by simp only; omega))]
      exact congrArg (turned 32 _ _ _) (Fin.ext (by simp only; omega))

/-- A key-value row, from its token's. -/
theorem kv_row (b : Fin 3) (z : FVec Ideal S8704x4224 .f32) (cos sin : FVec Ideal S2052x64 .f32) (q : Fin 17408) (i : Fin 8704) (l : Fin 128)
    (hq : i.val = q.val / 2) : kv b z cos sin (ix2 q l) = if q.val % 2 = 0 then key b z cos sin i l
      else z (ix2 i ⟨2176 + 256 * b.val + l.val, by omega⟩) := by
  rw [show i = ⟨q.val / 2, by omega⟩ from Fin.ext hq]
  rfl

end Cert.Split

end
-- ==== Proof.SplitBlocks.lean ====
/-
  The rows' split: what the kernel stages, loads and stores.
-/
module

public import proofs.«01_k».proof.Proof.Split
public import proofs.«01_k».proof.Proof.OutProj
public import proofs.«01_k».proof.Proof.SplitFrame
public import Idealize.ShloMosaic.Lib.WholeRead

@[expose] public section

set_option maxRecDepth 65536

noncomputable section

namespace Cert.Split

open Cert.Kernel5Ideal Cert.Kernel5Ideal.Gen Idealize.ShloMosaic Idealize.ShloMosaic.TcCoe Idealize.ShloMosaic.Tactic Cert.Norm
open Cert.OutProj (canon_at canon_off)
open Idealize.ShloMosaic.Pipeline (Dat)

variable (m : (ℓ : Loc nD τ sig) → Buf (Elt Ideal) ℓ) (c : Dev nD)

/-! ## Reading stores and loads -/

/-- Every second row of a block, from its row `1` and from its row `0`. -/
abbrev oddRows : Rect S512x128 := ⟨⟨![1, 0], S256x128.size, ![2, 1], inb_S512x128_S256x128_1_0_s_2_1⟩, spos_2_1⟩
abbrev evenRows : Rect S512x128 := ⟨⟨![0, 0], S256x128.size, ![2, 1], inb_S512x128_S256x128_0_0_s_2_1⟩, spos_2_1⟩

/-- What is stored alternately into a block's odd and even rows. -/
theorem rows (v k : FVec Ideal S256x128 .f32) (r : Fin 512) (l : Fin 128) :
    View.canon (Val := Elt Ideal) (s := S512x128) (e := .f32) [⟨oddRows, v⟩, ⟨evenRows, k⟩] (ix2 r l)
      = if r.val % 2 = 0 then k (ix2 ⟨r.val / 2, by omega⟩ l) else v (ix2 ⟨r.val / 2, by omega⟩ l) := by
  have hr : r.val < 512 := r.isLt
  split <;> rename_i h
  · have hn : (ix2 r l : S512x128.Idx) ∉ oddRows.set := fun hm => by
      obtain ⟨q, -, e⟩ := (LoadRect.mem_set _).mp hm 0
      have e' : r.val = 1 + 2 * q := e
      omega
    refine (canon_off (e := .f32) oddRows v _ _ hn).trans (canon_at (e := .f32) evenRows k [] _ (ix2 ⟨r.val / 2, by omega⟩ l) ?_)
    funext a
    apply Fin.ext
    match a with
    | ⟨0, _⟩ => show r.val = 0 + 2 * (r.val / 2); omega
    | ⟨1, _⟩ => show l.val = 0 + 1 * l.val; omega
  · refine canon_at (e := .f32) oddRows v _ _ (ix2 ⟨r.val / 2, by omega⟩ l) ?_
    funext a
    apply Fin.ext
    match a with
    | ⟨0, _⟩ => show r.val = 1 + 2 * (r.val / 2); omega
    | ⟨1, _⟩ => show l.val = 0 + 1 * l.val; omega

abbrev leftLanes : Rect S256x384 := Rect.unit ![0, 0] ![256, 256] inb_S256x384_S256x256_0_0
abbrev rightLanes : Rect S256x384 := Rect.unit ![0, 256] ![256, 128] inb_S256x384_S256x128_0_256

/-- What two stores side by side leave. -/
theorem two (a : FVec Ideal S256x256 .f32) (b : FVec Ideal S256x128 .f32) (r : Fin 256) (k : Fin 384) :
    View.canon (Val := Elt Ideal) (s := S256x384) (e := .f32) [⟨rightLanes, b⟩, ⟨leftLanes, a⟩] (ix2 r k)
      = if h : k.val < 256 then a (ix2 r ⟨k.val, h⟩) else b (ix2 r ⟨k.val - 256, by omega⟩) := by
  split <;> rename_i h
  · have hn : (ix2 r k : S256x384.Idx) ∉ rightLanes.set := fun hm => by
      have h1 : 256 ≤ k.val := (Rect.mem_set_unit.mp hm 1).1
      omega
    refine (canon_off (e := .f32) rightLanes b _ _ hn).trans (canon_at (e := .f32) leftLanes a [] _ (ix2 r ⟨k.val, h⟩) ?_)
    funext a
    apply Fin.ext
    match a with
    | ⟨0, _⟩ => show r.val = 0 + 1 * r.val; omega
    | ⟨1, _⟩ => show k.val = 0 + 1 * k.val; omega
  · refine canon_at (e := .f32) rightLanes b _ _ (ix2 r ⟨k.val - 256, by omega⟩) ?_
    funext a
    apply Fin.ext
    match a with
    | ⟨0, _⟩ => show r.val = 0 + 1 * r.val; omega
    | ⟨1, _⟩ => show k.val = 256 + 1 * (k.val - 256); omega

/-- A load of some lanes of a staged block. -/
theorem load {n k N K : ℕ} (b : ℕ) (st : Memref sig .tc .vmem ⟨2, ![N, K]⟩ .f32) (h : st.IsWhole) (x : FVec Ideal ⟨2, ![N, K]⟩ .f32)
    (inb : ∀ a, (![0, b] : Fin 2 → ℕ) a + (![n, k] : Fin 2 → ℕ) a ≤ (⟨2, ![N, K]⟩ : Shape).size a)
    (r : Fin n) (l : Fin k) (R : Fin N) (L : Fin K) (hr : R.val = r.val) (hl : L.val = b + l.val) :
    View.readAt (Elt Ideal) st.view (Rect.unit (s := ⟨2, ![N, K]⟩) ![0, b] ![n, k] inb).toLoadRect (h.unread x) (ix2 r l) = x (ix2 R L) := by
  refine (Memref.IsWhole.readAt_unread (Val := Elt Ideal) h x (Rect.unit (s := ⟨2, ![N, K]⟩) ![0, b] ![n, k] inb).toLoadRect (ix2 r l : (⟨2, ![n, k]⟩ : Shape).Idx)).trans (congrArg x ?_)
  funext a
  apply Fin.ext
  match a with
  | ⟨0, _⟩ => show 0 + 1 * r.val = R.val; omega
  | ⟨1, _⟩ => show b + 1 * l.val = L.val; omega

/-! ## The blocks that the kernel stages -/

theorem cos_128 : (V m c main_v15 : FVec Ideal S2304x128 .f32) = side64 (tall64 (m (c.tc.loc main_arg1) : FVec Ideal S2052x64 .f32)) (tall64 (m (c.tc.loc main_arg1) : FVec Ideal S2052x64 .f32)) := by
  show StableHlo.after (List.flatten [hostOps0, hostOps0_1, hostOps0_2, hostOps0_3, hostOps0_4]) (fun b => m (c, b)) _ = _
  simp only [hostOps0, hostOps0_1, hostOps0_2, hostOps0_3, hostOps0_4, List.flatten_cons, List.flatten_nil, List.append_nil,
    List.cons_append, List.nil_append, StableHlo.TRef.unary, StableHlo.TRef.binary]
  after_results
  rfl

theorem sin_128 : (V m c main_v20 : FVec Ideal S2304x128 .f32) = side64 (Host.negf (F := Ideal) (tall64 (m (c.tc.loc main_arg2) : FVec Ideal S2052x64 .f32))) (tall64 (m (c.tc.loc main_arg2) : FVec Ideal S2052x64 .f32)) := by
  show StableHlo.after (List.flatten [hostOps0, hostOps0_1, hostOps0_2, hostOps0_3, hostOps0_4]) (fun b => m (c, b)) _ = _
  simp only [hostOps0, hostOps0_1, hostOps0_2, hostOps0_3, hostOps0_4, List.flatten_cons, List.flatten_nil, List.append_nil,
    List.cons_append, List.nil_append, StableHlo.TRef.unary, StableHlo.TRef.binary]
  after_results
  rfl

theorem cos_64 : (V m c main_v36 : FVec Ideal S2304x128 .f32) = side32 (tall32 (m (c.tc.loc main_arg3) : FVec Ideal S2052x32 .f32)) (tall32 (m (c.tc.loc main_arg3) : FVec Ideal S2052x32 .f32)) := by
  show StableHlo.after (List.flatten [hostOps0, hostOps0_1, hostOps0_2, hostOps0_3, hostOps0_4]) (fun b => m (c, b)) _ = _
  simp only [hostOps0, hostOps0_1, hostOps0_2, hostOps0_3, hostOps0_4, List.flatten_cons, List.flatten_nil, List.append_nil,
    List.cons_append, List.nil_append, StableHlo.TRef.unary, StableHlo.TRef.binary]
  after_results
  rfl

theorem sin_64 : (V m c main_v41 : FVec Ideal S2304x128 .f32) = side32 (Host.negf (F := Ideal) (tall32 (m (c.tc.loc main_arg4) : FVec Ideal S2052x32 .f32))) (tall32 (m (c.tc.loc main_arg4) : FVec Ideal S2052x32 .f32)) := by
  show StableHlo.after (List.flatten [hostOps0, hostOps0_1, hostOps0_2, hostOps0_3, hostOps0_4]) (fun b => m (c, b)) _ = _
  simp only [hostOps0, hostOps0_1, hostOps0_2, hostOps0_3, hostOps0_4, List.flatten_cons, List.flatten_nil, List.append_nil,
    List.cons_append, List.nil_append, StableHlo.TRef.unary, StableHlo.TRef.binary]
  after_results
  rfl

theorem gain_of (g : FVec Ideal S320 .f32) (v : FVec Ideal S_ .f32) (e : Fin 320) :
    shapeCast S1x384 (pad S384 ![0] ![64] ![0] g v pads_S320_S384_0640 h_S_) shapeCasts_S384_S1x384 (ix2 0 ⟨e.val, by omega⟩) = g (ix1 e) := by
  pointwise []

/-- The staged gain's lanes below `320` are the argument's. -/
theorem gain (e : Fin 320) : (V m c main_v52 : FVec Ideal S1x384 .f32) (ix2 0 ⟨e.val, by omega⟩) = (m (c.tc.loc main_arg6) : FVec Ideal S320 .f32) (ix1 e) := by
  have h : (V m c main_v52 : FVec Ideal S1x384 .f32) = shapeCast S1x384 (pad S384 ![0] ![64] ![0] (m (c.tc.loc main_arg6) : FVec Ideal S320 .f32)
      (sitofp .f32 (constantI S_ 32 0#32) : FVec Ideal S_ .f32) pads_S320_S384_0640 h_S_) shapeCasts_S384_S1x384 := by
    show StableHlo.after (List.flatten [hostOps0, hostOps0_1, hostOps0_2, hostOps0_3, hostOps0_4]) (fun b => m (c, b)) _ = _
    simp only [hostOps0, hostOps0_1, hostOps0_2, hostOps0_3, hostOps0_4, List.flatten_cons, List.flatten_nil, List.append_nil,
      List.cons_append, List.nil_append, StableHlo.TRef.unary, StableHlo.TRef.binary]
    after_results
    rfl
  rw [h]
  exact gain_of (m (c.tc.loc main_arg6)) _ e

theorem index_facts : ∀ t : Fin grid0.N, win0_0.index t = ![t.val, 0] ∧ win0_1.index t = ![if t.val < 32 then t.val % 8 else 8, 0]
    ∧ win0_2.index t = ![if t.val < 32 then t.val % 8 else 8, 0] ∧ win0_3.index t = ![if t.val < 32 then t.val % 8 else 8, 0]
    ∧ win0_4.index t = ![if t.val < 32 then t.val % 8 else 8, 0] ∧ win0_6.index t = ![0, 0] ∧ win0_10.index t = ![t.val, 0]
    ∧ win0_11.index t = ![t.val, 0] ∧ win0_12.index t = ![t.val, 0] ∧ win0_17.index t = ![t.val, 0] := by decide +kernel

theorem blk_z (t : Fin cfg0.N) (r : Fin 256) (k : Fin 4224) (i : Fin 8704) (hi : i.val = 256 * t.val + r.val) :
    (iblk m c 0 t : FVec Ideal S256x4224 .f32) (ix2 r k) = (m (c.tc.loc main_arg0) : FVec Ideal S8704x4224 .f32) (ix2 i k) := by
  obtain ⟨i0, -⟩ := index_facts t
  rw [← V_main_arg0 m c]
  blk_ext [i0, iblk, hi]

theorem blk_cos_128 (t : Fin cfg0.N) (r : Fin 256) (k : Fin 128) (p : Fin 2304) (hp : p.val = 256 * (if t.val < 32 then t.val % 8 else 8) + r.val) :
    (iblk m c 1 t : FVec Ideal S256x128 .f32) (ix2 r k) = (V m c main_v15 : FVec Ideal S2304x128 .f32) (ix2 p k) := by
  obtain ⟨-, i1, -⟩ := index_facts t
  blk_ext [i1, iblk, hp]

theorem blk_sin_128 (t : Fin cfg0.N) (r : Fin 256) (k : Fin 128) (p : Fin 2304) (hp : p.val = 256 * (if t.val < 32 then t.val % 8 else 8) + r.val) :
    (iblk m c 2 t : FVec Ideal S256x128 .f32) (ix2 r k) = (V m c main_v20 : FVec Ideal S2304x128 .f32) (ix2 p k) := by
  obtain ⟨-, -, i1, -⟩ := index_facts t
  blk_ext [i1, iblk, hp]

theorem blk_cos_64 (t : Fin cfg0.N) (r : Fin 256) (k : Fin 128) (p : Fin 2304) (hp : p.val = 256 * (if t.val < 32 then t.val % 8 else 8) + r.val) :
    (iblk m c 3 t : FVec Ideal S256x128 .f32) (ix2 r k) = (V m c main_v36 : FVec Ideal S2304x128 .f32) (ix2 p k) := by
  obtain ⟨-, -, -, i1, -⟩ := index_facts t
  blk_ext [i1, iblk, hp]

theorem blk_sin_64 (t : Fin cfg0.N) (r : Fin 256) (k : Fin 128) (p : Fin 2304) (hp : p.val = 256 * (if t.val < 32 then t.val % 8 else 8) + r.val) :
    (iblk m c 4 t : FVec Ideal S256x128 .f32) (ix2 r k) = (V m c main_v41 : FVec Ideal S2304x128 .f32) (ix2 p k) := by
  obtain ⟨-, -, -, -, i1, -⟩ := index_facts t
  blk_ext [i1, iblk, hp]

theorem blk_g (t : Fin cfg0.N) (e : Fin 384) : (iblk m c 6 t : FVec Ideal S1x384 .f32) (ix2 0 e) = (V m c main_v52 : FVec Ideal S1x384 .f32) (ix2 0 e) := by
  obtain ⟨-, -, -, -, -, i6, -⟩ := index_facts t
  blk_ext [i6, iblk]

/-- The row of the staged tables that row `r` of tile `t` uses. -/
theorem table_row (t : Fin cfg0.N) (r : Fin 256) :
    ∃ p : Fin 2304, p.val = 256 * (if t.val < 32 then t.val % 8 else 8) + r.val := by
  refine ⟨⟨256 * (if t.val < 32 then t.val % 8 else 8) + r.val, ?_⟩, rfl⟩
  split <;> omega

/-! ## The loads -/

/-- The load of `n` lanes of the projected columns' block, from lane `b` on. -/
def zAt (t : Fin cfg0.N) (b n : ℕ) (inb : ∀ a, (![0, b] : Fin 2 → ℕ) a + (![256, n] : Fin 2 → ℕ) a ≤ S256x4224.size a) : FVec Ideal ⟨2, ![256, n]⟩ .f32 :=
  View.readAt (Elt Ideal) (win0_0.stage (cfg0.slots t 0)).view (Rect.unit (s := S256x4224) ![0, b] ![256, n] inb).toLoadRect
    ((hstage0_0 ((cfg0.slots t 0).cast nbuf0_0)).unread (iblk m c 0 t))

theorem zAt_apply (t : Fin cfg0.N) (b n : ℕ) (inb) (r : Fin 256) (l : Fin n) (i : Fin 8704) (hi : i.val = 256 * t.val + r.val) (k : Fin 4224)
    (hk : k.val = b + l.val) : zAt m c t b n inb (ix2 r l) = (m (c.tc.loc main_arg0) : FVec Ideal S8704x4224 .f32) (ix2 i k) :=
  (load b _ _ _ _ r l r k rfl hk).trans (blk_z m c t r k i hi)

def cos128At (t : Fin cfg0.N) : FVec Ideal S256x128 .f32 :=
  View.readAt (Elt Ideal) (win0_1.stage (cfg0.slots t 1)).view (Rect.unit ![0, 0] S256x128.size inb_S256x128_S256x128_0_0).toLoadRect ((hstage0_1 ((cfg0.slots t 1).cast nbuf0_1)).unread (iblk m c 1 t))

def sin128At (t : Fin cfg0.N) : FVec Ideal S256x128 .f32 :=
  View.readAt (Elt Ideal) (win0_2.stage (cfg0.slots t 2)).view (Rect.unit ![0, 0] S256x128.size inb_S256x128_S256x128_0_0).toLoadRect ((hstage0_2 ((cfg0.slots t 2).cast nbuf0_2)).unread (iblk m c 2 t))

def cos64At (t : Fin cfg0.N) : FVec Ideal S256x128 .f32 :=
  View.readAt (Elt Ideal) (win0_3.stage (cfg0.slots t 3)).view (Rect.unit ![0, 0] S256x128.size inb_S256x128_S256x128_0_0).toLoadRect ((hstage0_3 ((cfg0.slots t 3).cast nbuf0_3)).unread (iblk m c 3 t))

def sin64At (t : Fin cfg0.N) : FVec Ideal S256x128 .f32 :=
  View.readAt (Elt Ideal) (win0_4.stage (cfg0.slots t 4)).view (Rect.unit ![0, 0] S256x128.size inb_S256x128_S256x128_0_0).toLoadRect ((hstage0_4 ((cfg0.slots t 4).cast nbuf0_4)).unread (iblk m c 4 t))

def gainAt (t : Fin cfg0.N) : FVec Ideal S1x384 .f32 :=
  View.readAt (Elt Ideal) (win0_6.stage (cfg0.slots t 6)).view (Rect.unit ![0, 0] S1x384.size inb_S1x384_S1x384_0_0).toLoadRect ((hstage0_6 ((cfg0.slots t 6).cast nbuf0_6)).unread (iblk m c 6 t))

theorem cos128At_apply (t : Fin cfg0.N) (r : Fin 256) (k : Fin 128) (p : Fin 2304) (hp : p.val = 256 * (if t.val < 32 then t.val % 8 else 8) + r.val) :
    k0_pay3 (F := Ideal) (cos128At m c t) (ix2 r k) = (V m c main_v15 : FVec Ideal S2304x128 .f32) (ix2 p k) :=
  (pay3 _ r k).trans ((load 0 _ _ _ _ r k r k rfl (Nat.zero_add _).symm).trans (blk_cos_128 m c t r k p hp))

theorem sin128At_apply (t : Fin cfg0.N) (r : Fin 256) (k : Fin 128) (p : Fin 2304) (hp : p.val = 256 * (if t.val < 32 then t.val % 8 else 8) + r.val) :
    k0_pay4 (F := Ideal) (sin128At m c t) (ix2 r k) = (V m c main_v20 : FVec Ideal S2304x128 .f32) (ix2 p k) :=
  (pay4 _ r k).trans ((load 0 _ _ _ _ r k r k rfl (Nat.zero_add _).symm).trans (blk_sin_128 m c t r k p hp))

theorem cos64At_apply (t : Fin cfg0.N) (r : Fin 256) (k : Fin 128) (p : Fin 2304) (hp : p.val = 256 * (if t.val < 32 then t.val % 8 else 8) + r.val) :
    k0_pay5 (F := Ideal) (cos64At m c t) (ix2 r k) = (V m c main_v36 : FVec Ideal S2304x128 .f32) (ix2 p k) :=
  (pay5 _ r k).trans ((load 0 _ _ _ _ r k r k rfl (Nat.zero_add _).symm).trans (blk_cos_64 m c t r k p hp))

theorem sin64At_apply (t : Fin cfg0.N) (r : Fin 256) (k : Fin 128) (p : Fin 2304) (hp : p.val = 256 * (if t.val < 32 then t.val % 8 else 8) + r.val) :
    k0_pay6 (F := Ideal) (sin64At m c t) (ix2 r k) = (V m c main_v41 : FVec Ideal S2304x128 .f32) (ix2 p k) :=
  (pay6 _ r k).trans ((load 0 _ _ _ _ r k r k rfl (Nat.zero_add _).symm).trans (blk_sin_64 m c t r k p hp))

theorem gainAt_apply (t : Fin cfg0.N) (e : Fin 320) : gainAt m c t (ix2 0 ⟨e.val, by omega⟩) = (m (c.tc.loc main_arg6) : FVec Ideal S320 .f32) (ix1 e) :=
  (load 0 _ _ _ _ (0 : Fin 1) (⟨e.val, by omega⟩ : Fin 384) 0 ⟨e.val, by omega⟩ rfl (Nat.zero_add _).symm).trans ((blk_g m c t _).trans (gain m c e))

/-! ## What the stores leave -/

/-- Keys and values stored alternately are the key-value rows. -/
theorem alternate (b : Fin 3) (t : Fin cfg0.N) (inb inb') (r : Fin 512) (l : Fin 128) (q : Fin 17408) (hq : q.val = 512 * t.val + r.val) :
    View.canon (Val := Elt Ideal) (s := S512x128) (e := .f32) [⟨oddRows, zAt m c t (2176 + 256 * b.val) 128 inb⟩,
        ⟨evenRows, k0_pay26 (F := Ideal) (k0_pay3 (cos128At m c t)) (k0_pay4 (sin128At m c t)) (zAt m c t (2048 + 256 * b.val) 128 inb')⟩] (ix2 r l)
      = kv b (m (c.tc.loc main_arg0) : FVec Ideal S8704x4224 .f32) (m (c.tc.loc main_arg1)) (m (c.tc.loc main_arg2)) (ix2 q l) := by
  have ht : t.val < 34 := t.isLt
  have hi : (⟨q.val / 2, by omega⟩ : Fin 8704).val = 256 * t.val + (⟨r.val / 2, by omega⟩ : Fin 256).val := by simp only; omega
  have hm : q.val % 2 = r.val % 2 := by omega
  obtain ⟨p, hp⟩ := table_row t ⟨r.val / 2, by omega⟩
  refine (rows _ _ r l).trans (Eq.trans ?_ (kv_row b _ _ _ q ⟨q.val / 2, by omega⟩ l rfl).symm)
  rw [hm]
  split
  · exact key_row b _ _ _ _ p (at_pos t.val _ _ p ht hi hp) _ _ _ _ (fun l => zAt_apply m c t _ _ _ _ _ _ hi _ rfl)
      (fun l => (cos128At_apply m c t _ l p hp).trans (congrFun (cos_128 m c) _))
      (fun l => (sin128At_apply m c t _ l p hp).trans (congrFun (sin_128 m c) _)) l
  · exact zAt_apply m c t _ _ _ _ _ _ hi _ rfl

/-- The two stores of the latent rows are the latent rows. -/
theorem latent_block (t : Fin cfg0.N) (inb) (r : Fin 256) (k : Fin 384) (i : Fin 8704) (hi : i.val = 256 * t.val + r.val) :
    View.canon (Val := Elt Ideal) (s := S256x384) (e := .f32) [⟨rightLanes, k0_pay39 (F := Ideal) (k0_pay5 (cos64At m c t)) (k0_pay6 (sin64At m c t))
          (k0_pay35 (zAt m c t 3712 384 inb)) k0_pay36 (k0_pay37 (zAt m c t 3712 384 inb) (gainAt m c t)) k0_pay38 96#32⟩,
        ⟨leftLanes, k0_pay40 (F := Ideal) (k0_pay34 (zAt m c t 3712 384 inb) (gainAt m c t))⟩] (ix2 r k)
      = latent (m (c.tc.loc main_arg0) : FVec Ideal S8704x4224 .f32) (m (c.tc.loc main_arg3)) (m (c.tc.loc main_arg4)) (m (c.tc.loc main_arg6)) (ix2 i k) := by
  have ht : t.val < 34 := t.isLt
  obtain ⟨p, hp⟩ := table_row t r
  exact (two _ _ r k).trans (latent_row _ _ _ _ i p (at_pos t.val r i p ht hi hp) _ _ _ _ r (fun l => zAt_apply m c t _ _ _ _ _ _ hi _ rfl)
    (fun e => gainAt_apply m c t e) (fun l => (cos64At_apply m c t _ l p hp).trans (congrFun (cos_64 m c) _))
    (fun l => (sin64At_apply m c t _ l p hp).trans (congrFun (sin_64 m c) _)) k)

end Cert.Split

end
-- ==== Proof.SplitValue.lean ====
/-
  The rows' split: the key-value rows and the latent rows that the kernel leaves.
-/
module

public import proofs.«01_k».proof.Proof.SplitBlocks

@[expose] public section

set_option maxRecDepth 65536

noncomputable section

namespace Cert.Split

open Cert.Kernel5Ideal Cert.Kernel5Ideal.Gen Idealize.ShloMosaic Idealize.ShloMosaic.TcCoe Idealize.ShloMosaic.Tactic Cert.Norm
open Idealize.SL.Sem
open Idealize.ShloMosaic.Pipeline (Dat)

variable (m : (ℓ : Loc nD τ sig) → Buf (Elt Ideal) ℓ) (c : Dev nD)

/-- Branch 0's stores at a point of the grid. -/
theorem pieces_10 (t : Fin cfg0.N) : (Cert.SplitFrame.pieces m c t).2.1 = [⟨oddRows, zAt m c t (2176 + 256 * (0 : Fin 3).val) 128 inb_S256x4224_S256x128_0_2176⟩,
    ⟨evenRows, k0_pay26 (F := Ideal) (k0_pay3 (cos128At m c t)) (k0_pay4 (sin128At m c t)) (zAt m c t (2048 + 256 * (0 : Fin 3).val) 128 inb_S256x4224_S256x128_0_2048)⟩] := by
  sl_kernel_rfl

theorem result_10 : (Cert.SplitFrame.dats m 0 c).arrAt 10 cfg0.N
    = kv 0 (m (c.tc.loc main_arg0) : FVec Ideal S8704x4224 .f32) (m (c.tc.loc main_arg1)) (m (c.tc.loc main_arg2)) := by
  refine (Cert.SplitFrame.dats m 0 c).arrAt_eq_of_covers 10 _ (by decide +kernel) fun t hf y => ?_
  blk_simp
  simp only [Cert.SplitFrame.after0_10]
  rw [pieces_10]
  obtain ⟨-, -, -, -, -, -, iw, -⟩ := index_facts t
  have hr : (y 0).val < 512 := (y 0).isLt
  have hl : (y 1).val < 128 := (y 1).isLt
  have e0 : (((cfg0.win 10).blk t).view.emb y 0 : ℕ) = 512 * t.val + (y 0).val := by
    blk_simp [iw]; simp; omega
  have e1 : (((cfg0.win 10).blk t).view.emb y 1 : ℕ) = (y 1).val := by
    blk_simp [iw]
  obtain ⟨r, l, rfl⟩ : ∃ (r : Fin 512) (l : Fin 128), y = ix2 r l := ⟨⟨(y 0).val, hr⟩, ⟨(y 1).val, hl⟩, by funext a; fin_cases a <;> rfl⟩
  refine (alternate m c 0 t _ _ r l _ e0).trans (congrArg (kv 0 _ _ _) ?_)
  funext a
  apply Fin.ext
  match a with
  | ⟨0, _⟩ => rfl
  | ⟨1, _⟩ => exact e1.symm

/-- Branch 1's stores at a point of the grid. -/
theorem pieces_11 (t : Fin cfg0.N) : (Cert.SplitFrame.pieces m c t).2.2.1 = [⟨oddRows, zAt m c t (2176 + 256 * (1 : Fin 3).val) 128 inb_S256x4224_S256x128_0_2432⟩,
    ⟨evenRows, k0_pay26 (F := Ideal) (k0_pay3 (cos128At m c t)) (k0_pay4 (sin128At m c t)) (zAt m c t (2048 + 256 * (1 : Fin 3).val) 128 inb_S256x4224_S256x128_0_2304)⟩] := by
  sl_kernel_rfl

theorem result_11 : (Cert.SplitFrame.dats m 0 c).arrAt 11 cfg0.N
    = kv 1 (m (c.tc.loc main_arg0) : FVec Ideal S8704x4224 .f32) (m (c.tc.loc main_arg1)) (m (c.tc.loc main_arg2)) := by
  refine (Cert.SplitFrame.dats m 0 c).arrAt_eq_of_covers 11 _ (by decide +kernel) fun t hf y => ?_
  blk_simp
  simp only [Cert.SplitFrame.after0_11]
  rw [pieces_11]
  obtain ⟨-, -, -, -, -, -, -, iw, -⟩ := index_facts t
  have hr : (y 0).val < 512 := (y 0).isLt
  have hl : (y 1).val < 128 := (y 1).isLt
  have e0 : (((cfg0.win 11).blk t).view.emb y 0 : ℕ) = 512 * t.val + (y 0).val := by
    blk_simp [iw]; simp; omega
  have e1 : (((cfg0.win 11).blk t).view.emb y 1 : ℕ) = (y 1).val := by
    blk_simp [iw]
  obtain ⟨r, l, rfl⟩ : ∃ (r : Fin 512) (l : Fin 128), y = ix2 r l := ⟨⟨(y 0).val, hr⟩, ⟨(y 1).val, hl⟩, by funext a; fin_cases a <;> rfl⟩
  refine (alternate m c 1 t _ _ r l _ e0).trans (congrArg (kv 1 _ _ _) ?_)
  funext a
  apply Fin.ext
  match a with
  | ⟨0, _⟩ => rfl
  | ⟨1, _⟩ => exact e1.symm

/-- Branch 2's stores at a point of the grid. -/
theorem pieces_12 (t : Fin cfg0.N) : (Cert.SplitFrame.pieces m c t).2.2.2.1 = [⟨oddRows, zAt m c t (2176 + 256 * (2 : Fin 3).val) 128 inb_S256x4224_S256x128_0_2688⟩,
    ⟨evenRows, k0_pay26 (F := Ideal) (k0_pay3 (cos128At m c t)) (k0_pay4 (sin128At m c t)) (zAt m c t (2048 + 256 * (2 : Fin 3).val) 128 inb_S256x4224_S256x128_0_2560)⟩] := by
  sl_kernel_rfl

theorem result_12 : (Cert.SplitFrame.dats m 0 c).arrAt 12 cfg0.N
    = kv 2 (m (c.tc.loc main_arg0) : FVec Ideal S8704x4224 .f32) (m (c.tc.loc main_arg1)) (m (c.tc.loc main_arg2)) := by
  refine (Cert.SplitFrame.dats m 0 c).arrAt_eq_of_covers 12 _ (by decide +kernel) fun t hf y => ?_
  blk_simp
  simp only [Cert.SplitFrame.after0_12]
  rw [pieces_12]
  obtain ⟨-, -, -, -, -, -, -, -, iw, -⟩ := index_facts t
  have hr : (y 0).val < 512 := (y 0).isLt
  have hl : (y 1).val < 128 := (y 1).isLt
  have e0 : (((cfg0.win 12).blk t).view.emb y 0 : ℕ) = 512 * t.val + (y 0).val := by
    blk_simp [iw]; simp; omega
  have e1 : (((cfg0.win 12).blk t).view.emb y 1 : ℕ) = (y 1).val := by
    blk_simp [iw]
  obtain ⟨r, l, rfl⟩ : ∃ (r : Fin 512) (l : Fin 128), y = ix2 r l := ⟨⟨(y 0).val, hr⟩, ⟨(y 1).val, hl⟩, by funext a; fin_cases a <;> rfl⟩
  refine (alternate m c 2 t _ _ r l _ e0).trans (congrArg (kv 2 _ _ _) ?_)
  funext a
  apply Fin.ext
  match a with
  | ⟨0, _⟩ => rfl
  | ⟨1, _⟩ => exact e1.symm

/-- The latent rows' stores at a point of the grid. -/
theorem pieces_17 (t : Fin cfg0.N) : (Cert.SplitFrame.pieces m c t).2.2.2.2.2.2.2.2.1 = [⟨rightLanes, k0_pay39 (F := Ideal) (k0_pay5 (cos64At m c t)) (k0_pay6 (sin64At m c t))
      (k0_pay35 (zAt m c t 3712 384 inb_S256x4224_S256x384_0_3712)) k0_pay36
      (k0_pay37 (zAt m c t 3712 384 inb_S256x4224_S256x384_0_3712) (gainAt m c t)) k0_pay38 96#32⟩,
    ⟨leftLanes, k0_pay40 (F := Ideal) (k0_pay34 (zAt m c t 3712 384 inb_S256x4224_S256x384_0_3712) (gainAt m c t))⟩] := by
  sl_kernel_rfl

theorem result_17 : (Cert.SplitFrame.dats m 0 c).arrAt 17 cfg0.N
    = latent (m (c.tc.loc main_arg0) : FVec Ideal S8704x4224 .f32) (m (c.tc.loc main_arg3)) (m (c.tc.loc main_arg4)) (m (c.tc.loc main_arg6)) := by
  refine (Cert.SplitFrame.dats m 0 c).arrAt_eq_of_covers 17 _ (by decide +kernel) fun t hf y => ?_
  blk_simp
  simp only [Cert.SplitFrame.after0_17]
  rw [pieces_17]
  obtain ⟨-, -, -, -, -, -, -, -, -, iw⟩ := index_facts t
  have hr : (y 0).val < 256 := (y 0).isLt
  have hl : (y 1).val < 384 := (y 1).isLt
  have e0 : (((cfg0.win 17).blk t).view.emb y 0 : ℕ) = 256 * t.val + (y 0).val := by
    blk_simp [iw]; simp; omega
  have e1 : (((cfg0.win 17).blk t).view.emb y 1 : ℕ) = (y 1).val := by
    blk_simp [iw]
  obtain ⟨r, l, rfl⟩ : ∃ (r : Fin 256) (l : Fin 384), y = ix2 r l := ⟨⟨(y 0).val, hr⟩, ⟨(y 1).val, hl⟩, by funext a; fin_cases a <;> rfl⟩
  refine (latent_block m c t _ r l _ e0).trans (congrArg (latent _ _ _ _) ?_)
  funext a
  apply Fin.ext
  match a with
  | ⟨0, _⟩ => rfl
  | ⟨1, _⟩ => exact e1.symm

end Cert.Split

end
-- ==== Proof.SplitQueries.lean ====
/-
  The rows' split: what the kernel stores of the queries, head by head.
-/
module

public import proofs.«01_k».proof.Proof.SplitBlocks

@[expose] public section

set_option maxRecDepth 65536

noncomputable section

namespace Cert.Split

open Cert.Kernel5Ideal Cert.Kernel5Ideal.Gen Idealize.ShloMosaic Idealize.ShloMosaic.TcCoe Idealize.ShloMosaic.Tactic Cert.Norm
open Idealize.ShloMosaic.Pipeline (Dat)
open scoped BigOperators

/-! ## The payloads, with the head as an argument -/

theorem slice_of (a n : ℕ) (h : a + n ≤ 3072) : S256x3072.Slices ![0, a] ⟨2, ![256, n]⟩ := by
  refine ⟨rfl, Fin.forall_fin_two.mpr ⟨?_, ?_⟩⟩
  · show 0 + 256 ≤ 256; omega
  · show a + n ≤ 3072; omega

/-- Head `h`'s query of `128` lanes, times its slice of the key weights: `384` lanes, of which the last are zero. -/
def lifted (h : Fin 16) (qm : FVec Ideal S256x3072 .f32) (w : FVec Ideal S1x128x384 .bf16) : FVec Ideal S256x384 .f32 :=
  matmul dot_S256x128_S128x384_S256x384_1_0_0_1_n_n none
    (truncf .bf16 (extractStridedSlice S256x128 ![0, 128 * h.val] qm (slice_of (128 * h.val) 128 (by omega))) bitsLt_bf16_f32 : FVec Ideal S256x128 .bf16)
    (shapeCast S128x384 w shapeCasts_S1x128x384_S128x384) (constant S256x384 .f32 0x00000000#32)

/-- The rotary lanes of the pair of heads that `h` is of, turned. -/
def pairTurned (h : Fin 16) (c s : FVec Ideal S256x128 .f32) (qm : FVec Ideal S256x3072 .f32) : FVec Ideal S256x128 .f32 :=
  k0_pay45 (F := Ideal) c s (extractStridedSlice S256x128 ![0, 2048 + 128 * (h.val / 2)] qm (slice_of (2048 + 128 * (h.val / 2)) 128 (by omega)))
    (iota .tc S256x128 32 [1] iota_S256x128_d1_w32) 64#32

/-- The same with head `h`'s lanes last. -/
def lastTurned (h : Fin 16) (c s : FVec Ideal S256x128 .f32) (qm : FVec Ideal S256x3072 .f32) : FVec Ideal S256x128 .f32 :=
  if h.val % 2 = 1 then pairTurned h c s qm else dynamicRotate 1 64#32 none (pairTurned h c s qm) rotates_S256x128_d1

def headLow (h : Fin 16) (qm : FVec Ideal S256x3072 .f32) (w : FVec Ideal S1x128x384 .bf16) : FVec Ideal S256x256 .bf16 :=
  truncf .bf16 (mulf (extractStridedSlice S256x256 ![0, 0] (lifted h qm w) slices_S256x384_o0_0_S256x256)
    (broadcast S256x256 (Scalar.ofBits .f32 0x3D93CD3A#32 : Ideal .f32))) bitsLt_bf16_f32

def headHigh (h : Fin 16) (c s : FVec Ideal S256x128 .f32) (qm : FVec Ideal S256x3072 .f32) (w : FVec Ideal S1x128x384 .bf16) : FVec Ideal S256x128 .bf16 :=
  truncf .bf16 (mulf (addf (extractStridedSlice S256x128 ![0, 256] (lifted h qm w) slices_S256x384_o0_256_S256x128)
    (select (cmpi .sge (iota .tc S256x128 32 [1] iota_S256x128_d1_w32) (broadcast S256x128 64#32)) (lastTurned h c s qm)
      (broadcast S256x128 (Scalar.ofBits .f32 0x00000000#32 : Ideal .f32))))
    (broadcast S256x128 (Scalar.ofBits .f32 0x3D93CD3A#32 : Ideal .f32))) bitsLt_bf16_f32

/-! ## The payloads, lane by lane -/

theorem queries_at (x : FVec Ideal S256x896 .f32) (g : FVec Ideal S1x896 .f32) (w : FVec Ideal S896x3072 .bf16) (r : Fin 256) (k : Fin 3072) :
    k0_pay43 (F := Ideal) x g w (ix2 r k)
      = ∑ e : Fin 896, normed 1147142144#32 (fun e : Fin 896 => x (ix2 r e)) (fun e => g (ix2 0 e)) e * w (ix2 e k) := by
  pointwise [k0_pay43]
  rfl

theorem lifted_at (h : Fin 16) (qm : FVec Ideal S256x3072 .f32) (w : FVec Ideal S1x128x384 .bf16) (r : Fin 256) (j : Fin 384) :
    lifted h qm w (ix2 r j) = ∑ d : Fin 128, qm (ix2 r ⟨128 * h.val + d.val, by omega⟩) * w (ix3 0 d j) := by
  pointwise [lifted]

theorem pay45 (c s x : FVec Ideal S256x128 .f32) (r : Fin 256) (l : Fin 128) :
    k0_pay45 (F := Ideal) c s x (iota .tc S256x128 32 [1] iota_S256x128_d1_w32) 64#32 (ix2 r l)
      = x (ix2 r l) * c (ix2 r l) + (if l.val % 64 < 32 then x (ix2 r ⟨(l.val + 128 - 96) % 128, by omega⟩)
        else x (ix2 r ⟨(l.val + 128 - 32) % 128, by omega⟩)) * s (ix2 r l) := by
  have hm : ∀ a b : EReal, Scalar.select (k0_pay38 (ix2 r l)) a b = if l.val % 64 < 32 then a else b := fun a b => by
    rw [mask38]
    split <;> rfl
  rw [← hm]
  pointwise [k0_pay45, k0_pay38]

theorem headLow_at (h : Fin 16) (qm : FVec Ideal S256x3072 .f32) (w : FVec Ideal S1x128x384 .bf16) (r : Fin 256) (l : Fin 256) :
    headLow h qm w (ix2 r l) = lifted h qm w (ix2 r ⟨l.val, by omega⟩) * Ideal.ofBits .f32 0x3D93CD3A#32 := by
  pointwise [headLow]

/-- Which lanes hold a head's turned lanes. -/
theorem lastLanes : ∀ l : Fin 128, IntOp.cmpi .sge (BitVec.ofNat 32 l.val) 64#32 = if l.val < 64 then 0#1 else 1#1 := by decide +kernel

theorem headHigh_at (h : Fin 16) (c s : FVec Ideal S256x128 .f32) (qm : FVec Ideal S256x3072 .f32) (w : FVec Ideal S1x128x384 .bf16) (r : Fin 256) (l : Fin 128) :
    headHigh h c s qm w (ix2 r l) = (lifted h qm w (ix2 r ⟨256 + l.val, by omega⟩) + (if l.val < 64 then 0 else lastTurned h c s qm (ix2 r l)))
      * Ideal.ofBits .f32 0x3D93CD3A#32 := by
  pointwise [headHigh]
  rw [lastLanes]
  split <;> rfl

theorem turn64 (x : FVec Ideal S256x128 .f32) (r : Fin 256) (l : Fin 128) :
    dynamicRotate 1 64#32 none x rotates_S256x128_d1 (ix2 r l) = x (ix2 r ⟨(l.val + 128 - 64) % 128, by omega⟩) := by
  pointwise []

theorem pair_slice (h : Fin 16) (qm : FVec Ideal S256x3072 .f32) (r : Fin 256) (l : Fin 128) :
    extractStridedSlice S256x128 ![0, 2048 + 128 * (h.val / 2)] qm (slice_of (2048 + 128 * (h.val / 2)) 128 (by omega)) (ix2 r l)
      = qm (ix2 r ⟨2048 + 128 * (h.val / 2) + l.val, by omega⟩) := by
  pointwise []

/-- The lanes of the pair that `h` is of, turned: the even head's first, the odd head's last. -/
theorem pairTurned_at (cos sin : FVec Ideal S2052x32 .f32) (i : Fin 8704) (p : Fin 2304) (hp : at_ p = pos i) (h : Fin 16)
    (c s : FVec Ideal S256x128 .f32) (qm : FVec Ideal S256x3072 .f32) (r : Fin 256) (q : Fin 64 → EReal)
    (hc : ∀ l : Fin 128, c (ix2 r l) = side32 (tall32 cos) (tall32 cos) (ix2 p l))
    (hs : ∀ l : Fin 128, s (ix2 r l) = side32 (Host.negf (F := Ideal) (tall32 sin)) (tall32 sin) (ix2 p l))
    (hq : ∀ e : Fin 64, qm (ix2 r ⟨2048 + 64 * h.val + e.val, by omega⟩) = q e) (l : Fin 128) (hl : 64 ≤ l.val) :
    lastTurned h c s qm (ix2 r l) = turned 32 q (fun e => cos (ix2 (pos i) e)) (fun e => sin (ix2 (pos i) e)) ⟨l.val - 64, by omega⟩ := by
  have hn : ∀ e : Fin 32, (Host.negf (F := Ideal) (tall32 sin) : FVec Ideal S2304x32 .f32) (ix2 p e) = - sin (ix2 (pos i) e) := fun e =>
    (show _ = - tall32 sin (ix2 p e) from rfl).trans (by rw [tall32_at, hp])
  have hy : ∀ k : Fin 128, pairTurned h c s qm (ix2 r k) = _ := fun k => pay45 c s _ r k
  unfold lastTurned
  split <;> rename_i ho
  · rw [hy, hc, hs, side32_at, side32_at]
    simp only [pair_slice, hn, tall32_at, hp]
    refine (turned32 (fun l => qm (ix2 r ⟨2048 + 128 * (h.val / 2) + l.val, by omega⟩)) (fun e => cos (ix2 (pos i) e)) (fun e => sin (ix2 (pos i) e))
      l (by omega)).trans (congrArg (fun f => turned 32 f _ _ _) (funext fun e => ?_))
    exact (congrArg (fun k => qm (ix2 r k)) (Fin.ext (by simp only; omega))).trans (hq e)
  · rw [turn64, hy, hc, hs, side32_at, side32_at]
    simp only [pair_slice, hn, tall32_at, hp]
    refine (turned32_low (fun l => qm (ix2 r ⟨2048 + 128 * (h.val / 2) + l.val, by omega⟩)) (fun e => cos (ix2 (pos i) e)) (fun e => sin (ix2 (pos i) e))
      ⟨(l.val + 128 - 64) % 128, by omega⟩ (by simp only; omega)).trans ?_
    rw [show (⟨(l.val + 128 - 64) % 128, by omega⟩ : Fin (32 + 32)) = ⟨l.val - 64, by omega⟩ from Fin.ext (by simp only; omega)]
    refine congrArg (fun f => turned 32 f _ _ _) (funext fun e => ?_)
    exact (congrArg (fun k => qm (ix2 r k)) (Fin.ext (by simp only; omega))).trans (hq e)

/-- A head's lanes as the kernel computes them. -/
theorem head_row (z : FVec Ideal S8704x4224 .f32) (cos sin : FVec Ideal S2052x32 .f32) (g : FVec Ideal S896 .f32) (up : FVec Ideal S896x16x192 .f32)
    (w : FVec Ideal S320x16x128 .f32) (i : Fin 8704) (p : Fin 2304) (hp : at_ p = pos i) (h : Fin 16)
    (c s : FVec Ideal S256x128 .f32) (qm : FVec Ideal S256x3072 .f32) (kw : FVec Ideal S1x128x384 .bf16) (r : Fin 256)
    (hc : ∀ l : Fin 128, c (ix2 r l) = side32 (tall32 cos) (tall32 cos) (ix2 p l))
    (hs : ∀ l : Fin 128, s (ix2 r l) = side32 (Host.negf (F := Ideal) (tall32 sin)) (tall32 sin) (ix2 p l))
    (hq : ∀ d : Fin 128, qm (ix2 r ⟨128 * h.val + d.val, by omega⟩) = query z g up i h ⟨d.val, by omega⟩)
    (hr : ∀ e : Fin 64, qm (ix2 r ⟨2048 + 64 * h.val + e.val, by omega⟩) = query z g up i h ⟨128 + e.val, by omega⟩)
    (hw : ∀ (d : Fin 128) (j : Fin 384), kw (ix3 0 d j) = if hj : j.val < 320 then w (ix3 ⟨j.val, hj⟩ h d) else 0) :
    (∀ l : Fin 256, headLow h qm kw (ix2 r l) = lane z cos sin g up w i h ⟨l.val, by omega⟩)
      ∧ ∀ l : Fin 128, headHigh h c s qm kw (ix2 r l) = lane z cos sin g up w i h ⟨256 + l.val, by omega⟩ := by
  have hlow : ∀ j : Fin 384, (hj : j.val < 320) → lifted h qm kw (ix2 r j)
      = ∑ d : Fin 128, query z g up i h ⟨d.val, by omega⟩ * w (ix3 ⟨j.val, hj⟩ h d) := fun j hj => by
    rw [lifted_at]
    exact Finset.sum_congr rfl fun d _ => by rw [hq, hw, dif_pos hj]
  have hzero : ∀ j : Fin 384, ¬ j.val < 320 → lifted h qm kw (ix2 r j) = 0 := fun j hj => by
    rw [lifted_at]
    exact Finset.sum_eq_zero fun d _ => by rw [hw, dif_neg hj, mul_zero]
  refine ⟨fun l => ?_, fun l => ?_⟩
  · rw [headLow_at, hlow _ (by simp only; omega)]
    unfold lane
    rw [dif_pos (show l.val < 320 by omega)]
  · rw [headHigh_at]
    unfold lane
    split <;> rename_i hl
    · rw [hlow _ (by simp only; omega), add_zero, dif_pos (show 256 + l.val < 320 by omega)]
    · rw [hzero _ (by simp only; omega), zero_add, dif_neg (show ¬ 256 + l.val < 320 by omega),
        pairTurned_at cos sin i p hp h c s qm r (fun e => query z g up i h ⟨128 + e.val, by omega⟩) hc hs hr l (by omega)]
      exact congrArg (fun q => turned 32 _ _ _ q * _) (Fin.ext (by simp only; omega))

/-! ## The loads and the stores -/

variable (m : (ℓ : Loc nD τ sig) → Buf (Elt Ideal) ℓ) (c : Dev nD)

def queryGainAt (t : Fin cfg0.N) : FVec Ideal S1x896 .f32 :=
  View.readAt (Elt Ideal) (win0_5.stage (cfg0.slots t 5)).view (Rect.unit ![0, 0] S1x896.size inb_S1x896_S1x896_0_0).toLoadRect ((hstage0_5 ((cfg0.slots t 5).cast nbuf0_5)).unread (iblk m c 5 t))

def upAt (t : Fin cfg0.N) : FVec Ideal S896x3072 .bf16 :=
  View.readAt (Elt Ideal) (win0_7.stage (cfg0.slots t 7)).view (Rect.unit ![0, 0] S896x3072.size inb_S896x3072_S896x3072_0_0).toLoadRect ((hstage0_7 ((cfg0.slots t 7).cast nbuf0_7)).unread (iblk m c 7 t))

theorem head_inb (h : Fin 16) : ∀ a, (![h.val, 0, 0] : Fin 3 → ℕ) a + S1x128x384.size a ≤ S16x128x384.size a := by
  intro a
  match a with
  | ⟨0, _⟩ => show h.val + 1 ≤ 16; omega
  | ⟨1, _⟩ => show 0 + 128 ≤ 128; omega
  | ⟨2, _⟩ => show 0 + 384 ≤ 384; omega

def keyWeightsAt (t : Fin cfg0.N) (h : Fin 16) : FVec Ideal S1x128x384 .bf16 :=
  View.readAt (Elt Ideal) (win0_8.stage (cfg0.slots t 8)).view (Rect.unit (s := S16x128x384) ![h.val, 0, 0] S1x128x384.size (head_inb h)).toLoadRect
    ((hstage0_8 ((cfg0.slots t 8).cast nbuf0_8)).unread (iblk m c 8 t))

def queriesAt (t : Fin cfg0.N) : FVec Ideal S256x3072 .f32 :=
  k0_pay43 (F := Ideal) (zAt m c t 2816 896 inb_S256x4224_S256x896_0_2816) (queryGainAt m c t) (upAt m c t)

theorem qlanes_inb (a n : ℕ) (h : a + n ≤ 6144) : ∀ d, (![0, a] : Fin 2 → ℕ) d + (![256, n] : Fin 2 → ℕ) d ≤ S256x6144.size d :=
  Fin.forall_fin_two.mpr ⟨show 0 + 256 ≤ 256 by omega, h⟩

abbrev lowRect (h : Fin 16) : Rect S256x6144 := Rect.unit (s := S256x6144) ![0, 384 * h.val] ![256, 256] (qlanes_inb (384 * h.val) 256 (by omega))
abbrev highRect (h : Fin 16) : Rect S256x6144 := Rect.unit (s := S256x6144) ![0, 384 * h.val + 256] ![256, 128] (qlanes_inb (384 * h.val + 256) 128 (by omega))

/-- A head's two stores, its rotary lanes last. -/
def headStores (t : Fin cfg0.N) (h : Fin 16) : List (View.Piece (Elt Ideal) S256x6144 .bf16) :=
  [⟨highRect h, headHigh h (k0_pay5 (cos64At m c t)) (k0_pay6 (sin64At m c t)) (queriesAt m c t) (keyWeightsAt m c t h)⟩,
    ⟨lowRect h, headLow h (queriesAt m c t) (keyWeightsAt m c t h)⟩]

theorem pieces_16 (t : Fin cfg0.N) : (Cert.SplitFrame.pieces m c t).2.2.2.2.2.2.2.1
    = ([15, 14, 13, 12, 11, 10, 9, 8, 7, 6, 5, 4, 3, 2, 1, 0] : List (Fin 16)).flatMap (headStores m c t) := by
  sl_kernel_rfl

end Cert.Split

end
-- ==== Proof.SplitQueryValue.lean ====
/-
  The rows' split: the second queries that the kernel leaves.
-/
module

public import proofs.«01_k».proof.Proof.SplitQueries

@[expose] public section

set_option maxRecDepth 65536

noncomputable section

namespace Cert.Split

open Cert.Kernel5Ideal Cert.Kernel5Ideal.Gen Idealize.ShloMosaic Idealize.ShloMosaic.TcCoe Idealize.ShloMosaic.Tactic Cert.Norm
open Idealize.ShloMosaic.Pipeline (Dat)
open scoped BigOperators

variable (m : (ℓ : Loc nD τ sig) → Buf (Elt Ideal) ℓ) (c : Dev nD)

/-! ## The weights that the kernel stages -/

/-- The up-projection's columns: every head's `128` plain lanes, then every head's `64` rotary ones. -/
def upCols (up : FVec Ideal S896x16x192 .f32) : FVec Ideal S896x3072 .f32 :=
  concatenate S896x3072 1 [⟨S896x2048, shapeCast S896x2048 (extractStridedSlice S896x16x128 ![0, 0, 0] up slices_S896x16x192_S896x16x128_0_0_0) shapeCasts_S896x16x128_S896x2048⟩,
    ⟨S896x1024, shapeCast S896x1024 (extractStridedSlice S896x16x64 ![0, 0, 128] up slices_S896x16x192_S896x16x64_0_0_128) shapeCasts_S896x16x64_S896x1024⟩]
    concatenates_S896x2048_S896x1024_S896x3072_d1

theorem upCols_at (up : FVec Ideal S896x16x192 .f32) (e : Fin 896) (k : Fin 3072) : upCols up (ix2 e k)
    = if h : k.val < 2048 then up (ix3 e ⟨k.val / 128, by omega⟩ ⟨k.val % 128, by omega⟩)
      else up (ix3 e ⟨(k.val - 2048) / 64, by omega⟩ ⟨128 + (k.val - 2048) % 64, by omega⟩) := by
  pointwise [upCols]

theorem up_staged : (V m c main_v47 : FVec Ideal S896x3072 .bf16) = upCols (m (c.tc.loc main_arg7) : FVec Ideal S896x16x192 .f32) := by
  show StableHlo.after (List.flatten [hostOps0, hostOps0_1, hostOps0_2, hostOps0_3, hostOps0_4]) (fun b => m (c, b)) _ = _
  simp only [hostOps0, hostOps0_1, hostOps0_2, hostOps0_3, hostOps0_4, List.flatten_cons, List.flatten_nil, List.append_nil,
    List.cons_append, List.nil_append, StableHlo.TRef.unary, StableHlo.TRef.binary]
  after_results
  rfl

/-- The key weights head by head, with `64` lanes of zeros after each head's `320`. -/
def keyCols (w : FVec Ideal S320x16x128 .f32) : FVec Ideal S16x128x384 .f32 :=
  pad S16x128x384 ![0, 0, 0] ![0, 0, 64] ![0, 0, 0] (transpose S16x128x320 [1, 2, 0] w transposes_S320x16x128_S16x128x320_1_2_0)
    (sitofp .f32 (constantI S_ 32 0#32) : FVec Ideal S_ .f32) pads_S16x128x320_S16x128x384_000_000_0640 h_S_

theorem keyCols_at (w : FVec Ideal S320x16x128 .f32) (h : Fin 16) (d : Fin 128) (j : Fin 384) : keyCols w (ix3 h d j)
    = if hj : j.val < 320 then w (ix3 ⟨j.val, hj⟩ h d) else 0 := by
  have h0 : (sitofp .f32 (constantI S_ 32 0#32) : FVec Ideal S_ .f32) (fun a => a.elim0) = 0 := by
    show ((((0#32 : BitVec 32).toInt : ℝ)) : EReal) = 0
    simp
  pointwise [keyCols]
  exact dite_congr rfl (fun _ => rfl) fun _ => h0

theorem key_staged : (V m c main_v50 : FVec Ideal S16x128x384 .bf16) = keyCols (m (c.tc.loc main_arg8) : FVec Ideal S320x16x128 .f32) := by
  show StableHlo.after (List.flatten [hostOps0, hostOps0_1, hostOps0_2, hostOps0_3, hostOps0_4]) (fun b => m (c, b)) _ = _
  simp only [hostOps0, hostOps0_1, hostOps0_2, hostOps0_3, hostOps0_4, List.flatten_cons, List.flatten_nil, List.append_nil,
    List.cons_append, List.nil_append, StableHlo.TRef.unary, StableHlo.TRef.binary]
  after_results
  rfl

theorem gain_row (g : FVec Ideal S896 .f32) (e : Fin 896) : shapeCast S1x896 g shapeCasts_S896_S1x896 (ix2 0 e) = g (ix1 e) := by
  pointwise []

theorem query_gain (e : Fin 896) : (V m c main_v53 : FVec Ideal S1x896 .f32) (ix2 0 e) = (m (c.tc.loc main_arg5) : FVec Ideal S896 .f32) (ix1 e) := by
  have h : (V m c main_v53 : FVec Ideal S1x896 .f32) = shapeCast S1x896 (m (c.tc.loc main_arg5) : FVec Ideal S896 .f32) shapeCasts_S896_S1x896 := by
    show StableHlo.after (List.flatten [hostOps0, hostOps0_1, hostOps0_2, hostOps0_3, hostOps0_4]) (fun b => m (c, b)) _ = _
    simp only [hostOps0, hostOps0_1, hostOps0_2, hostOps0_3, hostOps0_4, List.flatten_cons, List.flatten_nil, List.append_nil,
      List.cons_append, List.nil_append, StableHlo.TRef.unary, StableHlo.TRef.binary]
    after_results
    rfl
  rw [h]
  exact gain_row (m (c.tc.loc main_arg5)) e

/-! ## The loads -/

theorem query_index_facts : ∀ t : Fin grid0.N, win0_5.index t = ![0, 0] ∧ win0_7.index t = ![0, 0] ∧ win0_8.index t = ![0, 0, 0]
    ∧ win0_16.index t = ![t.val, 0] := by decide +kernel

theorem blk_query_gain (t : Fin cfg0.N) (e : Fin 896) : (iblk m c 5 t : FVec Ideal S1x896 .f32) (ix2 0 e) = (V m c main_v53 : FVec Ideal S1x896 .f32) (ix2 0 e) := by
  obtain ⟨i0, -⟩ := query_index_facts t
  blk_ext [i0, iblk]

theorem blk_up (t : Fin cfg0.N) (e : Fin 896) (k : Fin 3072) : (iblk m c 7 t : FVec Ideal S896x3072 .bf16) (ix2 e k) = (V m c main_v47 : FVec Ideal S896x3072 .bf16) (ix2 e k) := by
  obtain ⟨-, i0, -⟩ := query_index_facts t
  blk_ext [i0, iblk]

theorem blk_key (t : Fin cfg0.N) (h : Fin 16) (d : Fin 128) (j : Fin 384) : (iblk m c 8 t : FVec Ideal S16x128x384 .bf16) (ix3 h d j) = (V m c main_v50 : FVec Ideal S16x128x384 .bf16) (ix3 h d j) := by
  obtain ⟨-, -, i0, -⟩ := query_index_facts t
  blk_ext [i0, iblk]

theorem queryGainAt_apply (t : Fin cfg0.N) (e : Fin 896) : queryGainAt m c t (ix2 0 e) = (m (c.tc.loc main_arg5) : FVec Ideal S896 .f32) (ix1 e) :=
  (load 0 _ _ _ _ (0 : Fin 1) e 0 e rfl (Nat.zero_add _).symm).trans ((blk_query_gain m c t e).trans (query_gain m c e))

theorem upAt_apply (t : Fin cfg0.N) (e : Fin 896) (k : Fin 3072) : upAt m c t (ix2 e k) = upCols (m (c.tc.loc main_arg7) : FVec Ideal S896x16x192 .f32) (ix2 e k) := by
  refine Eq.trans ?_ ((blk_up m c t e k).trans (congrFun (up_staged m c) _))
  refine (Memref.IsWhole.readAt_unread (Val := Elt Ideal) (hstage0_7 ((cfg0.slots t 7).cast nbuf0_7)) (iblk m c 7 t)
    (Rect.unit ![0, 0] S896x3072.size inb_S896x3072_S896x3072_0_0).toLoadRect (ix2 e k : S896x3072.Idx)).trans (congrArg (iblk m c 7 t) ?_)
  funext a
  apply Fin.ext
  match a with
  | ⟨0, _⟩ => show 0 + 1 * e.val = e.val; omega
  | ⟨1, _⟩ => show 0 + 1 * k.val = k.val; omega

theorem keyWeightsAt_apply (t : Fin cfg0.N) (h : Fin 16) (d : Fin 128) (j : Fin 384) :
    keyWeightsAt m c t h (ix3 0 d j) = keyCols (m (c.tc.loc main_arg8) : FVec Ideal S320x16x128 .f32) (ix3 h d j) := by
  refine Eq.trans ?_ ((blk_key m c t h d j).trans (congrFun (key_staged m c) _))
  refine (Memref.IsWhole.readAt_unread (Val := Elt Ideal) (hstage0_8 ((cfg0.slots t 8).cast nbuf0_8)) (iblk m c 8 t)
    (Rect.unit (s := S16x128x384) ![h.val, 0, 0] S1x128x384.size (head_inb h)).toLoadRect (ix3 0 d j : S1x128x384.Idx)).trans (congrArg (iblk m c 8 t) ?_)
  funext a
  apply Fin.ext
  match a with
  | ⟨0, _⟩ => show h.val + 1 * 0 = h.val; omega
  | ⟨1, _⟩ => show 0 + 1 * d.val = d.val; omega
  | ⟨2, _⟩ => show 0 + 1 * j.val = j.val; omega

/-- The second queries of row `r` of tile `t`, before they are turned. -/
theorem queriesAt_apply (t : Fin cfg0.N) (r : Fin 256) (i : Fin 8704) (hi : i.val = 256 * t.val + r.val) (k : Fin 3072) (h : Fin 16) (d : Fin 192)
    (hk : ∀ e : Fin 896, upCols (m (c.tc.loc main_arg7) : FVec Ideal S896x16x192 .f32) (ix2 e k) = (m (c.tc.loc main_arg7) : FVec Ideal S896x16x192 .f32) (ix3 e h d)) :
    queriesAt m c t (ix2 r k) = query (m (c.tc.loc main_arg0)) (m (c.tc.loc main_arg5)) (m (c.tc.loc main_arg7)) i h d := by
  unfold queriesAt query
  rw [queries_at]
  have hx : ∀ e : Fin 896, zAt m c t 2816 896 inb_S256x4224_S256x896_0_2816 (ix2 r e)
      = (m (c.tc.loc main_arg0) : FVec Ideal S8704x4224 .f32) (ix2 i ⟨2816 + e.val, by omega⟩) := fun e => zAt_apply m c t _ _ _ _ _ _ hi _ rfl
  simp only [hx, queryGainAt_apply, upAt_apply, hk]

theorem plain_lane (up : FVec Ideal S896x16x192 .f32) (e : Fin 896) (h : Fin 16) (d : Fin 128) :
    upCols up (ix2 e ⟨128 * h.val + d.val, by omega⟩) = up (ix3 e h ⟨d.val, by omega⟩) := by
  rw [upCols_at, dif_pos (show 128 * h.val + d.val < 2048 by omega)]
  exact congrArg₂ (fun h d => up (ix3 e h d)) (Fin.ext (by simp only; omega)) (Fin.ext (by simp only; omega))

theorem rotary_lane (up : FVec Ideal S896x16x192 .f32) (e : Fin 896) (h : Fin 16) (d : Fin 64) :
    upCols up (ix2 e ⟨2048 + 64 * h.val + d.val, by omega⟩) = up (ix3 e h ⟨128 + d.val, by omega⟩) := by
  rw [upCols_at, dif_neg (show ¬ 2048 + 64 * h.val + d.val < 2048 by omega)]
  exact congrArg₂ (fun h d => up (ix3 e h d)) (Fin.ext (by simp only; omega)) (Fin.ext (by simp only; omega))

/-! ## The result -/

/-- A head's two stores are its lanes. -/
theorem head_block (t : Fin cfg0.N) (h : Fin 16) (r : Fin 256) (i : Fin 8704) (hi : i.val = 256 * t.val + r.val) :
    (∀ l : Fin 256, headLow h (queriesAt m c t) (keyWeightsAt m c t h) (ix2 r l)
        = lane (m (c.tc.loc main_arg0)) (m (c.tc.loc main_arg3)) (m (c.tc.loc main_arg4)) (m (c.tc.loc main_arg5)) (m (c.tc.loc main_arg7)) (m (c.tc.loc main_arg8)) i h ⟨l.val, by omega⟩)
      ∧ ∀ l : Fin 128, headHigh h (k0_pay5 (cos64At m c t)) (k0_pay6 (sin64At m c t)) (queriesAt m c t) (keyWeightsAt m c t h) (ix2 r l)
        = lane (m (c.tc.loc main_arg0)) (m (c.tc.loc main_arg3)) (m (c.tc.loc main_arg4)) (m (c.tc.loc main_arg5)) (m (c.tc.loc main_arg7)) (m (c.tc.loc main_arg8)) i h ⟨256 + l.val, by omega⟩ := by
  have ht : t.val < 34 := t.isLt
  obtain ⟨p, hp⟩ := table_row t r
  exact head_row _ _ _ _ _ _ i p (at_pos t.val r i p ht hi hp) h _ _ _ _ r
    (fun l => (cos64At_apply m c t _ l p hp).trans (congrFun (cos_64 m c) _)) (fun l => (sin64At_apply m c t _ l p hp).trans (congrFun (sin_64 m c) _))
    (fun d => queriesAt_apply m c t r i hi _ h _ fun e => plain_lane _ e h d)
    (fun d => queriesAt_apply m c t r i hi _ h _ fun e => rotary_lane _ e h d)
    (fun d j => (keyWeightsAt_apply m c t h d j).trans (keyCols_at _ h d j))

/-- Row `r` of tile `t` of the second queries, lane by lane. -/
def tileQueries (t : Fin cfg0.N) : FVec Ideal S256x6144 .bf16 := fun y =>
  have h0 : (y 0).val < 256 := (y 0).isLt
  have h1 : (y 1).val < 6144 := (y 1).isLt
  have ht : t.val < 34 := t.isLt
  secondQueries (m (c.tc.loc main_arg0)) (m (c.tc.loc main_arg3)) (m (c.tc.loc main_arg4)) (m (c.tc.loc main_arg5)) (m (c.tc.loc main_arg7)) (m (c.tc.loc main_arg8))
    (ix2 ⟨256 * t.val + (y 0).val, by omega⟩ ⟨(y 1).val, h1⟩)

theorem lane_of (z : FVec Ideal S8704x4224 .f32) (cos sin : FVec Ideal S2052x32 .f32) (g : FVec Ideal S896 .f32) (up : FVec Ideal S896x16x192 .f32)
    (w : FVec Ideal S320x16x128 .f32) (i : Fin 8704) (k : Fin 6144) (h : Fin 16) (j : Fin 384) (hk : k.val = 384 * h.val + j.val) :
    lane z cos sin g up w i h j = secondQueries z cos sin g up w (ix2 i k) := by
  show _ = lane z cos sin g up w i ⟨k.val / 384, _⟩ ⟨k.val % 384, _⟩
  exact congrArg₂ (lane z cos sin g up w i) (Fin.ext (by simp only; omega)) (Fin.ext (by simp only; omega))

theorem queries_block (t : Fin cfg0.N) (y : S256x6144.Idx) : View.canon (Cert.SplitFrame.pieces m c t).2.2.2.2.2.2.2.1 y = tileQueries m c t y := by
  have ht : t.val < 34 := t.isLt
  refine View.canon_apply_of_pieces (tileQueries m c t) _ (fun pc hp x => ?_) y (Cert.SplitFrame.cover16 m c t y)
  rw [pieces_16, List.mem_flatMap] at hp
  obtain ⟨h, -, hp⟩ := hp
  simp only [headStores, List.mem_cons, List.mem_nil_iff, or_false] at hp
  rcases hp with rfl | rfl
  · obtain ⟨r, l, rfl⟩ : ∃ (r : Fin 256) (l : Fin 128), x = ix2 r l := ⟨x 0, x 1, by funext a; fin_cases a <;> rfl⟩
    refine ((head_block m c t h r ⟨256 * t.val + r.val, by omega⟩ rfl).2 l).trans ((lane_of _ _ _ _ _ _ _ ⟨384 * h.val + 256 + l.val, by omega⟩ _ _ (by simp only; omega)).trans ?_)
    refine congrArg (secondQueries _ _ _ _ _ _) (congrArg₂ ix2 (Fin.ext ?_) (Fin.ext ?_))
    · show 256 * t.val + r.val = 256 * t.val + (0 + 1 * r.val); omega
    · show 384 * h.val + 256 + l.val = 384 * h.val + 256 + 1 * l.val; omega
  · obtain ⟨r, l, rfl⟩ : ∃ (r : Fin 256) (l : Fin 256), x = ix2 r l := ⟨x 0, x 1, by funext a; fin_cases a <;> rfl⟩
    refine ((head_block m c t h r ⟨256 * t.val + r.val, by omega⟩ rfl).1 l).trans ((lane_of _ _ _ _ _ _ _ ⟨384 * h.val + l.val, by omega⟩ _ _ rfl).trans ?_)
    refine congrArg (secondQueries _ _ _ _ _ _) (congrArg₂ ix2 (Fin.ext ?_) (Fin.ext ?_))
    · show 256 * t.val + r.val = 256 * t.val + (0 + 1 * r.val); omega
    · show 384 * h.val + l.val = 384 * h.val + 1 * l.val; omega

theorem result_16 : (Cert.SplitFrame.dats m 0 c).arrAt 16 cfg0.N
    = secondQueries (m (c.tc.loc main_arg0)) (m (c.tc.loc main_arg3)) (m (c.tc.loc main_arg4)) (m (c.tc.loc main_arg5)) (m (c.tc.loc main_arg7)) (m (c.tc.loc main_arg8)) := by
  refine (Cert.SplitFrame.dats m 0 c).arrAt_eq_of_covers 16 _ (by decide +kernel) fun t hf y => ?_
  blk_simp
  simp only [Cert.SplitFrame.after0_16]
  rw [queries_block]
  obtain ⟨-, -, -, iw⟩ := query_index_facts t
  have e0 : (((cfg0.win 16).blk t).view.emb y 0 : ℕ) = 256 * t.val + (y 0).val := by
    blk_simp [iw]; simp; omega
  have e1 : (((cfg0.win 16).blk t).view.emb y 1 : ℕ) = (y 1).val := by
    blk_simp [iw]
  refine congrArg (secondQueries _ _ _ _ _ _) ?_
  funext a
  apply Fin.ext
  match a with
  | ⟨0, _⟩ => exact e0.symm
  | ⟨1, _⟩ => exact e1.symm

end Cert.Split

end
-- ==== Proof.SplitMore.lean ====
/-
  The rows' split: the first queries, the key-value pairs, the gates and the rounded latent rows that the kernel leaves; and its
  run, with all ten results.
-/
module

public import proofs.«01_k».proof.Proof.SplitValue
public import proofs.«01_k».proof.Proof.SplitQueryValue

@[expose] public section

set_option maxRecDepth 65536

noncomputable section

namespace Cert.Split

open Cert.Kernel5Ideal Cert.Kernel5Ideal.Gen Idealize.ShloMosaic Idealize.ShloMosaic.TcCoe Idealize.ShloMosaic.Tactic Cert.Norm
open Idealize.SL.Sem
open Idealize.ShloMosaic.Pipeline (Dat)

variable (m : (ℓ : Loc nD τ sig) → Buf (Elt Ideal) ℓ) (c : Dev nD)

theorem more_index_facts : ∀ t : Fin grid0.N, win0_9.index t = ![t.val, 0] ∧ win0_13.index t = ![t.val, 0] ∧ win0_14.index t = ![t.val, 0]
    ∧ win0_15.index t = ![t.val, 0] ∧ win0_18.index t = ![t.val, 0] := by decide +kernel

/-- The rows of an array that tile `t` holds. -/
def tile {k : ℕ} (f : FVec Ideal ⟨2, ![8704, k]⟩ .f32) (t : Fin cfg0.N) : FVec Ideal ⟨2, ![256, k]⟩ .f32 := fun y =>
  have h0 : (y 0).val < 256 := (y 0).isLt
  have ht : t.val < 34 := t.isLt
  f (ix2 ⟨256 * t.val + (y 0).val, by omega⟩ (y 1))

/-- A lane of a tile's row, by a lane counted from a store's first one. -/
theorem tile_at {k n : ℕ} (f : FVec Ideal ⟨2, ![8704, k]⟩ .f32) (t : Fin cfg0.N) (b : ℕ) (r : Fin 256) (l : Fin n) (q : Fin k) (hq : q.val = b + l.val)
    (i : Fin 8704) (hi : i.val = 256 * t.val + r.val) (y : (⟨2, ![256, k]⟩ : Shape).Idx) (h0 : (y 0).val = 0 + 1 * r.val) (h1 : (y 1).val = b + 1 * l.val) :
    f (ix2 i q) = tile f t y :=
  congrArg f (congrArg₂ ix2 (Fin.ext (by simp only; omega)) (Fin.ext (by omega)))

/-- Rows of `128` lanes as the kernel turns them. -/
theorem turned_block (b : ℕ) (hb : b + 128 ≤ 4224) (t : Fin cfg0.N) (inb) (r : Fin 256) (i : Fin 8704) (hi : i.val = 256 * t.val + r.val) (l : Fin 128) :
    k0_pay26 (F := Ideal) (k0_pay3 (cos128At m c t)) (k0_pay4 (sin128At m c t)) (zAt m c t b 128 inb) (ix2 r l)
      = turned 64 (fun e => (m (c.tc.loc main_arg0) : FVec Ideal S8704x4224 .f32) (ix2 i ⟨b + e.val, by omega⟩))
        (fun e => (m (c.tc.loc main_arg1) : FVec Ideal S2052x64 .f32) (ix2 (pos i) e)) (fun e => (m (c.tc.loc main_arg2) : FVec Ideal S2052x64 .f32) (ix2 (pos i) e)) l := by
  have ht : t.val < 34 := t.isLt
  obtain ⟨p, hp⟩ := table_row t r
  exact turned_row b hb _ _ _ i p (at_pos t.val r i p ht hi hp) _ _ _ r (fun l => zAt_apply m c t _ _ _ _ _ _ hi _ rfl)
    (fun l => (cos128At_apply m c t _ l p hp).trans (congrFun (cos_128 m c) _))
    (fun l => (sin128At_apply m c t _ l p hp).trans (congrFun (sin_128 m c) _)) l

/-! ## The first queries -/

theorem zhead_inb (h : Fin 16) : ∀ a, (![0, 128 * h.val] : Fin 2 → ℕ) a + (![256, 128] : Fin 2 → ℕ) a ≤ S256x4224.size a :=
  Fin.forall_fin_two.mpr ⟨show 0 + 256 ≤ 256 by omega, show 128 * h.val + 128 ≤ 4224 by omega⟩

theorem qhead_inb (h : Fin 16) : ∀ a, (![0, 128 * h.val] : Fin 2 → ℕ) a + (![256, 128] : Fin 2 → ℕ) a ≤ S256x2048.size a :=
  Fin.forall_fin_two.mpr ⟨show 0 + 256 ≤ 256 by omega, show 128 * h.val + 128 ≤ 2048 by omega⟩

abbrev headRect (h : Fin 16) : Rect S256x2048 := Rect.unit (s := S256x2048) ![0, 128 * h.val] ![256, 128] (qhead_inb h)

/-- A head of the first queries: turned and scaled. -/
def scaledHead (c s x : FVec Ideal S256x128 .f32) : FVec Ideal S256x128 .bf16 :=
  truncf .bf16 (mulf (k0_pay26 c s x) (broadcast S256x128 (Scalar.ofBits .f32 0x3DB504F3#32 : Ideal .f32))) bitsLt_bf16_f32

theorem scaledHead_at (c s x : FVec Ideal S256x128 .f32) (r : Fin 256) (l : Fin 128) :
    scaledHead c s x (ix2 r l) = k0_pay26 (F := Ideal) c s x (ix2 r l) * Ideal.ofBits .f32 0x3DB504F3#32 := rfl

def firstStore (t : Fin cfg0.N) (h : Fin 16) : View.Piece (Elt Ideal) S256x2048 .bf16 :=
  ⟨headRect h, scaledHead (k0_pay3 (cos128At m c t)) (k0_pay4 (sin128At m c t)) (zAt m c t (128 * h.val) 128 (zhead_inb h))⟩

theorem pieces_9 (t : Fin cfg0.N) : (Cert.SplitFrame.pieces m c t).1
    = ([15, 14, 13, 12, 11, 10, 9, 8, 7, 6, 5, 4, 3, 2, 1, 0] : List (Fin 16)).map (firstStore m c t) := by
  sl_kernel_rfl

theorem first_at (z : FVec Ideal S8704x4224 .f32) (cos sin : FVec Ideal S2052x64 .f32) (i : Fin 8704) (h : Fin 16) (l : Fin 128) :
    firstQueries z cos sin (ix2 i ⟨128 * h.val + l.val, by omega⟩)
      = turned 64 (fun e => z (ix2 i ⟨128 * h.val + e.val, by omega⟩)) (fun e => cos (ix2 (pos i) e)) (fun e => sin (ix2 (pos i) e)) l
        * Ideal.ofBits .f32 0x3DB504F3#32 := by
  have e1 : (128 * h.val + l.val) / 128 = h.val := by omega
  have e2 : (⟨(128 * h.val + l.val) % 128, by omega⟩ : Fin 128) = l := Fin.ext (by simp only; omega)
  show turned 64 (fun e => z (ix2 i ⟨128 * ((128 * h.val + l.val) / 128) + e.val, _⟩)) (fun e => cos (ix2 (pos i) e)) (fun e => sin (ix2 (pos i) e))
    ⟨(128 * h.val + l.val) % 128, _⟩ * _ = _
  rw [e2]
  simp only [e1]

theorem first_block (t : Fin cfg0.N) (y : S256x2048.Idx) : View.canon (Cert.SplitFrame.pieces m c t).1 y
    = tile (firstQueries (m (c.tc.loc main_arg0)) (m (c.tc.loc main_arg1)) (m (c.tc.loc main_arg2))) t y := by
  have ht : t.val < 34 := t.isLt
  refine View.canon_apply_of_pieces (tile (firstQueries (m (c.tc.loc main_arg0)) (m (c.tc.loc main_arg1)) (m (c.tc.loc main_arg2))) t) _ (fun pc hp x => ?_) y
    (Cert.SplitFrame.cover9 m c t y)
  rw [pieces_9, List.mem_map] at hp
  obtain ⟨h, -, rfl⟩ := hp
  obtain ⟨r, l, rfl⟩ : ∃ (r : Fin 256) (l : Fin 128), x = ix2 r l := ⟨x 0, x 1, by funext a; fin_cases a <;> rfl⟩
  have hi : (⟨256 * t.val + r.val, by omega⟩ : Fin 8704).val = 256 * t.val + r.val := rfl
  refine ((scaledHead_at _ _ _ r l).trans ((congrArg (· * _) (turned_block m c (128 * h.val) (by omega) t _ r _ hi l)).trans (first_at _ _ _ _ h l).symm)).trans ?_
  exact tile_at _ t (128 * h.val) r l _ rfl _ hi _ rfl rfl

theorem result_9 : (Cert.SplitFrame.dats m 0 c).arrAt 9 cfg0.N
    = firstQueries (m (c.tc.loc main_arg0)) (m (c.tc.loc main_arg1)) (m (c.tc.loc main_arg2)) := by
  refine (Cert.SplitFrame.dats m 0 c).arrAt_eq_of_covers 9 _ (by decide +kernel) fun t hf y => ?_
  blk_simp
  simp only [Cert.SplitFrame.after0_9]
  rw [first_block]
  obtain ⟨iw, -⟩ := more_index_facts t
  have e0 : (((cfg0.win 9).blk t).view.emb y 0 : ℕ) = 256 * t.val + (y 0).val := by
    blk_simp [iw]; simp; omega
  have e1 : (((cfg0.win 9).blk t).view.emb y 1 : ℕ) = (y 1).val := by
    blk_simp [iw]
  refine congrArg (firstQueries _ _ _) ?_
  funext a
  apply Fin.ext
  match a with
  | ⟨0, _⟩ => exact e0.symm
  | ⟨1, _⟩ => exact e1.symm

/-! ## The key-value pairs -/

theorem half_inb (h : Fin 2) : ∀ a, (![0, 128 * h.val] : Fin 2 → ℕ) a + (![256, 128] : Fin 2 → ℕ) a ≤ S256x256.size a :=
  Fin.forall_fin_two.mpr ⟨show 0 + 256 ≤ 256 by omega, show 128 * h.val + 128 ≤ 256 by omega⟩

abbrev halfRect (h : Fin 2) : Rect S256x256 := Rect.unit (s := S256x256) ![0, 128 * h.val] ![256, 128] (half_inb h)

/-- A branch's two stores: its values, and before them its keys. -/
def pairStores (b : Fin 3) (t : Fin cfg0.N) (inb : ∀ a, (![0, 2176 + 256 * b.val] : Fin 2 → ℕ) a + (![256, 128] : Fin 2 → ℕ) a ≤ S256x4224.size a)
    (inb' : ∀ a, (![0, 2048 + 256 * b.val] : Fin 2 → ℕ) a + (![256, 128] : Fin 2 → ℕ) a ≤ S256x4224.size a) : List (View.Piece (Elt Ideal) S256x256 .bf16) :=
  [⟨halfRect 1, truncf (F := Ideal) .bf16 (zAt m c t (2176 + 256 * b.val) 128 inb) bitsLt_bf16_f32⟩,
    ⟨halfRect 0, truncf (F := Ideal) .bf16 (k0_pay26 (F := Ideal) (k0_pay3 (cos128At m c t)) (k0_pay4 (sin128At m c t)) (zAt m c t (2048 + 256 * b.val) 128 inb')) bitsLt_bf16_f32⟩]

theorem pieces_13 (t : Fin cfg0.N) : (Cert.SplitFrame.pieces m c t).2.2.2.2.1
    = pairStores m c 1 t inb_S256x4224_S256x128_0_2432 inb_S256x4224_S256x128_0_2304 := by
  sl_kernel_rfl

theorem pieces_14 (t : Fin cfg0.N) : (Cert.SplitFrame.pieces m c t).2.2.2.2.2.1
    = pairStores m c 2 t inb_S256x4224_S256x128_0_2688 inb_S256x4224_S256x128_0_2560 := by
  sl_kernel_rfl

theorem pair_at (b : Fin 3) (t : Fin cfg0.N) (inb inb') (pc : View.Piece (Elt Ideal) S256x256 .bf16) (hp : pc ∈ pairStores m c b t inb inb') (x : pc.1.shape.Idx) :
    pc.2 x = tile (pair b (m (c.tc.loc main_arg0)) (m (c.tc.loc main_arg1)) (m (c.tc.loc main_arg2))) t (pc.1.emb x) := by
  have ht : t.val < 34 := t.isLt
  simp only [pairStores, List.mem_cons, List.mem_nil_iff, or_false] at hp
  rcases hp with rfl | rfl
  · obtain ⟨r, l, rfl⟩ : ∃ (r : Fin 256) (l : Fin 128), x = ix2 r l := ⟨x 0, x 1, by funext a; fin_cases a <;> rfl⟩
    have hi : (⟨256 * t.val + r.val, by omega⟩ : Fin 8704).val = 256 * t.val + r.val := rfl
    refine Eq.trans ?_ (tile_at _ t 128 r l ⟨128 + l.val, by omega⟩ rfl _ hi _ rfl rfl)
    refine (zAt_apply m c t _ _ _ _ _ _ hi ⟨2176 + 256 * b.val + l.val, by omega⟩ rfl).trans ?_
    refine Eq.trans ?_ (dif_neg (show ¬ 128 + l.val < 128 by omega)).symm
    exact congrArg (fun q => (m (c.tc.loc main_arg0) : FVec Ideal S8704x4224 .f32) (ix2 _ q)) (Fin.ext (show _ = 2176 + 256 * b.val + (128 + l.val - 128) by simp only; omega))
  · obtain ⟨r, l, rfl⟩ : ∃ (r : Fin 256) (l : Fin 128), x = ix2 r l := ⟨x 0, x 1, by funext a; fin_cases a <;> rfl⟩
    have hi : (⟨256 * t.val + r.val, by omega⟩ : Fin 8704).val = 256 * t.val + r.val := rfl
    refine Eq.trans ?_ (tile_at (k := 256) (pair b (m (c.tc.loc main_arg0)) (m (c.tc.loc main_arg1)) (m (c.tc.loc main_arg2))) t 0 r l ⟨l.val, by omega⟩
      (Nat.zero_add _).symm ⟨256 * t.val + r.val, by omega⟩ rfl _ rfl rfl)
    refine (turned_block m c (2048 + 256 * b.val) (by omega) t _ r _ hi l).trans (Eq.trans ?_ (dif_pos (show l.val < 128 from l.isLt)).symm)
    rfl

theorem result_13 : (Cert.SplitFrame.dats m 0 c).arrAt 13 cfg0.N
    = pair 1 (m (c.tc.loc main_arg0)) (m (c.tc.loc main_arg1)) (m (c.tc.loc main_arg2)) := by
  refine (Cert.SplitFrame.dats m 0 c).arrAt_eq_of_covers 13 _ (by decide +kernel) fun t hf y => ?_
  blk_simp
  simp only [Cert.SplitFrame.after0_13]
  rw [View.canon_apply_of_pieces _ _ (fun pc hp x => pair_at m c 1 t _ _ pc (pieces_13 m c t ▸ hp) x) y (Cert.SplitFrame.cover13 m c t y)]
  obtain ⟨-, iw, -⟩ := more_index_facts t
  have e0 : (((cfg0.win 13).blk t).view.emb y 0 : ℕ) = 256 * t.val + (y 0).val := by
    blk_simp [iw]; simp; omega
  have e1 : (((cfg0.win 13).blk t).view.emb y 1 : ℕ) = (y 1).val := by
    blk_simp [iw]
  refine congrArg (pair 1 _ _ _) ?_
  funext a
  apply Fin.ext
  match a with
  | ⟨0, _⟩ => exact e0.symm
  | ⟨1, _⟩ => exact e1.symm

theorem result_14 : (Cert.SplitFrame.dats m 0 c).arrAt 14 cfg0.N
    = pair 2 (m (c.tc.loc main_arg0)) (m (c.tc.loc main_arg1)) (m (c.tc.loc main_arg2)) := by
  refine (Cert.SplitFrame.dats m 0 c).arrAt_eq_of_covers 14 _ (by decide +kernel) fun t hf y => ?_
  blk_simp
  simp only [Cert.SplitFrame.after0_14]
  rw [View.canon_apply_of_pieces _ _ (fun pc hp x => pair_at m c 2 t _ _ pc (pieces_14 m c t ▸ hp) x) y (Cert.SplitFrame.cover14 m c t y)]
  obtain ⟨-, -, iw, -⟩ := more_index_facts t
  have e0 : (((cfg0.win 14).blk t).view.emb y 0 : ℕ) = 256 * t.val + (y 0).val := by
    blk_simp [iw]; simp; omega
  have e1 : (((cfg0.win 14).blk t).view.emb y 1 : ℕ) = (y 1).val := by
    blk_simp [iw]
  refine congrArg (pair 2 _ _ _) ?_
  funext a
  apply Fin.ext
  match a with
  | ⟨0, _⟩ => exact e0.symm
  | ⟨1, _⟩ => exact e1.symm

/-! ## The gates -/

abbrev wholeRect : Rect S256x128 := Rect.unit (s := S256x128) ![0, 0] ![256, 128] inb_S256x128_S256x128_0_0

theorem pieces_15 (t : Fin cfg0.N) : (Cert.SplitFrame.pieces m c t).2.2.2.2.2.2.1
    = [⟨wholeRect, k0_pay33 (F := Ideal) (zAt m c t 4096 128 inb_S256x4224_S256x128_0_4096)⟩] := by
  sl_kernel_rfl

theorem gates_block (t : Fin cfg0.N) (y : S256x128.Idx) : View.canon (Cert.SplitFrame.pieces m c t).2.2.2.2.2.2.1 y
    = tile (gates (m (c.tc.loc main_arg0))) t y := by
  have ht : t.val < 34 := t.isLt
  refine View.canon_apply_of_pieces (tile (gates (m (c.tc.loc main_arg0))) t) _ (fun pc hp x => ?_) y (Cert.SplitFrame.cover15 m c t y)
  rw [pieces_15, List.mem_singleton] at hp
  subst hp
  obtain ⟨r, l, rfl⟩ : ∃ (r : Fin 256) (l : Fin 128), x = ix2 r l := ⟨x 0, x 1, by funext a; fin_cases a <;> rfl⟩
  have hi : (⟨256 * t.val + r.val, by omega⟩ : Fin 8704).val = 256 * t.val + r.val := rfl
  refine Eq.trans ?_ (tile_at _ t 0 r l l (Nat.zero_add _).symm _ hi _ rfl rfl)
  exact congrArg Ideal.logistic (zAt_apply m c t _ _ _ _ _ _ hi _ rfl)

theorem result_15 : (Cert.SplitFrame.dats m 0 c).arrAt 15 cfg0.N = gates (m (c.tc.loc main_arg0)) := by
  refine (Cert.SplitFrame.dats m 0 c).arrAt_eq_of_covers 15 _ (by decide +kernel) fun t hf y => ?_
  blk_simp
  simp only [Cert.SplitFrame.after0_15]
  rw [gates_block]
  obtain ⟨-, -, -, iw, -⟩ := more_index_facts t
  have e0 : (((cfg0.win 15).blk t).view.emb y 0 : ℕ) = 256 * t.val + (y 0).val := by
    blk_simp [iw]; simp; omega
  have e1 : (((cfg0.win 15).blk t).view.emb y 1 : ℕ) = (y 1).val := by
    blk_simp [iw]
  refine congrArg (gates _) ?_
  funext a
  apply Fin.ext
  match a with
  | ⟨0, _⟩ => exact e0.symm
  | ⟨1, _⟩ => exact e1.symm

/-! ## The rounded latent rows -/

theorem pieces_18 (t : Fin cfg0.N) : (Cert.SplitFrame.pieces m c t).2.2.2.2.2.2.2.2.2.1 = [⟨rightLanes, k0_pay42 (F := Ideal) (k0_pay5 (cos64At m c t)) (k0_pay6 (sin64At m c t))
      (k0_pay35 (zAt m c t 3712 384 inb_S256x4224_S256x384_0_3712)) k0_pay36
      (k0_pay37 (zAt m c t 3712 384 inb_S256x4224_S256x384_0_3712) (gainAt m c t)) k0_pay38 96#32⟩,
    ⟨leftLanes, k0_pay41 (F := Ideal) (k0_pay34 (zAt m c t 3712 384 inb_S256x4224_S256x384_0_3712) (gainAt m c t))⟩] := by
  sl_kernel_rfl

theorem rounded_block (t : Fin cfg0.N) (y : S256x384.Idx) : View.canon (Cert.SplitFrame.pieces m c t).2.2.2.2.2.2.2.2.2.1 y
    = tile (latent (m (c.tc.loc main_arg0)) (m (c.tc.loc main_arg3)) (m (c.tc.loc main_arg4)) (m (c.tc.loc main_arg6))) t y := by
  have ht : t.val < 34 := t.isLt
  refine View.canon_apply_of_pieces (tile (latent (m (c.tc.loc main_arg0)) (m (c.tc.loc main_arg3)) (m (c.tc.loc main_arg4)) (m (c.tc.loc main_arg6))) t) _
    (fun pc hp x => ?_) y (Cert.SplitFrame.cover18 m c t y)
  have key : ∀ (r : Fin 256) (k : Fin 384), _ := fun r k => (two _ _ r k).symm.trans
    (latent_block m c t inb_S256x4224_S256x384_0_3712 r k ⟨256 * t.val + r.val, by omega⟩ rfl)
  rw [pieces_18] at hp
  simp only [List.mem_cons, List.mem_nil_iff, or_false] at hp
  rcases hp with rfl | rfl
  · obtain ⟨r, l, rfl⟩ : ∃ (r : Fin 256) (l : Fin 128), x = ix2 r l := ⟨x 0, x 1, by funext a; fin_cases a <;> rfl⟩
    refine Eq.trans ?_ (tile_at _ t 256 r l ⟨256 + l.val, by omega⟩ rfl ⟨256 * t.val + r.val, by omega⟩ rfl _ rfl rfl)
    refine Eq.trans ?_ (key r ⟨256 + l.val, by omega⟩)
    refine Eq.trans ?_ (dif_neg (show ¬ 256 + l.val < 256 by omega)).symm
    exact congrArg (fun q => k0_pay39 (F := Ideal) _ _ _ _ _ _ _ (ix2 r q)) (Fin.ext (show l.val = 256 + l.val - 256 by omega))
  · obtain ⟨r, l, rfl⟩ : ∃ (r : Fin 256) (l : Fin 256), x = ix2 r l := ⟨x 0, x 1, by funext a; fin_cases a <;> rfl⟩
    refine Eq.trans ?_ (tile_at (k := 384) (latent (m (c.tc.loc main_arg0)) (m (c.tc.loc main_arg3)) (m (c.tc.loc main_arg4)) (m (c.tc.loc main_arg6))) t 0 r l
      ⟨l.val, by omega⟩ (Nat.zero_add _).symm ⟨256 * t.val + r.val, by omega⟩ rfl _ rfl rfl)
    refine Eq.trans ?_ (key r ⟨l.val, by omega⟩)
    refine Eq.trans ?_ (dif_pos (show l.val < 256 from l.isLt)).symm
    rfl

theorem result_18 : (Cert.SplitFrame.dats m 0 c).arrAt 18 cfg0.N
    = latent (m (c.tc.loc main_arg0)) (m (c.tc.loc main_arg3)) (m (c.tc.loc main_arg4)) (m (c.tc.loc main_arg6)) := by
  refine (Cert.SplitFrame.dats m 0 c).arrAt_eq_of_covers 18 _ (by decide +kernel) fun t hf y => ?_
  blk_simp
  simp only [Cert.SplitFrame.after0_18]
  rw [rounded_block]
  obtain ⟨-, -, -, -, iw⟩ := more_index_facts t
  have e0 : (((cfg0.win 18).blk t).view.emb y 0 : ℕ) = 256 * t.val + (y 0).val := by
    blk_simp [iw]; simp; omega
  have e1 : (((cfg0.win 18).blk t).view.emb y 1 : ℕ) = (y 1).val := by
    blk_simp [iw]
  refine congrArg (latent _ _ _ _) ?_
  funext a
  apply Fin.ext
  match a with
  | ⟨0, _⟩ => exact e0.symm
  | ⟨1, _⟩ => exact e1.symm

/-! ## The run -/

set_option maxHeartbeats 2000000 in
/-- The program's run: what it leaves in the ten results, and its arguments as they were. -/
theorem run_results (ρ : Dev nD → PrngReg) : θ_run defs (onTc (τ := τ) (main (F := Ideal))) ⟨m, fun _ => 0, ρ⟩ (fun r => ∀ c : Dev nD,
      r.2.mem ((c.tc : Thread nD τ).loc main_v54_0) = firstQueries (m (c.tc.loc main_arg0)) (m (c.tc.loc main_arg1)) (m (c.tc.loc main_arg2))
      ∧ r.2.mem ((c.tc : Thread nD τ).loc main_v54_1) = kv 0 (m (c.tc.loc main_arg0)) (m (c.tc.loc main_arg1)) (m (c.tc.loc main_arg2))
      ∧ r.2.mem ((c.tc : Thread nD τ).loc main_v54_2) = kv 1 (m (c.tc.loc main_arg0)) (m (c.tc.loc main_arg1)) (m (c.tc.loc main_arg2))
      ∧ r.2.mem ((c.tc : Thread nD τ).loc main_v54_3) = kv 2 (m (c.tc.loc main_arg0)) (m (c.tc.loc main_arg1)) (m (c.tc.loc main_arg2))
      ∧ r.2.mem ((c.tc : Thread nD τ).loc main_v54_4) = pair 1 (m (c.tc.loc main_arg0)) (m (c.tc.loc main_arg1)) (m (c.tc.loc main_arg2))
      ∧ r.2.mem ((c.tc : Thread nD τ).loc main_v54_5) = pair 2 (m (c.tc.loc main_arg0)) (m (c.tc.loc main_arg1)) (m (c.tc.loc main_arg2))
      ∧ r.2.mem ((c.tc : Thread nD τ).loc main_v54_6) = gates (m (c.tc.loc main_arg0))
      ∧ r.2.mem ((c.tc : Thread nD τ).loc main_v54_7) = secondQueries (m (c.tc.loc main_arg0)) (m (c.tc.loc main_arg3)) (m (c.tc.loc main_arg4)) (m (c.tc.loc main_arg5)) (m (c.tc.loc main_arg7)) (m (c.tc.loc main_arg8))
      ∧ r.2.mem ((c.tc : Thread nD τ).loc main_v54_8) = latent (m (c.tc.loc main_arg0)) (m (c.tc.loc main_arg3)) (m (c.tc.loc main_arg4)) (m (c.tc.loc main_arg6))
      ∧ r.2.mem ((c.tc : Thread nD τ).loc main_v54_9) = latent (m (c.tc.loc main_arg0)) (m (c.tc.loc main_arg3)) (m (c.tc.loc main_arg4)) (m (c.tc.loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  refine (θ_run _ _ _).mono (fun r h => ?_) (θ_run_and (Cert.SplitFrame.run_main_quiescent m ρ) (Cert.SplitFrame.frame m ρ))
  intro c
  have hw := (h.1.1 c).1
  exact ⟨(hw 9).trans (result_9 m c), (hw 10).trans (result_10 m c), (hw 11).trans (result_11 m c), (hw 12).trans (result_12 m c), (hw 13).trans (result_13 m c),
    (hw 14).trans (result_14 m c), (hw 15).trans (result_15 m c), (hw 16).trans (result_16 m c), (hw 17).trans (result_17 m c), (hw 18).trans (result_18 m c), h.2.1 c⟩

end Cert.Split

end
-- ==== Proof.SplitRef.lean ====
/-
  The rows' split: its reference is the same rows.
-/
module

public import proofs.«01_k».proof.Proof.Split
public import proofs.«01_k».proof.Proof.Gen.Reference5Ideal.Read

@[expose] public section

set_option maxRecDepth 16384

noncomputable section

namespace Cert.SplitRef

open Cert.Reference5Ideal Cert.Reference5Ideal.Read Idealize.ShloMosaic Idealize.ShloMosaic.Tactic Cert.Norm Cert.Split

/-! ## The tables' rows, token by token -/

theorem prompts_then_samples (a : FVec Ideal S8192x192 .f32) (b : FVec Ideal S512x192 .f32) (hc) (i : Fin 8704) (e : Fin 192) :
    concatenate S8704x192 0 [⟨S8192x192, a⟩, ⟨S512x192, b⟩] hc (ix2 i e)
      = if h : i.val < 8192 then a (ix2 ⟨i.val, h⟩ e) else b (ix2 ⟨i.val - 8192, by omega⟩ e) := by
  pointwise []

/-- The joined tables hold each token's row at its position. -/
theorem joined_rows (c s : FVec Ideal S2052x64 .f32) (c' s' : FVec Ideal S2052x32 .f32) (i : Fin 8704) (e : Fin 192) :
    val_main_v9 (F := Ideal) c s c' s' (ix2 i e) = val_main_v0 (F := Ideal) c s c' s' (ix2 (pos i) e) := by
  have hp : ∀ q : Fin 8192, val_main_v4 (F := Ideal) c s c' s' (ix2 q e) = val_main_v0 (F := Ideal) c s c' s' (ix2 ⟨q.val % 2048, by omega⟩ e) := fun q => by
    pointwise [val_main_v4, val_main_v3, val_main_v2, val_main_v1]
  have hs : ∀ q : Fin 512, val_main_v8 (F := Ideal) c s c' s' (ix2 q e) = val_main_v0 (F := Ideal) c s c' s' (ix2 ⟨2048 + q.val % 4, by omega⟩ e) := fun q => by
    pointwise [val_main_v8, val_main_v7, val_main_v6, val_main_v5]
  refine (prompts_then_samples _ _ _ i e).trans ?_
  unfold pos
  split <;> rename_i h
  · rw [hp]
  · rw [hs]
    exact congrArg (fun q => val_main_v0 (F := Ideal) c s c' s' (ix2 q e)) (Fin.ext (by simp only; omega))

/-- The four tables stand side by side. -/
theorem joined_lanes (c s : FVec Ideal S2052x64 .f32) (c' s' : FVec Ideal S2052x32 .f32) (p : Fin 2052) (k : Fin 192) :
    val_main_v0 (F := Ideal) c s c' s' (ix2 p k) = if h : k.val < 64 then c (ix2 p ⟨k.val, h⟩) else if h : k.val - 64 < 64 then s (ix2 p ⟨k.val - 64, by omega⟩)
      else if h : k.val - 64 - 64 < 32 then c' (ix2 p ⟨k.val - 64 - 64, by omega⟩) else s' (ix2 p ⟨k.val - 64 - 64 - 32, by omega⟩) := by
  pointwise [val_main_v0]

theorem table_1 (c s : FVec Ideal S2052x64 .f32) (c' s' : FVec Ideal S2052x32 .f32) (i : Fin 8704) (e : Fin 64) :
    val_main_v10 (F := Ideal) c s c' s' (ix2 i e) = c (ix2 (pos i) e) := by
  refine (show _ = val_main_v9 (F := Ideal) c s c' s' (ix2 i ⟨e.val, by omega⟩) by pointwise [val_main_v10]).trans ?_
  rw [joined_rows, joined_lanes, dif_pos (show e.val < 64 from e.isLt)]

theorem table_2 (c s : FVec Ideal S2052x64 .f32) (c' s' : FVec Ideal S2052x32 .f32) (i : Fin 8704) (e : Fin 64) :
    val_main_v11 (F := Ideal) c s c' s' (ix2 i e) = s (ix2 (pos i) e) := by
  refine (show _ = val_main_v9 (F := Ideal) c s c' s' (ix2 i ⟨64 + e.val, by omega⟩) by pointwise [val_main_v11]).trans ?_
  rw [joined_rows, joined_lanes, dif_neg (show ¬ 64 + e.val < 64 by omega), dif_pos (show 64 + e.val - 64 < 64 by omega)]
  exact congrArg (fun q => s (ix2 (pos i) q)) (Fin.ext (show 64 + e.val - 64 = e.val by omega))

theorem table_3 (c s : FVec Ideal S2052x64 .f32) (c' s' : FVec Ideal S2052x32 .f32) (i : Fin 8704) (e : Fin 32) :
    val_main_v12 (F := Ideal) c s c' s' (ix2 i e) = c' (ix2 (pos i) e) := by
  refine (show _ = val_main_v9 (F := Ideal) c s c' s' (ix2 i ⟨128 + e.val, by omega⟩) by pointwise [val_main_v12]).trans ?_
  rw [joined_rows, joined_lanes, dif_neg (show ¬ 128 + e.val < 64 by omega), dif_neg (show ¬ 128 + e.val - 64 < 64 by omega), dif_pos (show 128 + e.val - 64 - 64 < 32 by omega)]
  exact congrArg (fun q => c' (ix2 (pos i) q)) (Fin.ext (show 128 + e.val - 64 - 64 = e.val by omega))

theorem table_4 (c s : FVec Ideal S2052x64 .f32) (c' s' : FVec Ideal S2052x32 .f32) (i : Fin 8704) (e : Fin 32) :
    val_main_v13 (F := Ideal) c s c' s' (ix2 i e) = s' (ix2 (pos i) e) := by
  refine (show _ = val_main_v9 (F := Ideal) c s c' s' (ix2 i ⟨160 + e.val, by omega⟩) by pointwise [val_main_v13]).trans ?_
  rw [joined_rows, joined_lanes, dif_neg (show ¬ 160 + e.val < 64 by omega), dif_neg (show ¬ 160 + e.val - 64 < 64 by omega), dif_neg (show ¬ 160 + e.val - 64 - 64 < 32 by omega)]
  exact congrArg (fun q => s' (ix2 (pos i) q)) (Fin.ext (show 160 + e.val - 64 - 64 - 32 = e.val by omega))

/-! ## The results -/

theorem same_entry (z : FVec Ideal S8704x4224 .f32) (i : Fin 8704) (p q : Fin 4224) (h : p.val = q.val) : z (ix2 i p) = z (ix2 i q) := by
  rw [Fin.ext h]

theorem minus {a b p q u v : EReal} (h : a = b) (h' : u = v) : a * p - u * q = b * p - v * q := by rw [h, h']
theorem plus {a b p q u v : EReal} (h : a = b) (h' : u = v) : a * p + u * q = b * p + v * q := by rw [h, h']

/-! ## The turned heads: the queries' sixteen, then the branches' three keys -/

theorem queries_then_keys (a : FVec Ideal S8704x16x128 .f32) (b : FVec Ideal S8704x3x128 .f32) (hc) (i : Fin 8704) (h : Fin 19) (e : Fin 128) :
    concatenate S8704x19x128 1 [⟨S8704x16x128, a⟩, ⟨S8704x3x128, b⟩] hc (ix3 i h e)
      = if hh : h.val < 16 then a (ix3 i ⟨h.val, hh⟩ e) else b (ix3 i ⟨h.val - 16, by omega⟩ e) := by
  pointwise []

theorem query_head (z : FVec Ideal S8704x4224 .f32) (i : Fin 8704) (h : Fin 16) (e : Fin 128) :
    val_main_v17 (F := Ideal) z (ix3 i h e) = z (ix2 i ⟨128 * h.val + e.val, by omega⟩) := by
  pointwise [val_main_v17, val_main_v16]
  exact same_entry z i _ _ (by simp only; omega)

theorem key_head (z : FVec Ideal S8704x4224 .f32) (i : Fin 8704) (b : Fin 3) (e : Fin 128) :
    val_main_v19 (F := Ideal) z (ix3 i b e) = z (ix2 i ⟨2048 + 256 * b.val + e.val, by omega⟩) := by
  pointwise [val_main_v19, val_main_v18, val_main_v15, val_main_v14]
  exact same_entry z i _ _ (by simp only; omega)

theorem turned_heads (z : FVec Ideal S8704x4224 .f32) (c s : FVec Ideal S2052x64 .f32) (c' s' : FVec Ideal S2052x32 .f32) (i : Fin 8704) (h : Fin 19) (e : Fin 128) :
    val_main_v31 (F := Ideal) z c s c' s' (ix3 i h e) = turned 64 (fun e => val_main_v20 (F := Ideal) z (ix3 i h e))
      (fun e => c (ix2 (pos i) e)) (fun e => s (ix2 (pos i) e)) e := by
  pointwise [val_main_v31, val_main_v30, val_main_v29, val_main_v28, val_main_v27, val_main_v26, val_main_v25, val_main_v24, val_main_v23,
    val_main_v22, val_main_v21]
  unfold turned
  beta_reduce
  split <;> rename_i hl
  · rw [table_1, table_2]
    exact minus (congrArg (fun q => val_main_v20 (F := Ideal) z (ix3 i h q)) (Fin.ext (by simp only)))
      (congrArg (fun q => val_main_v20 (F := Ideal) z (ix3 i h q)) (Fin.ext (by simp only; omega)))
  · rw [table_1, table_2]
    exact plus (congrArg (fun q => val_main_v20 (F := Ideal) z (ix3 i h q)) (Fin.ext (by simp only; omega)))
      (congrArg (fun q => val_main_v20 (F := Ideal) z (ix3 i h q)) (Fin.ext (by simp only)))

theorem first_turned (z : FVec Ideal S8704x4224 .f32) (c s : FVec Ideal S2052x64 .f32) (c' s' : FVec Ideal S2052x32 .f32) (i : Fin 8704) (h : Fin 16) (e : Fin 128) :
    val_main_v67 (F := Ideal) z c s c' s' (ix3 i h e) = turned 64 (fun e => z (ix2 i ⟨128 * h.val + e.val, by omega⟩))
      (fun e => c (ix2 (pos i) e)) (fun e => s (ix2 (pos i) e)) e := by
  refine (show _ = val_main_v31 (F := Ideal) z c s c' s' (ix3 i ⟨h.val, by omega⟩ e) by pointwise [val_main_v67]).trans ((turned_heads ..).trans ?_)
  refine congrArg (fun f => turned 64 f _ _ e) (funext fun e => ?_)
  exact (queries_then_keys _ _ _ i _ e).trans ((dif_pos h.isLt).trans (query_head z i h e))

theorem keys (z : FVec Ideal S8704x4224 .f32) (c s : FVec Ideal S2052x64 .f32) (c' s' : FVec Ideal S2052x32 .f32) (i : Fin 8704) (b : Fin 3) (e : Fin 128) :
    val_main_v32 (F := Ideal) z c s c' s' (ix3 i b e) = key b z c s i e := by
  refine (show _ = val_main_v31 (F := Ideal) z c s c' s' (ix3 i ⟨16 + b.val, by omega⟩ e) by pointwise [val_main_v32]).trans ((turned_heads ..).trans ?_)
  refine congrArg (fun f => turned 64 f _ _ e) (funext fun e => ?_)
  refine (queries_then_keys _ _ _ i _ e).trans ((dif_neg (show ¬ 16 + b.val < 16 by omega)).trans (Eq.trans ?_ (key_head z i b e)))
  exact congrArg (fun q => val_main_v19 (F := Ideal) z (ix3 i q e)) (Fin.ext (show 16 + b.val - 16 = b.val by omega))

/-! ## The rows and the latents -/

theorem rows_0 (z : FVec Ideal S8704x4224 .f32) (c s : FVec Ideal S2052x64 .f32) (c' s' : FVec Ideal S2052x32 .f32) : val_main_v62 (F := Ideal) z c s c' s' = kv 0 z c s := by
  funext j
  obtain ⟨q, l, rfl⟩ : ∃ (q : Fin 17408) (l : Fin 128), j = ix2 q l := ⟨j 0, j 1, by funext a; fin_cases a <;> rfl⟩
  rw [kv_row 0 z c s q ⟨q.val / 2, by omega⟩ l rfl]
  pointwise [val_main_v62, val_main_v61, val_main_v35, val_main_v34, val_main_v33, val_main_v15, val_main_v14]
  by_cases h : q.val % 2 = 0
  · rw [dif_pos (show q.val % 2 < 1 by omega), if_pos h]
    exact keys z c s c' s' _ 0 l
  · refine (dif_neg (show ¬ q.val % 2 < 1 by omega)).trans (Eq.trans ?_ (if_neg h).symm)
    exact same_entry z _ _ _ (by simp only [Fin.val_zero, Fin.val_one, Fin.val_two, Fin.isValue]; omega)

theorem rows_1 (z : FVec Ideal S8704x4224 .f32) (c s : FVec Ideal S2052x64 .f32) (c' s' : FVec Ideal S2052x32 .f32) : val_main_v64 (F := Ideal) z c s c' s' = kv 1 z c s := by
  funext j
  obtain ⟨q, l, rfl⟩ : ∃ (q : Fin 17408) (l : Fin 128), j = ix2 q l := ⟨j 0, j 1, by funext a; fin_cases a <;> rfl⟩
  rw [kv_row 1 z c s q ⟨q.val / 2, by omega⟩ l rfl]
  pointwise [val_main_v64, val_main_v63, val_main_v35, val_main_v34, val_main_v33, val_main_v15, val_main_v14]
  by_cases h : q.val % 2 = 0
  · rw [dif_pos (show q.val % 2 < 1 by omega), if_pos h]
    exact keys z c s c' s' _ 1 l
  · refine (dif_neg (show ¬ q.val % 2 < 1 by omega)).trans (Eq.trans ?_ (if_neg h).symm)
    exact same_entry z _ _ _ (by simp only [Fin.val_zero, Fin.val_one, Fin.val_two, Fin.isValue]; omega)

theorem rows_2 (z : FVec Ideal S8704x4224 .f32) (c s : FVec Ideal S2052x64 .f32) (c' s' : FVec Ideal S2052x32 .f32) : val_main_v66 (F := Ideal) z c s c' s' = kv 2 z c s := by
  funext j
  obtain ⟨q, l, rfl⟩ : ∃ (q : Fin 17408) (l : Fin 128), j = ix2 q l := ⟨j 0, j 1, by funext a; fin_cases a <;> rfl⟩
  rw [kv_row 2 z c s q ⟨q.val / 2, by omega⟩ l rfl]
  pointwise [val_main_v66, val_main_v65, val_main_v35, val_main_v34, val_main_v33, val_main_v15, val_main_v14]
  by_cases h : q.val % 2 = 0
  · rw [dif_pos (show q.val % 2 < 1 by omega), if_pos h]
    exact keys z c s c' s' _ 2 l
  · refine (dif_neg (show ¬ q.val % 2 < 1 by omega)).trans (Eq.trans ?_ (if_neg h).symm)
    exact same_entry z _ _ _ (by simp only [Fin.val_zero, Fin.val_one, Fin.val_two, Fin.isValue]; omega)

theorem latents (z : FVec Ideal S8704x4224 .f32) (c' s' : FVec Ideal S2052x64 .f32) (c s : FVec Ideal S2052x32 .f32) (g : FVec Ideal S320 .f32) :
    val_main_v60 (F := Ideal) z c' s' c s g = latent z c s g := by
  funext j
  obtain ⟨i, k, rfl⟩ : ∃ (i : Fin 8704) (k : Fin 384), j = ix2 i k := ⟨j 0, j 1, by funext a; fin_cases a <;> rfl⟩
  pointwise [val_main_v60, val_main_v59, val_main_v58, val_main_v57, val_main_v56, val_main_v55, val_main_v54, val_main_v53, val_main_v52,
    val_main_v51, val_main_v50, val_main_v49, val_main_v48, val_main_v47, val_main_v46, val_main_v45, val_main_v44, val_main_v43, val_main_v42,
    val_main_v41, val_main_v40, val_main_v39, val_main_v38, val_main_v37, val_main_v36, val_main_cst, val_main_cst_0, val_main_cst_1]
  split <;> rename_i h
  · exact (latent_low z c s g i k h).symm
  · rw [latent_high z c s g i k h]
    unfold turned
    beta_reduce
    split <;> rename_i h1
    · simp only [table_3, table_4]
      exact minus (same_entry z i _ _ (by simp only)) (same_entry z i _ _ (by simp only; omega))
    · simp only [table_3, table_4]
      exact plus (same_entry z i _ _ (by simp only; omega)) (same_entry z i _ _ (by simp only))

end Cert.SplitRef

end
-- ==== Proof.SplitRefMore.lean ====
/-
  The rows' split: its reference's queries, pairs and gates are the same.
-/
module

public import proofs.«01_k».proof.Proof.SplitRef

@[expose] public section

set_option maxRecDepth 16384

noncomputable section

namespace Cert.SplitRef

open Cert.Reference5Ideal Cert.Reference5Ideal.Read Idealize.ShloMosaic Idealize.ShloMosaic.Tactic Cert.Norm Cert.Split
open scoped BigOperators

/-! ## The first queries -/

theorem first_queries (z : FVec Ideal S8704x4224 .f32) (c s : FVec Ideal S2052x64 .f32) (c' s' : FVec Ideal S2052x32 .f32) : val_main_v71 (F := Ideal) z c s c' s' = firstQueries z c s := by
  funext j
  obtain ⟨i, k, rfl⟩ : ∃ (i : Fin 8704) (k : Fin 2048), j = ix2 i k := ⟨j 0, j 1, by funext a; fin_cases a <;> rfl⟩
  pointwise [val_main_v71, val_main_v70, val_main_v69, val_main_v68, val_main_cst_2]
  rw [first_turned]
  rfl

/-! ## The pairs, the gates and the latent rows again -/

theorem pair_entry (b : Fin 3) (z : FVec Ideal S8704x4224 .f32) (c s : FVec Ideal S2052x64 .f32) (i : Fin 8704) (k : Fin 256) :
    pair b z c s (ix2 i k) = if h : k.val < 128 then key b z c s i ⟨k.val, h⟩ else z (ix2 i ⟨2176 + 256 * b.val + (k.val - 128), by omega⟩) := rfl

theorem pair_of_rows (b : Fin 3) (z : FVec Ideal S8704x4224 .f32) (c s : FVec Ideal S2052x64 .f32) (i : Fin 8704) (k : Fin 256) (q : Fin 17408) (l : Fin 128)
    (h : 128 * q.val + l.val = 256 * i.val + k.val) : kv b z c s (ix2 q l) = pair b z c s (ix2 i k) := by
  rw [kv_row b z c s q i l (by omega), pair_entry]
  by_cases hk : k.val < 128
  · rw [if_pos (show q.val % 2 = 0 by omega), dif_pos hk]
    exact congrArg (key b z c s i) (Fin.ext (by simp only; omega))
  · refine (if_neg (show ¬ q.val % 2 = 0 by omega)).trans (Eq.trans ?_ (dif_neg hk).symm)
    exact same_entry z i _ _ (by simp only; omega)

theorem pairs_1 (z : FVec Ideal S8704x4224 .f32) (c s : FVec Ideal S2052x64 .f32) (c' s' : FVec Ideal S2052x32 .f32) :
    val_main_v73 (F := Ideal) z c s c' s' = pair 1 z c s := by
  funext j
  obtain ⟨i, k, rfl⟩ : ∃ (i : Fin 8704) (k : Fin 256), j = ix2 i k := ⟨j 0, j 1, by funext a; fin_cases a <;> rfl⟩
  pointwise [val_main_v73, val_main_v72]
  rw [rows_1]
  exact pair_of_rows 1 z c s i k _ _ (by simp only; omega)

theorem pairs_2 (z : FVec Ideal S8704x4224 .f32) (c s : FVec Ideal S2052x64 .f32) (c' s' : FVec Ideal S2052x32 .f32) :
    val_main_v75 (F := Ideal) z c s c' s' = pair 2 z c s := by
  funext j
  obtain ⟨i, k, rfl⟩ : ∃ (i : Fin 8704) (k : Fin 256), j = ix2 i k := ⟨j 0, j 1, by funext a; fin_cases a <;> rfl⟩
  pointwise [val_main_v75, val_main_v74]
  rw [rows_2]
  exact pair_of_rows 2 z c s i k _ _ (by simp only; omega)

theorem gate_rows (z : FVec Ideal S8704x4224 .f32) : val_main_v82 (F := Ideal) z = gates z := by
  funext j
  obtain ⟨i, k, rfl⟩ : ∃ (i : Fin 8704) (k : Fin 128), j = ix2 i k := ⟨j 0, j 1, by funext a; fin_cases a <;> rfl⟩
  pointwise [val_main_v82, val_main_v81, val_main_v80, val_main_v79, val_main_v78, val_main_v77, val_main_v76, val_main_cst_3, val_main_cst_4]
  rfl

theorem latents_again (z : FVec Ideal S8704x4224 .f32) (c' s' : FVec Ideal S2052x64 .f32) (c s : FVec Ideal S2052x32 .f32) (g : FVec Ideal S320 .f32) :
    val_main_v118 (F := Ideal) z c' s' c s g = latent z c s g :=
  (show val_main_v118 (F := Ideal) z c' s' c s g = val_main_v60 (F := Ideal) z c' s' c s g from rfl).trans (latents z c' s' c s g)

/-! ## The second queries -/

theorem query_entry (z : FVec Ideal S8704x4224 .f32) (g : FVec Ideal S896 .f32) (up : FVec Ideal S896x16x192 .f32) (i : Fin 8704) (h : Fin 16) (d : Fin 192) :
    val_main_v97 (F := Ideal) z g up (ix3 i h d) = query z g up i h d := by
  pointwise [val_main_v97, val_main_v96, val_main_v95, val_main_v94, val_main_v93, val_main_v92, val_main_v91, val_main_v90, val_main_v89,
    val_main_v88, val_main_v87, val_main_v86, val_main_v85, val_main_v84, val_main_v83, val_main_cst_5, val_main_cst_6, val_main_cst_7]
  rfl

theorem lifted_entry (z : FVec Ideal S8704x4224 .f32) (g : FVec Ideal S896 .f32) (up : FVec Ideal S896x16x192 .f32) (w : FVec Ideal S320x16x128 .f32)
    (i : Fin 8704) (h : Fin 16) (j : Fin 320) :
    val_main_v100 (F := Ideal) z g up w (ix3 i h j) = ∑ d : Fin 128, query z g up i h ⟨d.val, by omega⟩ * w (ix3 j h d) := by
  pointwise [val_main_v100, val_main_v99, val_main_v98]
  refine Finset.sum_congr rfl fun d _ => ?_
  rw [query_entry]
  exact mul_comm _ _

theorem last_entry (z : FVec Ideal S8704x4224 .f32) (c' s' : FVec Ideal S2052x64 .f32) (c s : FVec Ideal S2052x32 .f32) (g : FVec Ideal S896 .f32) (up : FVec Ideal S896x16x192 .f32)
    (i : Fin 8704) (h : Fin 16) (e : Fin 64) :
    val_main_v112 (F := Ideal) z c' s' c s g up (ix3 i h e) = turned 32 (fun e => query z g up i h ⟨128 + e.val, by omega⟩)
      (fun e => c (ix2 (pos i) e)) (fun e => s (ix2 (pos i) e)) e := by
  pointwise [val_main_v112, val_main_v111, val_main_v110, val_main_v109, val_main_v108, val_main_v107, val_main_v106, val_main_v105, val_main_v104,
    val_main_v103, val_main_v102, val_main_v101]
  unfold turned
  beta_reduce
  split <;> rename_i hl
  · simp only [table_3, table_4, query_entry]
    exact minus (congrArg (query z g up i h) (Fin.ext (by simp only))) (congrArg (query z g up i h) (Fin.ext (by simp only; omega)))
  · simp only [table_3, table_4, query_entry]
    exact plus (congrArg (query z g up i h) (Fin.ext (by simp only; omega))) (congrArg (query z g up i h) (Fin.ext (by simp only)))

theorem second_queries (z : FVec Ideal S8704x4224 .f32) (c' s' : FVec Ideal S2052x64 .f32) (c s : FVec Ideal S2052x32 .f32) (g : FVec Ideal S896 .f32) (up : FVec Ideal S896x16x192 .f32)
    (w : FVec Ideal S320x16x128 .f32) : val_main_v117 (F := Ideal) z c' s' c s g up w = secondQueries z c s g up w := by
  funext j
  obtain ⟨i, k, rfl⟩ : ∃ (i : Fin 8704) (k : Fin 6144), j = ix2 i k := ⟨j 0, j 1, by funext a; fin_cases a <;> rfl⟩
  pointwise [val_main_v117, val_main_v116, val_main_v115, val_main_v114, val_main_v113, val_main_cst_8]
  simp only [lifted_entry, last_entry]
  rfl

end Cert.SplitRef

end
-- ==== Proof.lean ====
/- The proof of the certificate. For each call one module gives the kernel's result as an array of its arguments and another
   the reference's: the prompt's MLA attention (Array, Reference), the input projection (InProj, InRef), the output
   projection (OutProj, OutRef), the per-layer embedding (Ple, PleRef), the closing norm (Final) and the split of the
   projected columns (SplitValue, SplitRef, with the frames in SplitFrame and SplitBits). -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Reference
public import proofs.«01_k».proof.Proof.InRef
public import proofs.«01_k».proof.Proof.OutRef
public import proofs.«01_k».proof.Proof.PleRef
public import proofs.«01_k».proof.Proof.Final
public import proofs.«01_k».proof.Proof.SplitBits
public import proofs.«01_k».proof.Proof.SplitMore
public import proofs.«01_k».proof.Proof.SplitRefMore
public import Idealize.ShloMosaic.Adequacy
public import Idealize.ShloMosaic.Init

@[expose] public section

noncomputable section

namespace Cert.Proof

open Idealize.ShloMosaic Idealize.SL.Sem Cert.Kernel

/-- The reference's frame: it ends, its arguments are kept and every counter ends at zero. -/
theorem reference_frame : Cert.quiescent_ReferenceIdeal (hReferenceIdeal := Cert.ReferenceIdeal.Gen.facts) := fun m ρ _ =>
  (θ_run _ _ _).mono (fun r h => ⟨fun c => (h c).2, sem_eq_zero_of_no_sems (by decide) r.2⟩)
    (Cert.ReferenceIdeal.Value.run m ρ)

/-- The idealized kernel and the reference end with the same array: each is the causal attention of the queries over
    the latent rows, `Cert.Array.out`. -/
theorem same : Cert.algebraic_KernelIdeal_ReferenceIdeal (hKernelIdeal := Cert.KernelIdeal.Gen.facts)
    (hReferenceIdeal := Cert.ReferenceIdeal.Gen.facts) := fun m ρ m' ρ' _ hargs => by
  refine ⟨fun c => Cert.Array.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · refine (θ_run _ _ _).mono (fun r h c => ⟨(h c).1.trans ((Cert.Array.result m c).trans ?_), (h c).2⟩)
      (Cert.KernelIdeal.Value.run_blocks m ρ)
    rw [Cert.KernelIdeal.Gen.V_main_arg0, Cert.KernelIdeal.Gen.V_main_arg1]
  · refine (θ_run _ _ _).mono (fun r h c => ⟨(h c).1.trans ?_, (h c).2⟩) (Cert.ReferenceIdeal.Value.run m' ρ')
    rw [Cert.ReferenceIdeal.Read.val_main_v39_eq, Cert.Reference.result, (hargs c).1, (hargs c).2]

/-- The input projection's reference runs, keeps its arguments, and leaves no semaphore raised. -/
theorem reference2_frame : Cert.quiescent_Reference2Ideal (hReference2Ideal := Cert.Reference2Ideal.Gen.facts) := fun m ρ _ =>
  (θ_run _ _ _).mono (fun r h => ⟨fun c => (h c).2, sem_eq_zero_of_no_sems (by decide) r.2⟩) (Cert.Reference2Ideal.Value.run m ρ)

/-- The input projection and its reference end with the same array. -/
theorem same2 : Cert.algebraic_Kernel2Ideal_Reference2Ideal (hKernel2Ideal := Cert.Kernel2Ideal.Gen.facts)
    (hReference2Ideal := Cert.Reference2Ideal.Gen.facts) := fun m ρ m' ρ' _ hargs => by
  refine ⟨fun c => Cert.InProj.out (m (c.tc.loc Cert.Kernel2Ideal.main_arg0)) (m (c.tc.loc Cert.Kernel2Ideal.main_arg1)) (m (c.tc.loc Cert.Kernel2Ideal.main_arg2)), ?_, ?_⟩
  · exact (θ_run _ _ _).mono (fun r h c => ⟨(h c).1.trans (Cert.InProj.result m c), (h c).2⟩) (Cert.Kernel2Ideal.Value.run_blocks m ρ)
  · refine (θ_run _ _ _).mono (fun r h c => ⟨(h c).1.trans ?_, (h c).2⟩) (Cert.Reference2Ideal.Value.run m' ρ')
    rw [Cert.Reference2Ideal.Read.val_main_v14_eq, Cert.InRef.result, (hargs c).1, (hargs c).2.1, (hargs c).2.2]

/-- The output projection's reference runs, keeps its arguments, and leaves no semaphore raised. -/
theorem reference3_frame : Cert.quiescent_Reference3Ideal (hReference3Ideal := Cert.Reference3Ideal.Gen.facts) := fun m ρ _ =>
  (θ_run _ _ _).mono (fun r h => ⟨fun c => (h c).2, sem_eq_zero_of_no_sems (by decide) r.2⟩) (Cert.Reference3Ideal.Value.run m ρ)

/-- The output projection and its reference end with the same array. -/
theorem same3 : Cert.algebraic_Kernel3Ideal_Reference3Ideal (hKernel3Ideal := Cert.Kernel3Ideal.Gen.facts)
    (hReference3Ideal := Cert.Reference3Ideal.Gen.facts) := fun m ρ m' ρ' _ hargs => by
  refine ⟨fun c => Cert.OutProj.out (m (c.tc.loc Cert.Kernel3Ideal.main_arg0)) (m (c.tc.loc Cert.Kernel3Ideal.main_arg1)) (m (c.tc.loc Cert.Kernel3Ideal.main_arg2)) (m (c.tc.loc Cert.Kernel3Ideal.main_arg3)) (m (c.tc.loc Cert.Kernel3Ideal.main_arg4)), ?_, ?_⟩
  · exact (θ_run _ _ _).mono (fun r h c => ⟨(h c).1.trans (Cert.OutProj.result m c), (h c).2⟩) (Cert.Kernel3Ideal.Value.run_blocks m ρ)
  · refine (θ_run _ _ _).mono (fun r h c => ⟨(h c).1.trans ?_, (h c).2⟩) (Cert.Reference3Ideal.Value.run m' ρ')
    rw [Cert.Reference3Ideal.Read.val_main_v32_eq, Cert.OutRef.result, (hargs c).1, (hargs c).2.1, (hargs c).2.2.1, (hargs c).2.2.2.1, (hargs c).2.2.2.2]

/-- The per-layer embedding's reference runs, keeps its arguments, and leaves no semaphore raised. -/
theorem reference4_frame : Cert.quiescent_Reference4Ideal (hReference4Ideal := Cert.Reference4Ideal.Gen.facts) := fun m ρ _ =>
  (θ_run _ _ _).mono (fun r h => ⟨fun c => (h c).2, sem_eq_zero_of_no_sems (by decide) r.2⟩) (Cert.Reference4Ideal.Value.run m ρ)

/-- The per-layer embedding and its reference end with the same array. -/
theorem same4 : Cert.algebraic_Kernel4Ideal_Reference4Ideal (hKernel4Ideal := Cert.Kernel4Ideal.Gen.facts)
    (hReference4Ideal := Cert.Reference4Ideal.Gen.facts) := fun m ρ m' ρ' _ hargs => by
  refine ⟨fun c => Cert.Ple.out (m (c.tc.loc Cert.Kernel4Ideal.main_arg0)) (m (c.tc.loc Cert.Kernel4Ideal.main_arg1)) (m (c.tc.loc Cert.Kernel4Ideal.main_arg2)) (m (c.tc.loc Cert.Kernel4Ideal.main_arg3)) (m (c.tc.loc Cert.Kernel4Ideal.main_arg4)), ?_, ?_⟩
  · exact (θ_run _ _ _).mono (fun r h c => ⟨(h c).1.trans (Cert.Ple.result m c), (h c).2⟩) (Cert.Kernel4Ideal.Value.run_blocks m ρ)
  · refine (θ_run _ _ _).mono (fun r h c => ⟨(h c).1.trans ?_, (h c).2⟩) (Cert.Reference4Ideal.Value.run m' ρ')
    rw [Cert.Reference4Ideal.Read.val_main_v22_eq, Cert.PleRef.result, (hargs c).1, (hargs c).2.1, (hargs c).2.2.1, (hargs c).2.2.2.1, (hargs c).2.2.2.2]

/-- The split's reference runs, keeps its arguments, and leaves no semaphore raised. -/
theorem reference5_frame : Cert.quiescent_Reference5Ideal (hReference5Ideal := Cert.Reference5Ideal.Gen.facts) := fun m ρ _ =>
  (θ_run _ _ _).mono (fun r h => ⟨fun c => (h c).2.2.2.2.2.2.2.2.2.2, sem_eq_zero_of_no_sems (by decide) r.2⟩) (Cert.Reference5Ideal.Value.run m ρ)

/-- The split and its reference end with the same ten arrays: both kinds of queries, the key-value rows and pairs of the branches,
    the gates, and the latent rows. -/
theorem same5 : Cert.algebraic_Kernel5Ideal_Reference5Ideal (hKernel5Ideal := Cert.Kernel5Ideal.Gen.facts)
    (hReference5Ideal := Cert.Reference5Ideal.Gen.facts) := fun m ρ m' ρ' _ hargs => by
  refine ⟨fun c => Cert.Split.firstQueries (m (c.tc.loc Cert.Kernel5Ideal.main_arg0)) (m (c.tc.loc Cert.Kernel5Ideal.main_arg1)) (m (c.tc.loc Cert.Kernel5Ideal.main_arg2)),
    fun c => Cert.Split.kv 0 (m (c.tc.loc Cert.Kernel5Ideal.main_arg0)) (m (c.tc.loc Cert.Kernel5Ideal.main_arg1)) (m (c.tc.loc Cert.Kernel5Ideal.main_arg2)),
    fun c => Cert.Split.kv 1 (m (c.tc.loc Cert.Kernel5Ideal.main_arg0)) (m (c.tc.loc Cert.Kernel5Ideal.main_arg1)) (m (c.tc.loc Cert.Kernel5Ideal.main_arg2)),
    fun c => Cert.Split.kv 2 (m (c.tc.loc Cert.Kernel5Ideal.main_arg0)) (m (c.tc.loc Cert.Kernel5Ideal.main_arg1)) (m (c.tc.loc Cert.Kernel5Ideal.main_arg2)),
    fun c => Cert.Split.pair 1 (m (c.tc.loc Cert.Kernel5Ideal.main_arg0)) (m (c.tc.loc Cert.Kernel5Ideal.main_arg1)) (m (c.tc.loc Cert.Kernel5Ideal.main_arg2)),
    fun c => Cert.Split.pair 2 (m (c.tc.loc Cert.Kernel5Ideal.main_arg0)) (m (c.tc.loc Cert.Kernel5Ideal.main_arg1)) (m (c.tc.loc Cert.Kernel5Ideal.main_arg2)),
    fun c => Cert.Split.gates (m (c.tc.loc Cert.Kernel5Ideal.main_arg0)),
    fun c => Cert.Split.secondQueries (m (c.tc.loc Cert.Kernel5Ideal.main_arg0)) (m (c.tc.loc Cert.Kernel5Ideal.main_arg3)) (m (c.tc.loc Cert.Kernel5Ideal.main_arg4)) (m (c.tc.loc Cert.Kernel5Ideal.main_arg5)) (m (c.tc.loc Cert.Kernel5Ideal.main_arg7)) (m (c.tc.loc Cert.Kernel5Ideal.main_arg8)),
    fun c => Cert.Split.latent (m (c.tc.loc Cert.Kernel5Ideal.main_arg0)) (m (c.tc.loc Cert.Kernel5Ideal.main_arg3)) (m (c.tc.loc Cert.Kernel5Ideal.main_arg4)) (m (c.tc.loc Cert.Kernel5Ideal.main_arg6)),
    fun c => Cert.Split.latent (m (c.tc.loc Cert.Kernel5Ideal.main_arg0)) (m (c.tc.loc Cert.Kernel5Ideal.main_arg3)) (m (c.tc.loc Cert.Kernel5Ideal.main_arg4)) (m (c.tc.loc Cert.Kernel5Ideal.main_arg6)),
    Cert.Split.run_results m ρ, ?_⟩
  refine (θ_run _ _ _).mono (fun r h c => ⟨(h c).1.trans ?_, (h c).2.1.trans ?_, (h c).2.2.1.trans ?_, (h c).2.2.2.1.trans ?_, (h c).2.2.2.2.1.trans ?_, (h c).2.2.2.2.2.1.trans ?_,
    (h c).2.2.2.2.2.2.1.trans ?_, (h c).2.2.2.2.2.2.2.1.trans ?_, (h c).2.2.2.2.2.2.2.2.1.trans ?_, (h c).2.2.2.2.2.2.2.2.2.1.trans ?_, (h c).2.2.2.2.2.2.2.2.2.2⟩)
    (Cert.Reference5Ideal.Value.run m' ρ')
  · rw [Cert.Reference5Ideal.Read.val_main_v71_eq, Cert.SplitRef.first_queries, (hargs c).1, (hargs c).2.1, (hargs c).2.2.1]
  · rw [Cert.Reference5Ideal.Read.val_main_v62_eq, Cert.SplitRef.rows_0, (hargs c).1, (hargs c).2.1, (hargs c).2.2.1]
  · rw [Cert.Reference5Ideal.Read.val_main_v64_eq, Cert.SplitRef.rows_1, (hargs c).1, (hargs c).2.1, (hargs c).2.2.1]
  · rw [Cert.Reference5Ideal.Read.val_main_v66_eq, Cert.SplitRef.rows_2, (hargs c).1, (hargs c).2.1, (hargs c).2.2.1]
  · rw [Cert.Reference5Ideal.Read.val_main_v73_eq, Cert.SplitRef.pairs_1, (hargs c).1, (hargs c).2.1, (hargs c).2.2.1]
  · rw [Cert.Reference5Ideal.Read.val_main_v75_eq, Cert.SplitRef.pairs_2, (hargs c).1, (hargs c).2.1, (hargs c).2.2.1]
  · rw [Cert.Reference5Ideal.Read.val_main_v82_eq, Cert.SplitRef.gate_rows, (hargs c).1]
  · rw [Cert.Reference5Ideal.Read.val_main_v117_eq, Cert.SplitRef.second_queries, (hargs c).1, (hargs c).2.2.2.1, (hargs c).2.2.2.2.1, (hargs c).2.2.2.2.2.1, (hargs c).2.2.2.2.2.2.2.1, (hargs c).2.2.2.2.2.2.2.2]
  · rw [Cert.Reference5Ideal.Read.val_main_v60_eq, Cert.SplitRef.latents, (hargs c).1, (hargs c).2.2.2.1, (hargs c).2.2.2.2.1, (hargs c).2.2.2.2.2.2.1]
  · rw [Cert.Reference5Ideal.Read.val_main_v118_eq, Cert.SplitRef.latents_again, (hargs c).1, (hargs c).2.2.2.1, (hargs c).2.2.2.2.1, (hargs c).2.2.2.2.2.2.1]

/-- The closing norm's reference runs, keeps its arguments, and leaves no semaphore raised. -/
theorem reference6_frame : Cert.quiescent_Reference6Ideal (hReference6Ideal := Cert.Reference6Ideal.Gen.facts) := fun m ρ _ =>
  (θ_run _ _ _).mono (fun r h => ⟨fun c => (h c).2, sem_eq_zero_of_no_sems (by decide) r.2⟩) (Cert.Reference6Ideal.Value.run m ρ)

/-- The closing norm and its reference end with the same array. -/
theorem same6 : Cert.algebraic_Kernel6Ideal_Reference6Ideal (hKernel6Ideal := Cert.Kernel6Ideal.Gen.facts)
    (hReference6Ideal := Cert.Reference6Ideal.Gen.facts) := fun m ρ m' ρ' _ hargs => by
  refine ⟨fun c => Cert.Final.out (m (c.tc.loc Cert.Kernel6Ideal.main_arg0)) (m (c.tc.loc Cert.Kernel6Ideal.main_arg1)), ?_, ?_⟩
  · exact (θ_run _ _ _).mono (fun r h c => ⟨(h c).1.trans (Cert.Final.result m c), (h c).2⟩) (Cert.Kernel6Ideal.Value.run_blocks m ρ)
  · refine (θ_run _ _ _).mono (fun r h c => ⟨(h c).1.trans ?_, (h c).2⟩) (Cert.Reference6Ideal.Value.run m' ρ')
    rw [Cert.Reference6Ideal.Read.val_main_v12_eq, Cert.FinalRef.result, (hargs c).1, (hargs c).2]

/-- The certificate: three frames for each call, the named mask, and the equality of each call with its reference. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  fun m ρ _ => Cert.Kernel.Gen.frame m ρ, fun m ρ _ => Cert.KernelIdeal.Gen.frame m ρ, reference_frame,
  fun m ρ _ => Cert.Kernel2.Gen.frame m ρ, fun m ρ _ => Cert.Kernel2Ideal.Gen.frame m ρ, reference2_frame,
  fun m ρ _ => Cert.Kernel3.Gen.frame m ρ, fun m ρ _ => Cert.Kernel3Ideal.Gen.frame m ρ, reference3_frame,
  fun m ρ _ => Cert.Kernel4.Gen.frame m ρ, fun m ρ _ => Cert.Kernel4Ideal.Gen.frame m ρ, reference4_frame,
  Cert.SplitBits.frame, fun m ρ _ => Cert.SplitFrame.frame m ρ, reference5_frame,
  fun m ρ _ => Cert.Kernel6.Gen.frame m ρ, fun m ρ _ => Cert.Kernel6Ideal.Gen.frame m ρ, reference6_frame,
  IdealRules.named_const.statement Cert.KernelIdeal.κ "mask" .f32 0xF149F2CA#32 ⊥ rfl, same, trivial, same2, trivial, same3,
  trivial, same4, trivial, same5, trivial, same6⟩

end Cert.Proof

end
